-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
    ∧ preserves_Kernel2_Kernel2Ideal
    ∧ algebraic_Kernel2Ideal_Reference2Ideal (hKernel2Ideal := hKernel2Ideal) (hReference2Ideal := hReference2Ideal)
-- ==== Pre_in_range.lean ====
abbrev S128 : Shape := ⟨1, ![128]⟩
abbrev S4x8192x512 : Shape := ⟨3, ![4, 8192, 512]⟩
abbrev S4x8192x8 : Shape := ⟨3, ![4, 8192, 8]⟩
abbrev S16 : Shape := ⟨1, ![16]⟩
abbrev S8x16 : Shape := ⟨2, ![8, 16]⟩
abbrev S_ : Shape := ⟨0, ![]⟩
abbrev S1x16 : Shape := ⟨2, ![1, 16]⟩

class Facts : Prop where
  shapeCasts_S128_S8x16 : S128.ShapeCasts S8x16
  bcast_S_S8x16 : S_.BroadcastsInDim S8x16 (![] : Fin 0 → Fin S8x16.rank)
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  reducesTo_S8x16_S_d0_1 : S8x16.ReducesTo [0, 1] S_
  h_S_ : 0 < S_.numel

variable [Facts]

def fn {F : FTy → Type} [FloatOps F] (main_arg0 : IVec S128 32) (main_arg1 : FVec F S4x8192x512 .f32) (main_arg2 : FVec F S4x8192x512 .f32) (main_arg3 : FVec F S4x8192x512 .f32) (main_arg4 : FVec F S4x8192x8 .f32) : IVec S_ 1 :=
  let main_v0 : IVec S16 32 := iotaInDim S16 32 0
  let main_v1 : IVec S8x16 32 := shapeCast S8x16 main_arg0 shapeCasts_S128_S8x16
  let main_c : IVec S_ 32 := constantI S_ 32 0#32
  let main_v2 : IVec S8x16 32 := broadcastInDim S8x16 ![] bcast_S_S8x16 main_c
  let main_v3 : IVec S8x16 1 := cmpi .sge main_v1 main_v2
  let main_v4 : IVec S1x16 32 := broadcastInDim S1x16 ![1] bcast_S16_S1x16_1 main_v0
  let main_v5 : IVec S8x16 32 := broadcastInDim S8x16 ![0, 1] bcast_S1x16_S8x16_0_1 main_v4
  let main_v6 : IVec S8x16 1 := cmpi .sle main_v1 main_v5
  let main_v7 : IVec S8x16 1 := andi main_v3 main_v6
  let main_c_0 : IVec S_ 1 := constantI S_ 1 1#1
  let main_v8 : IVec S_ 1 := (fun x v => Host.reduce IntOp.andi x v reducesTo_S8x16_S_d0_1 h_S_) main_v7 main_c_0
  main_v8
-- ==== Pre_in_range_finite.lean ====
abbrev S128 : Shape := ⟨1, ![128]⟩
abbrev S4x8192x512 : Shape := ⟨3, ![4, 8192, 512]⟩
abbrev S4x8192x8 : Shape := ⟨3, ![4, 8192, 8]⟩
abbrev S16 : Shape := ⟨1, ![16]⟩
abbrev S8x16 : Shape := ⟨2, ![8, 16]⟩
abbrev S_ : Shape := ⟨0, ![]⟩
abbrev S1x16 : Shape := ⟨2, ![1, 16]⟩

class Facts : Prop where
  shapeCasts_S128_S8x16 : S128.ShapeCasts S8x16
  bcast_S_S8x16 : S_.BroadcastsInDim S8x16 (![] : Fin 0 → Fin S8x16.rank)
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  reducesTo_S8x16_S_d0_1 : S8x16.ReducesTo [0, 1] S_
  h_S_ : 0 < S_.numel
  bcast_S_S4x8192x512 : S_.BroadcastsInDim S4x8192x512 (![] : Fin 0 → Fin S4x8192x512.rank)
  reducesTo_S4x8192x512_S_d0_1_2 : S4x8192x512.ReducesTo [0, 1, 2] S_
  bcast_S_S4x8192x8 : S_.BroadcastsInDim S4x8192x8 (![] : Fin 0 → Fin S4x8192x8.rank)
  reducesTo_S4x8192x8_S_d0_1_2 : S4x8192x8.ReducesTo [0, 1, 2] S_

variable [Facts]

def fn_part1 {F : FTy → Type} [FloatOps F] (main_arg2 : FVec F S4x8192x512 .f32) (main_arg4 : FVec F S4x8192x8 .f32) (main_v15 : IVec S_ 1) (main_v17 : IVec S4x8192x512 1) : IVec S_ 1 :=
  let main_cst_4 : FVec F S_ .f32 := constant S_ .f32 0x7F800000#32
  let main_v18 : FVec F S4x8192x512 .f32 := broadcastInDim S4x8192x512 ![] bcast_S_S4x8192x512 main_cst_4
  let main_v19 : IVec S4x8192x512 1 := cmpf .olt main_arg2 main_v18
  let main_v20 : IVec S4x8192x512 1 := andi main_v17 main_v19
  let main_c_5 : IVec S_ 1 := constantI S_ 1 1#1
  let main_v21 : IVec S_ 1 := (fun x v => Host.reduce IntOp.andi x v reducesTo_S4x8192x512_S_d0_1_2 h_S_) main_v20 main_c_5
  let main_v22 : IVec S_ 1 := andi main_v15 main_v21
  let main_cst_6 : FVec F S_ .f32 := constant S_ .f32 0xFF800000#32
  let main_v23 : FVec F S4x8192x8 .f32 := broadcastInDim S4x8192x8 ![] bcast_S_S4x8192x8 main_cst_6
  let main_v24 : IVec S4x8192x8 1 := cmpf .ogt main_arg4 main_v23
  let main_cst_7 : FVec F S_ .f32 := constant S_ .f32 0x7F800000#32
  let main_v25 : FVec F S4x8192x8 .f32 := broadcastInDim S4x8192x8 ![] bcast_S_S4x8192x8 main_cst_7
  let main_v26 : IVec S4x8192x8 1 := cmpf .olt main_arg4 main_v25
  let main_v27 : IVec S4x8192x8 1 := andi main_v24 main_v26
  let main_c_8 : IVec S_ 1 := constantI S_ 1 1#1
  let main_v28 : IVec S_ 1 := (fun x v => Host.reduce IntOp.andi x v reducesTo_S4x8192x8_S_d0_1_2 h_S_) main_v27 main_c_8
  let main_v29 : IVec S_ 1 := andi main_v22 main_v28
  main_v29

def fn {F : FTy → Type} [FloatOps F] (main_arg0 : IVec S128 32) (main_arg1 : FVec F S4x8192x512 .f32) (main_arg2 : FVec F S4x8192x512 .f32) (main_arg3 : FVec F S4x8192x512 .f32) (main_arg4 : FVec F S4x8192x8 .f32) : IVec S_ 1 :=
  let main_v0 : IVec S16 32 := iotaInDim S16 32 0
  let main_v1 : IVec S8x16 32 := shapeCast S8x16 main_arg0 shapeCasts_S128_S8x16
  let main_c : IVec S_ 32 := constantI S_ 32 0#32
  let main_v2 : IVec S8x16 32 := broadcastInDim S8x16 ![] bcast_S_S8x16 main_c
  let main_v3 : IVec S8x16 1 := cmpi .sge main_v1 main_v2
  let main_v4 : IVec S1x16 32 := broadcastInDim S1x16 ![1] bcast_S16_S1x16_1 main_v0
  let main_v5 : IVec S8x16 32 := broadcastInDim S8x16 ![0, 1] bcast_S1x16_S8x16_0_1 main_v4
  let main_v6 : IVec S8x16 1 := cmpi .sle main_v1 main_v5
  let main_v7 : IVec S8x16 1 := andi main_v3 main_v6
  let main_c_0 : IVec S_ 1 := constantI S_ 1 1#1
  let main_v8 : IVec S_ 1 := (fun x v => Host.reduce IntOp.andi x v reducesTo_S8x16_S_d0_1 h_S_) main_v7 main_c_0
  let main_cst : FVec F S_ .f32 := constant S_ .f32 0xFF800000#32
  let main_v9 : FVec F S4x8192x512 .f32 := broadcastInDim S4x8192x512 ![] bcast_S_S4x8192x512 main_cst
  let main_v10 : IVec S4x8192x512 1 := cmpf .ogt main_arg1 main_v9
  let main_cst_1 : FVec F S_ .f32 := constant S_ .f32 0x7F800000#32
  let main_v11 : FVec F S4x8192x512 .f32 := broadcastInDim S4x8192x512 ![] bcast_S_S4x8192x512 main_cst_1
  let main_v12 : IVec S4x8192x512 1 := cmpf .olt main_arg1 main_v11
  let main_v13 : IVec S4x8192x512 1 := andi main_v10 main_v12
  let main_c_2 : IVec S_ 1 := constantI S_ 1 1#1
  let main_v14 : IVec S_ 1 := (fun x v => Host.reduce IntOp.andi x v reducesTo_S4x8192x512_S_d0_1_2 h_S_) main_v13 main_c_2
  let main_v15 : IVec S_ 1 := andi main_v8 main_v14
  let main_cst_3 : FVec F S_ .f32 := constant S_ .f32 0xFF800000#32
  let main_v16 : FVec F S4x8192x512 .f32 := broadcastInDim S4x8192x512 ![] bcast_S_S4x8192x512 main_cst_3
  let main_v17 : IVec S4x8192x512 1 := cmpf .ogt main_arg2 main_v16
  fn_part1 (F := F) main_arg2 main_arg4 main_v15 main_v17
-- ==== Kernel.lean ====
abbrev S128 : Shape := ⟨1, ![128]⟩
abbrev S4x8192x512 : Shape := ⟨3, ![4, 8192, 512]⟩
abbrev S4x8192x8 : Shape := ⟨3, ![4, 8192, 8]⟩
abbrev S_ : Shape := ⟨0, ![]⟩
abbrev S32768x512 : Shape := ⟨2, ![32768, 512]⟩
abbrev S4x512x8192 : Shape := ⟨3, ![4, 512, 8192]⟩
abbrev S32768x8 : Shape := ⟨2, ![32768, 8]⟩
abbrev S32768x8x1 : Shape := ⟨3, ![32768, 8, 1]⟩
abbrev S32768x8x8 : Shape := ⟨3, ![32768, 8, 8]⟩
abbrev S32768x64 : Shape := ⟨2, ![32768, 64]⟩
abbrev S32768x128 : Shape := ⟨2, ![32768, 128]⟩
abbrev S32768x256 : Shape := ⟨2, ![32768, 256]⟩
abbrev S512x256 : Shape := ⟨2, ![512, 256]⟩
abbrev S512x128 : Shape := ⟨2, ![512, 128]⟩
abbrev S8192x256 : Shape := ⟨2, ![8192, 256]⟩
abbrev S8192x128 : Shape := ⟨2, ![8192, 128]⟩
abbrev S1x256x8192 : Shape := ⟨3, ![1, 256, 8192]⟩
abbrev S256x512 : Shape := ⟨2, ![256, 512]⟩
abbrev S512x512 : Shape := ⟨2, ![512, 512]⟩
abbrev S1x512 : Shape := ⟨2, ![1, 512]⟩
abbrev S80x512 : Shape := ⟨2, ![80, 512]⟩
abbrev S1 : Shape := ⟨1, ![1]⟩
abbrev S256x1 : Shape := ⟨2, ![256, 1]⟩
abbrev S512 : Shape := ⟨1, ![512]⟩
abbrev S1x64x512 : Shape := ⟨3, ![1, 64, 512]⟩
abbrev S64x512 : Shape := ⟨2, ![64, 512]⟩
abbrev S16x512 : Shape := ⟨2, ![16, 512]⟩
abbrev S128x512 : Shape := ⟨2, ![128, 512]⟩

abbrev nBuf : Space → Nat
  | .hbm => 63
  | .vmem => 40
  | .smem => 1
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8192x512, .f32⟩
  | .hbm, ⟨11, _⟩ => ⟨S4x8192x512, .f32⟩
  | .hbm, ⟨12, _⟩ => ⟨S4x8192x512, .bf16⟩
  | .hbm, ⟨13, _⟩ => ⟨S32768x512, .bf16⟩
  | .hbm, ⟨14, _⟩ => ⟨S4x8192x512, .bf16⟩
  | .hbm, ⟨15, _⟩ => ⟨S32768x512, .bf16⟩
  | .hbm, ⟨16, _⟩ => ⟨S4x8192x512, .bf16⟩
  | .hbm, ⟨17, _⟩ => ⟨S4x512x8192, .bf16⟩
  | .hbm, ⟨18, _⟩ => ⟨S4x8192x8, .f32⟩
  | .hbm, ⟨19, _⟩ => ⟨S4x8192x8, .f32⟩
  | .hbm, ⟨20, _⟩ => ⟨S32768x8, .f32⟩
  | .hbm, ⟨21, _⟩ => ⟨S32768x8, .bf16⟩
  | .hbm, ⟨22, _⟩ => ⟨S32768x8, .f32⟩
  | .hbm, ⟨23, _⟩ => ⟨S32768x8, .f32⟩
  | .hbm, ⟨24, _⟩ => ⟨S32768x8, .bf16⟩
  | .hbm, ⟨25, _⟩ => ⟨S32768x8, .f32⟩
  | .hbm, ⟨26, _⟩ => ⟨S32768x8, .f32⟩
  | .hbm, ⟨27, _⟩ => ⟨S32768x8, .bf16⟩
  | .hbm, ⟨28, _⟩ => ⟨S_, .bf16⟩
  | .hbm, ⟨29, _⟩ => ⟨S32768x8, .bf16⟩
  | .hbm, ⟨30, _⟩ => ⟨S_, .bf16⟩
  | .hbm, ⟨31, _⟩ => ⟨S32768x8, .bf16⟩
  | .hbm, ⟨32, _⟩ => ⟨S32768x8x1, .bf16⟩
  | .hbm, ⟨33, _⟩ => ⟨S32768x8x1, .bf16⟩
  | .hbm, ⟨34, _⟩ => ⟨S32768x8x1, .bf16⟩
  | .hbm, ⟨35, _⟩ => ⟨S32768x8x1, .bf16⟩
  | .hbm, ⟨36, _⟩ => ⟨S32768x8x1, .bf16⟩
  | .hbm, ⟨37, _⟩ => ⟨S32768x8x1, .bf16⟩
  | .hbm, ⟨38, _⟩ => ⟨S32768x8x1, .bf16⟩
  | .hbm, ⟨39, _⟩ => ⟨S32768x8x1, .bf16⟩
  | .hbm, ⟨40, _⟩ => ⟨S32768x8x8, .bf16⟩
  | .hbm, ⟨41, _⟩ => ⟨S32768x64, .bf16⟩
  | .hbm, ⟨42, _⟩ => ⟨S_, .i32⟩
  | .hbm, ⟨43, _⟩ => ⟨S_, .bf16⟩
  | .hbm, ⟨44, _⟩ => ⟨S32768x128, .bf16⟩
  | .hbm, ⟨45, _⟩ => ⟨S32768x8, .bf16⟩
  | .hbm, ⟨46, _⟩ => ⟨S32768x8, .bf16⟩
  | .hbm, ⟨47, _⟩ => ⟨S32768x8, .bf16⟩
  | .hbm, ⟨48, _⟩ => ⟨S32768x8x1, .bf16⟩
  | .hbm, ⟨49, _⟩ => ⟨S32768x8x1, .bf16⟩
  | .hbm, ⟨50, _⟩ => ⟨S32768x8x1, .bf16⟩
  | .hbm, ⟨51, _⟩ => ⟨S32768x8x1, .bf16⟩
  | .hbm, ⟨52, _⟩ => ⟨S32768x8x1, .bf16⟩
  | .hbm, ⟨53, _⟩ => ⟨S32768x8x1, .bf16⟩
  | .hbm, ⟨54, _⟩ => ⟨S32768x8x1, .bf16⟩
  | .hbm, ⟨55, _⟩ => ⟨S32768x8x1, .bf16⟩
  | .hbm, ⟨56, _⟩ => ⟨S32768x8x8, .bf16⟩
  | .hbm, ⟨57, _⟩ => ⟨S32768x64, .bf16⟩
  | .hbm, ⟨58, _⟩ => ⟨S_, .i32⟩
  | .hbm, ⟨59, _⟩ => ⟨S_, .bf16⟩
  | .hbm, ⟨60, _⟩ => ⟨S32768x128, .bf16⟩
  | .hbm, ⟨61, _⟩ => ⟨S32768x256, .bf16⟩
  | .hbm, ⟨62, _⟩ => ⟨S32768x512, .bf16⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S8192x256, .bf16⟩
  | .local _ .vmem, ⟨5, _⟩ => ⟨S8192x256, .bf16⟩
  | .local _ .vmem, ⟨6, _⟩ => ⟨S8192x128, .bf16⟩
  | .local _ .vmem, ⟨7, _⟩ => ⟨S8192x128, .bf16⟩
  | .local _ .vmem, ⟨8, _⟩ => ⟨S1x256x8192, .bf16⟩
  | .local _ .vmem, ⟨9, _⟩ => ⟨S1x256x8192, .bf16⟩
  | .local _ .vmem, ⟨10, _⟩ => ⟨S512x256, .bf16⟩
  | .local _ .vmem, ⟨11, _⟩ => ⟨S512x256, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S80x512, .f32⟩
  | .local _ .vmem, ⟨37, _⟩ => ⟨S80x512, .f32⟩
  | .local _ .vmem, ⟨38, _⟩ => ⟨S80x512, .f32⟩
  | .local _ .vmem, ⟨39, _⟩ => ⟨S80x512, .f32⟩
  | .local _ .smem, ⟨0, _⟩ => ⟨S128, .i32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_call0_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_4 : Ref sig .tc := ⟨.hbm, 58, rfl⟩
abbrev main_call1_v0 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_scratch11 : Ref sig .tc := ⟨.vmem, 23, rfl⟩
abbrev cc0_scratch12 : Ref sig .tc := ⟨.vmem, 24, rfl⟩
abbrev cc0_scratch13 : Ref sig .tc := ⟨.vmem, 25, rfl⟩
abbrev cc0_scratch14 : Ref sig .tc := ⟨.vmem, 26, rfl⟩
abbrev cc0_scratch15 : Ref sig .tc := ⟨.vmem, 27, rfl⟩
abbrev cc0_scratch16 : Ref sig .tc := ⟨.vmem, 28, rfl⟩
abbrev cc0_scratch17 : Ref sig .tc := ⟨.vmem, 29, rfl⟩
abbrev cc0_scratch18 : Ref sig .tc := ⟨.vmem, 30, rfl⟩
abbrev cc0_scratch19 : Ref sig .tc := ⟨.vmem, 31, rfl⟩
abbrev cc0_scratch20 : Ref sig .tc := ⟨.vmem, 32, rfl⟩
abbrev cc0_scratch21 : Ref sig .tc := ⟨.vmem, 33, rfl⟩
abbrev cc0_scratch22 : Ref sig .tc := ⟨.vmem, 34, rfl⟩
abbrev cc0_scratch23 : Ref sig .tc := ⟨.vmem, 35, rfl⟩
abbrev cc0_scratch24 : Ref sig .tc := ⟨.vmem, 36, rfl⟩
abbrev cc0_scratch25 : Ref sig .tc := ⟨.vmem, 37, rfl⟩
abbrev cc0_scratch26 : Ref sig .tc := ⟨.vmem, 38, rfl⟩
abbrev cc0_scratch27 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 16], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let v4 : Index := Scalar.indexCast v3
  ![v4.toNat]
def k0_mult1 (v5 : BitVec 32) : BitVec 32 :=
  let c512_i32 : BitVec 32 := 512#32
  let v125 : BitVec 32 := Scalar.muli v5 c512_i32
  v125

def k0_off2 (v5 : BitVec 32) : Fin 2 → Nat :=
  let c512_i32 : BitVec 32 := 512#32
  let v125 : BitVec 32 := Scalar.muli v5 c512_i32
  let v126 : BitVec 32 := v125
  let v127 : Index := Scalar.indexCast v126
  let c0_44 : Index := 0#32
  ![v127.toNat, 0]
def k0_off3 (v5 : BitVec 32) : Fin 2 → Nat :=
  let c512_i32 : BitVec 32 := 512#32
  let v125 : BitVec 32 := Scalar.muli v5 c512_i32
  let v126 : BitVec 32 := v125
  let v130 : Index := Scalar.indexCast v126
  let c0_45 : Index := 0#32
  ![v130.toNat, 0]
def k0_mult2 (v5 : BitVec 32) : BitVec 32 :=
  let c512_i32_54 : BitVec 32 := 512#32
  let v144 : BitVec 32 := Scalar.muli v5 c512_i32_54
  v144
def k0_mult3 (v5 : BitVec 32) : BitVec 32 :=
  let c512_i32_65 : BitVec 32 := 512#32
  let v163 : BitVec 32 := Scalar.muli v5 c512_i32_65
  v163
def k0_off4 (v5 : BitVec 32) : Fin 2 → Nat :=
  let c512_i32_65 : BitVec 32 := 512#32
  let v163 : BitVec 32 := Scalar.muli v5 c512_i32_65
  let v164 : BitVec 32 := v163
  let v165 : Index := Scalar.indexCast v164
  let c128_66 : Index := 128#32
  ![v165.toNat, 128]
def k0_mult4 (v5 : BitVec 32) : BitVec 32 :=
  let c512_i32_76 : BitVec 32 := 512#32
  let v182 : BitVec 32 := Scalar.muli v5 c512_i32_76
  v182
@[reducible] def k0_t1_loop (i : grid0.Coords) (v5 : BitVec 32) : Scf.Loop 32 :=
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let c1_i32_125 : BitVec 32 := 1#32
  ⟨v5, v253, c1_i32_125⟩
def k0_mult5 (i : grid0.Coords) (v5 : BitVec 32) (k0_t1 : Fin (k0_t1_loop i v5).trips) : BitVec 32 :=
  let c1_i32_125 : BitVec 32 := 1#32
  let arg38 : BitVec 32 := Scf.iv v5 c1_i32_125 k0_t1
  let c1_i32_290 : BitVec 32 := 1#32
  let v520 : BitVec 32 := Scalar.subi arg38 c1_i32_290
  let v521 : BitVec 32 := Scalar.maxsi v520 v5
  let c512_i32_291 : BitVec 32 := 512#32
  let v522 : BitVec 32 := Scalar.muli v521 c512_i32_291
  v522
def k0_off5 (i : grid0.Coords) (v5 : BitVec 32) (k0_t1 : Fin (k0_t1_loop i v5).trips) : Fin 3 → Nat :=
  let c0_292 : Index := 0#32
  let c0_293 : Index := 0#32
  let c1_i32_125 : BitVec 32 := 1#32
  let arg38 : BitVec 32 := Scf.iv v5 c1_i32_125 k0_t1
  let c1_i32_290 : BitVec 32 := 1#32
  let v520 : BitVec 32 := Scalar.subi arg38 c1_i32_290
  let v521 : BitVec 32 := Scalar.maxsi v520 v5
  let c512_i32_291 : BitVec 32 := 512#32
  let v522 : BitVec 32 := Scalar.muli v521 c512_i32_291
  let v523 : BitVec 32 := v522
  let v524 : Index := Scalar.indexCast v523
  ![0, 0, v524.toNat]
def k0_mult6 (i : grid0.Coords) (v5 : BitVec 32) (k0_t1 : Fin (k0_t1_loop i v5).trips) : BitVec 32 :=
  let c1_i32_125 : BitVec 32 := 1#32
  let arg38 : BitVec 32 := Scf.iv v5 c1_i32_125 k0_t1
  let c1_i32_316 : BitVec 32 := 1#32
  let v558 : BitVec 32 := Scalar.addi arg38 c1_i32_316
  let c512_i32_317 : BitVec 32 := 512#32
  let v559 : BitVec 32 := Scalar.muli v558 c512_i32_317
  v559
def k0_off6 (i : grid0.Coords) (v5 : BitVec 32) (k0_t1 : Fin (k0_t1_loop i v5).trips) : Fin 2 → Nat :=
  let c1_i32_125 : BitVec 32 := 1#32
  let arg38 : BitVec 32 := Scf.iv v5 c1_i32_125 k0_t1
  let c1_i32_316 : BitVec 32 := 1#32
  let v558 : BitVec 32 := Scalar.addi arg38 c1_i32_316
  let c512_i32_317 : BitVec 32 := 512#32
  let v559 : BitVec 32 := Scalar.muli v558 c512_i32_317
  let v560 : BitVec 32 := v559
  let v561 : Index := Scalar.indexCast v560
  let c0_318 : Index := 0#32
  ![v561.toNat, 0]
def k0_off7 (i : grid0.Coords) (v5 : BitVec 32) (k0_t1 : Fin (k0_t1_loop i v5).trips) : Fin 2 → Nat :=
  let c1_i32_125 : BitVec 32 := 1#32
  let arg38 : BitVec 32 := Scf.iv v5 c1_i32_125 k0_t1
  let c1_i32_316 : BitVec 32 := 1#32
  let v558 : BitVec 32 := Scalar.addi arg38 c1_i32_316
  let c512_i32_317 : BitVec 32 := 512#32
  let v559 : BitVec 32 := Scalar.muli v558 c512_i32_317
  let v560 : BitVec 32 := v559
  let v564 : Index := Scalar.indexCast v560
  let c0_319 : Index := 0#32
  ![v564.toNat, 0]
def k0_mult7 (i : grid0.Coords) (v5 : BitVec 32) (k0_t1 : Fin (k0_t1_loop i v5).trips) : BitVec 32 :=
  let c1_i32_125 : BitVec 32 := 1#32
  let arg38 : BitVec 32 := Scf.iv v5 c1_i32_125 k0_t1
  let c1_i32_290 : BitVec 32 := 1#32
  let v520 : BitVec 32 := Scalar.subi arg38 c1_i32_290
  let v521 : BitVec 32 := Scalar.maxsi v520 v5
  let c512_i32_328 : BitVec 32 := 512#32
  let v578 : BitVec 32 := Scalar.muli v521 c512_i32_328
  v578
def k0_off8 (i : grid0.Coords) (v5 : BitVec 32) (k0_t1 : Fin (k0_t1_loop i v5).trips) : Fin 3 → Nat :=
  let c0_329 : Index := 0#32
  let c64_330 : Index := 64#32
  let c1_i32_125 : BitVec 32 := 1#32
  let arg38 : BitVec 32 := Scf.iv v5 c1_i32_125 k0_t1
  let c1_i32_290 : BitVec 32 := 1#32
  let v520 : BitVec 32 := Scalar.subi arg38 c1_i32_290
  let v521 : BitVec 32 := Scalar.maxsi v520 v5
  let c512_i32_328 : BitVec 32 := 512#32
  let v578 : BitVec 32 := Scalar.muli v521 c512_i32_328
  let v579 : BitVec 32 := v578
  let v580 : Index := Scalar.indexCast v579
  ![0, 64, v580.toNat]
def k0_mult8 (i : grid0.Coords) (v5 : BitVec 32) (k0_t1 : Fin (k0_t1_loop i v5).trips) : BitVec 32 :=
  let c1_i32_125 : BitVec 32 := 1#32
  let arg38 : BitVec 32 := Scf.iv v5 c1_i32_125 k0_t1
  let c1_i32_353 : BitVec 32 := 1#32
  let v614 : BitVec 32 := Scalar.addi arg38 c1_i32_353
  let c512_i32_354 : BitVec 32 := 512#32
  let v615 : BitVec 32 := Scalar.muli v614 c512_i32_354
  v615
def k0_mult9 (i : grid0.Coords) (v5 : BitVec 32) (k0_t1 : Fin (k0_t1_loop i v5).trips) : BitVec 32 :=
  let c1_i32_125 : BitVec 32 := 1#32
  let arg38 : BitVec 32 := Scf.iv v5 c1_i32_125 k0_t1
  let c1_i32_290 : BitVec 32 := 1#32
  let v520 : BitVec 32 := Scalar.subi arg38 c1_i32_290
  let v521 : BitVec 32 := Scalar.maxsi v520 v5
  let c512_i32_365 : BitVec 32 := 512#32
  let v634 : BitVec 32 := Scalar.muli v521 c512_i32_365
  v634
def k0_off9 (i : grid0.Coords) (v5 : BitVec 32) (k0_t1 : Fin (k0_t1_loop i v5).trips) : Fin 3 → Nat :=
  let c0_366 : Index := 0#32
  let c128_367 : Index := 128#32
  let c1_i32_125 : BitVec 32 := 1#32
  let arg38 : BitVec 32 := Scf.iv v5 c1_i32_125 k0_t1
  let c1_i32_290 : BitVec 32 := 1#32
  let v520 : BitVec 32 := Scalar.subi arg38 c1_i32_290
  let v521 : BitVec 32 := Scalar.maxsi v520 v5
  let c512_i32_365 : BitVec 32 := 512#32
  let v634 : BitVec 32 := Scalar.muli v521 c512_i32_365
  let v635 : BitVec 32 := v634
  let v636 : Index := Scalar.indexCast v635
  ![0, 128, v636.toNat]
def k0_mult10 (i : grid0.Coords) (v5 : BitVec 32) (k0_t1 : Fin (k0_t1_loop i v5).trips) : BitVec 32 :=
  let c1_i32_125 : BitVec 32 := 1#32
  let arg38 : BitVec 32 := Scf.iv v5 c1_i32_125 k0_t1
  let c1_i32_390 : BitVec 32 := 1#32
  let v670 : BitVec 32 := Scalar.addi arg38 c1_i32_390
  let c512_i32_391 : BitVec 32 := 512#32
  let v671 : BitVec 32 := Scalar.muli v670 c512_i32_391
  v671
def k0_off10 (i : grid0.Coords) (v5 : BitVec 32) (k0_t1 : Fin (k0_t1_loop i v5).trips) : Fin 2 → Nat :=
  let c1_i32_125 : BitVec 32 := 1#32
  let arg38 : BitVec 32 := Scf.iv v5 c1_i32_125 k0_t1
  let c1_i32_390 : BitVec 32 := 1#32
  let v670 : BitVec 32 := Scalar.addi arg38 c1_i32_390
  let c512_i32_391 : BitVec 32 := 512#32
  let v671 : BitVec 32 := Scalar.muli v670 c512_i32_391
  let v672 : BitVec 32 := v671
  let v673 : Index := Scalar.indexCast v672
  let c128_392 : Index := 128#32
  ![v673.toNat, 128]
def k0_mult11 (i : grid0.Coords) (v5 : BitVec 32) (k0_t1 : Fin (k0_t1_loop i v5).trips) : BitVec 32 :=
  let c1_i32_125 : BitVec 32 := 1#32
  let arg38 : BitVec 32 := Scf.iv v5 c1_i32_125 k0_t1
  let c1_i32_290 : BitVec 32 := 1#32
  let v520 : BitVec 32 := Scalar.subi arg38 c1_i32_290
  let v521 : BitVec 32 := Scalar.maxsi v520 v5
  let c512_i32_402 : BitVec 32 := 512#32
  let v690 : BitVec 32 := Scalar.muli v521 c512_i32_402
  v690
def k0_off11 (i : grid0.Coords) (v5 : BitVec 32) (k0_t1 : Fin (k0_t1_loop i v5).trips) : Fin 3 → Nat :=
  let c0_403 : Index := 0#32
  let c192_404 : Index := 192#32
  let c1_i32_125 : BitVec 32 := 1#32
  let arg38 : BitVec 32 := Scf.iv v5 c1_i32_125 k0_t1
  let c1_i32_290 : BitVec 32 := 1#32
  let v520 : BitVec 32 := Scalar.subi arg38 c1_i32_290
  let v521 : BitVec 32 := Scalar.maxsi v520 v5
  let c512_i32_402 : BitVec 32 := 512#32
  let v690 : BitVec 32 := Scalar.muli v521 c512_i32_402
  let v691 : BitVec 32 := v690
  let v692 : Index := Scalar.indexCast v691
  ![0, 192, v692.toNat]
def k0_mult12 (i : grid0.Coords) (v5 : BitVec 32) (k0_t1 : Fin (k0_t1_loop i v5).trips) : BitVec 32 :=
  let c1_i32_125 : BitVec 32 := 1#32
  let arg38 : BitVec 32 := Scf.iv v5 c1_i32_125 k0_t1
  let c1_i32_427 : BitVec 32 := 1#32
  let v726 : BitVec 32 := Scalar.addi arg38 c1_i32_427
  let c512_i32_428 : BitVec 32 := 512#32
  let v727 : BitVec 32 := Scalar.muli v726 c512_i32_428
  v727
@[reducible] def k0_t2_loop (i : grid0.Coords) (v5 : BitVec 32) : Scf.Loop 32 :=
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let v250 : BitVec 32 := Scalar.addi v5 v249
  let c1_i32_126 : BitVec 32 := 1#32
  ⟨v253, v250, c1_i32_126⟩
def k0_mult13 (i : grid0.Coords) (v5 : BitVec 32) (k0_t2 : Fin (k0_t2_loop i v5).trips) : BitVec 32 :=
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let c1_i32_126 : BitVec 32 := 1#32
  let arg38 : BitVec 32 := Scf.iv v253 c1_i32_126 k0_t2
  let c1_i32_290 : BitVec 32 := 1#32
  let v520 : BitVec 32 := Scalar.subi arg38 c1_i32_290
  let v521 : BitVec 32 := Scalar.maxsi v520 v5
  let c512_i32_291 : BitVec 32 := 512#32
  let v522 : BitVec 32 := Scalar.muli v521 c512_i32_291
  v522
def k0_off12 (i : grid0.Coords) (v5 : BitVec 32) (k0_t2 : Fin (k0_t2_loop i v5).trips) : Fin 3 → Nat :=
  let c0_292 : Index := 0#32
  let c0_293 : Index := 0#32
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let c1_i32_126 : BitVec 32 := 1#32
  let arg38 : BitVec 32 := Scf.iv v253 c1_i32_126 k0_t2
  let c1_i32_290 : BitVec 32 := 1#32
  let v520 : BitVec 32 := Scalar.subi arg38 c1_i32_290
  let v521 : BitVec 32 := Scalar.maxsi v520 v5
  let c512_i32_291 : BitVec 32 := 512#32
  let v522 : BitVec 32 := Scalar.muli v521 c512_i32_291
  let v523 : BitVec 32 := v522
  let v524 : Index := Scalar.indexCast v523
  ![0, 0, v524.toNat]
def k0_mult14 (i : grid0.Coords) (v5 : BitVec 32) (k0_t2 : Fin (k0_t2_loop i v5).trips) : BitVec 32 :=
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let c1_i32_126 : BitVec 32 := 1#32
  let arg38 : BitVec 32 := Scf.iv v253 c1_i32_126 k0_t2
  let c1_i32_316 : BitVec 32 := 1#32
  let v558 : BitVec 32 := Scalar.addi arg38 c1_i32_316
  let c512_i32_317 : BitVec 32 := 512#32
  let v559 : BitVec 32 := Scalar.muli v558 c512_i32_317
  v559
def k0_off13 (i : grid0.Coords) (v5 : BitVec 32) (k0_t2 : Fin (k0_t2_loop i v5).trips) : Fin 2 → Nat :=
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let c1_i32_126 : BitVec 32 := 1#32
  let arg38 : BitVec 32 := Scf.iv v253 c1_i32_126 k0_t2
  let c1_i32_316 : BitVec 32 := 1#32
  let v558 : BitVec 32 := Scalar.addi arg38 c1_i32_316
  let c512_i32_317 : BitVec 32 := 512#32
  let v559 : BitVec 32 := Scalar.muli v558 c512_i32_317
  let v560 : BitVec 32 := v559
  let v561 : Index := Scalar.indexCast v560
  let c0_318 : Index := 0#32
  ![v561.toNat, 0]
def k0_off14 (i : grid0.Coords) (v5 : BitVec 32) (k0_t2 : Fin (k0_t2_loop i v5).trips) : Fin 2 → Nat :=
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let c1_i32_126 : BitVec 32 := 1#32
  let arg38 : BitVec 32 := Scf.iv v253 c1_i32_126 k0_t2
  let c1_i32_316 : BitVec 32 := 1#32
  let v558 : BitVec 32 := Scalar.addi arg38 c1_i32_316
  let c512_i32_317 : BitVec 32 := 512#32
  let v559 : BitVec 32 := Scalar.muli v558 c512_i32_317
  let v560 : BitVec 32 := v559
  let v564 : Index := Scalar.indexCast v560
  let c0_319 : Index := 0#32
  ![v564.toNat, 0]
def k0_mult15 (i : grid0.Coords) (v5 : BitVec 32) (k0_t2 : Fin (k0_t2_loop i v5).trips) : BitVec 32 :=
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let c1_i32_126 : BitVec 32 := 1#32
  let arg38 : BitVec 32 := Scf.iv v253 c1_i32_126 k0_t2
  let c1_i32_290 : BitVec 32 := 1#32
  let v520 : BitVec 32 := Scalar.subi arg38 c1_i32_290
  let v521 : BitVec 32 := Scalar.maxsi v520 v5
  let c512_i32_328 : BitVec 32 := 512#32
  let v578 : BitVec 32 := Scalar.muli v521 c512_i32_328
  v578
def k0_off15 (i : grid0.Coords) (v5 : BitVec 32) (k0_t2 : Fin (k0_t2_loop i v5).trips) : Fin 3 → Nat :=
  let c0_329 : Index := 0#32
  let c64_330 : Index := 64#32
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let c1_i32_126 : BitVec 32 := 1#32
  let arg38 : BitVec 32 := Scf.iv v253 c1_i32_126 k0_t2
  let c1_i32_290 : BitVec 32 := 1#32
  let v520 : BitVec 32 := Scalar.subi arg38 c1_i32_290
  let v521 : BitVec 32 := Scalar.maxsi v520 v5
  let c512_i32_328 : BitVec 32 := 512#32
  let v578 : BitVec 32 := Scalar.muli v521 c512_i32_328
  let v579 : BitVec 32 := v578
  let v580 : Index := Scalar.indexCast v579
  ![0, 64, v580.toNat]
def k0_mult16 (i : grid0.Coords) (v5 : BitVec 32) (k0_t2 : Fin (k0_t2_loop i v5).trips) : BitVec 32 :=
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let c1_i32_126 : BitVec 32 := 1#32
  let arg38 : BitVec 32 := Scf.iv v253 c1_i32_126 k0_t2
  let c1_i32_353 : BitVec 32 := 1#32
  let v614 : BitVec 32 := Scalar.addi arg38 c1_i32_353
  let c512_i32_354 : BitVec 32 := 512#32
  let v615 : BitVec 32 := Scalar.muli v614 c512_i32_354
  v615
def k0_mult17 (i : grid0.Coords) (v5 : BitVec 32) (k0_t2 : Fin (k0_t2_loop i v5).trips) : BitVec 32 :=
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let c1_i32_126 : BitVec 32 := 1#32
  let arg38 : BitVec 32 := Scf.iv v253 c1_i32_126 k0_t2
  let c1_i32_290 : BitVec 32 := 1#32
  let v520 : BitVec 32 := Scalar.subi arg38 c1_i32_290
  let v521 : BitVec 32 := Scalar.maxsi v520 v5
  let c512_i32_365 : BitVec 32 := 512#32
  let v634 : BitVec 32 := Scalar.muli v521 c512_i32_365
  v634
def k0_off16 (i : grid0.Coords) (v5 : BitVec 32) (k0_t2 : Fin (k0_t2_loop i v5).trips) : Fin 3 → Nat :=
  let c0_366 : Index := 0#32
  let c128_367 : Index := 128#32
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let c1_i32_126 : BitVec 32 := 1#32
  let arg38 : BitVec 32 := Scf.iv v253 c1_i32_126 k0_t2
  let c1_i32_290 : BitVec 32 := 1#32
  let v520 : BitVec 32 := Scalar.subi arg38 c1_i32_290
  let v521 : BitVec 32 := Scalar.maxsi v520 v5
  let c512_i32_365 : BitVec 32 := 512#32
  let v634 : BitVec 32 := Scalar.muli v521 c512_i32_365
  let v635 : BitVec 32 := v634
  let v636 : Index := Scalar.indexCast v635
  ![0, 128, v636.toNat]
def k0_mult18 (i : grid0.Coords) (v5 : BitVec 32) (k0_t2 : Fin (k0_t2_loop i v5).trips) : BitVec 32 :=
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let c1_i32_126 : BitVec 32 := 1#32
  let arg38 : BitVec 32 := Scf.iv v253 c1_i32_126 k0_t2
  let c1_i32_390 : BitVec 32 := 1#32
  let v670 : BitVec 32 := Scalar.addi arg38 c1_i32_390
  let c512_i32_391 : BitVec 32 := 512#32
  let v671 : BitVec 32 := Scalar.muli v670 c512_i32_391
  v671
def k0_off17 (i : grid0.Coords) (v5 : BitVec 32) (k0_t2 : Fin (k0_t2_loop i v5).trips) : Fin 2 → Nat :=
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let c1_i32_126 : BitVec 32 := 1#32
  let arg38 : BitVec 32 := Scf.iv v253 c1_i32_126 k0_t2
  let c1_i32_390 : BitVec 32 := 1#32
  let v670 : BitVec 32 := Scalar.addi arg38 c1_i32_390
  let c512_i32_391 : BitVec 32 := 512#32
  let v671 : BitVec 32 := Scalar.muli v670 c512_i32_391
  let v672 : BitVec 32 := v671
  let v673 : Index := Scalar.indexCast v672
  let c128_392 : Index := 128#32
  ![v673.toNat, 128]
def k0_mult19 (i : grid0.Coords) (v5 : BitVec 32) (k0_t2 : Fin (k0_t2_loop i v5).trips) : BitVec 32 :=
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let c1_i32_126 : BitVec 32 := 1#32
  let arg38 : BitVec 32 := Scf.iv v253 c1_i32_126 k0_t2
  let c1_i32_290 : BitVec 32 := 1#32
  let v520 : BitVec 32 := Scalar.subi arg38 c1_i32_290
  let v521 : BitVec 32 := Scalar.maxsi v520 v5
  let c512_i32_402 : BitVec 32 := 512#32
  let v690 : BitVec 32 := Scalar.muli v521 c512_i32_402
  v690
def k0_off18 (i : grid0.Coords) (v5 : BitVec 32) (k0_t2 : Fin (k0_t2_loop i v5).trips) : Fin 3 → Nat :=
  let c0_403 : Index := 0#32
  let c192_404 : Index := 192#32
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let c1_i32_126 : BitVec 32 := 1#32
  let arg38 : BitVec 32 := Scf.iv v253 c1_i32_126 k0_t2
  let c1_i32_290 : BitVec 32 := 1#32
  let v520 : BitVec 32 := Scalar.subi arg38 c1_i32_290
  let v521 : BitVec 32 := Scalar.maxsi v520 v5
  let c512_i32_402 : BitVec 32 := 512#32
  let v690 : BitVec 32 := Scalar.muli v521 c512_i32_402
  let v691 : BitVec 32 := v690
  let v692 : Index := Scalar.indexCast v691
  ![0, 192, v692.toNat]
def k0_mult20 (i : grid0.Coords) (v5 : BitVec 32) (k0_t2 : Fin (k0_t2_loop i v5).trips) : BitVec 32 :=
  let arg2 : BitVec 32 := BitVec.ofNat 32 (i 2).val
  let v249 : BitVec 32 := Scalar.subi arg2 v5
  let c1_i32_124 : BitVec 32 := 1#32
  let v251 : BitVec 32 := Scalar.divsi v249 c1_i32_124
  let v252 : BitVec 32 := Scalar.muli v251 c1_i32_124
  let v253 : BitVec 32 := Scalar.addi v5 v252
  let c1_i32_126 : BitVec 32 := 1#32
  let arg38 : BitVec 32 := Scf.iv v253 c1_i32_126 k0_t2
  let c1_i32_427 : BitVec 32 := 1#32
  let v726 : BitVec 32 := Scalar.addi arg38 c1_i32_427
  let c512_i32_428 : BitVec 32 := 512#32
  let v727 : BitVec 32 := Scalar.muli v726 c512_i32_428
  v727
def k0_mult21 (i : grid0.Coords) (v5 : BitVec 32) : BitVec 32 :=
  let arg2 : BitVec 32 := BitVec.ofNat 32 (i 2).val
  let c1_i32_127 : BitVec 32 := 1#32
  let v254 : BitVec 32 := Scalar.subi arg2 c1_i32_127
  let v255 : BitVec 32 := Scalar.maxsi v254 v5
  let c512_i32_128 : BitVec 32 := 512#32
  let v256 : BitVec 32 := Scalar.muli v255 c512_i32_128
  v256
def k0_off19 (i : grid0.Coords) (v5 : BitVec 32) : Fin 3 → Nat :=
  let c0_129 : Index := 0#32
  let c0_130 : Index := 0#32
  let arg2 : BitVec 32 := BitVec.ofNat 32 (i 2).val
  let c1_i32_127 : BitVec 32 := 1#32
  let v254 : BitVec 32 := Scalar.subi arg2 c1_i32_127
  let v255 : BitVec 32 := Scalar.maxsi v254 v5
  let c512_i32_128 : BitVec 32 := 512#32
  let v256 : BitVec 32 := Scalar.muli v255 c512_i32_128
  let v257 : BitVec 32 := v256
  let v258 : Index := Scalar.indexCast v257
  ![0, 0, v258.toNat]
def k0_mult22 (i : grid0.Coords) (v5 : BitVec 32) : BitVec 32 :=
  let arg2 : BitVec 32 := BitVec.ofNat 32 (i 2).val
  let c1_i32_127 : BitVec 32 := 1#32
  let v254 : BitVec 32 := Scalar.subi arg2 c1_i32_127
  let v255 : BitVec 32 := Scalar.maxsi v254 v5
  let c512_i32_153 : BitVec 32 := 512#32
  let v298 : BitVec 32 := Scalar.muli v255 c512_i32_153
  v298
def k0_off20 (i : grid0.Coords) (v5 : BitVec 32) : Fin 3 → Nat :=
  let c0_154 : Index := 0#32
  let c64 : Index := 64#32
  let arg2 : BitVec 32 := BitVec.ofNat 32 (i 2).val
  let c1_i32_127 : BitVec 32 := 1#32
  let v254 : BitVec 32 := Scalar.subi arg2 c1_i32_127
  let v255 : BitVec 32 := Scalar.maxsi v254 v5
  let c512_i32_153 : BitVec 32 := 512#32
  let v298 : BitVec 32 := Scalar.muli v255 c512_i32_153
  let v299 : BitVec 32 := v298
  let v300 : Index := Scalar.indexCast v299
  ![0, 64, v300.toNat]
def k0_mult23 (i : grid0.Coords) (v5 : BitVec 32) : BitVec 32 :=
  let arg2 : BitVec 32 := BitVec.ofNat 32 (i 2).val
  let c1_i32_127 : BitVec 32 := 1#32
  let v254 : BitVec 32 := Scalar.subi arg2 c1_i32_127
  let v255 : BitVec 32 := Scalar.maxsi v254 v5
  let c512_i32_177 : BitVec 32 := 512#32
  let v340 : BitVec 32 := Scalar.muli v255 c512_i32_177
  v340
def k0_off21 (i : grid0.Coords) (v5 : BitVec 32) : Fin 3 → Nat :=
  let c0_178 : Index := 0#32
  let c128_179 : Index := 128#32
  let arg2 : BitVec 32 := BitVec.ofNat 32 (i 2).val
  let c1_i32_127 : BitVec 32 := 1#32
  let v254 : BitVec 32 := Scalar.subi arg2 c1_i32_127
  let v255 : BitVec 32 := Scalar.maxsi v254 v5
  let c512_i32_177 : BitVec 32 := 512#32
  let v340 : BitVec 32 := Scalar.muli v255 c512_i32_177
  let v341 : BitVec 32 := v340
  let v342 : Index := Scalar.indexCast v341
  ![0, 128, v342.toNat]
def k0_mult24 (i : grid0.Coords) (v5 : BitVec 32) : BitVec 32 :=
  let arg2 : BitVec 32 := BitVec.ofNat 32 (i 2).val
  let c1_i32_127 : BitVec 32 := 1#32
  let v254 : BitVec 32 := Scalar.subi arg2 c1_i32_127
  let v255 : BitVec 32 := Scalar.maxsi v254 v5
  let c512_i32_202 : BitVec 32 := 512#32
  let v382 : BitVec 32 := Scalar.muli v255 c512_i32_202
  v382
def k0_off22 (i : grid0.Coords) (v5 : BitVec 32) : Fin 3 → Nat :=
  let c0_203 : Index := 0#32
  let c192 : Index := 192#32
  let arg2 : BitVec 32 := BitVec.ofNat 32 (i 2).val
  let c1_i32_127 : BitVec 32 := 1#32
  let v254 : BitVec 32 := Scalar.subi arg2 c1_i32_127
  let v255 : BitVec 32 := Scalar.maxsi v254 v5
  let c512_i32_202 : BitVec 32 := 512#32
  let v382 : BitVec 32 := Scalar.muli v255 c512_i32_202
  let v383 : BitVec 32 := v382
  let v384 : Index := Scalar.indexCast v383
  ![0, 192, v384.toNat]

def k0_chk1_0 (i : grid0.Coords) (v5 : BitVec 32) : Prop :=
  (512 ∣ (k0_mult1 v5).toNat) ∧
  (∀ a, (k0_off2 v5) a + S512x128.size a ≤ S8192x256.size a) ∧
  (∀ a, (k0_off3 v5) a + S512x128.size a ≤ S8192x128.size a) ∧
  (512 ∣ (k0_mult2 v5).toNat) ∧
  (512 ∣ (k0_mult3 v5).toNat) ∧
  (∀ a, (k0_off4 v5) a + S512x128.size a ≤ S8192x256.size a) ∧
  (512 ∣ (k0_mult4 v5).toNat) ∧
  ((k0_t1_loop i v5).OK) ∧
  (∀ k0_t1 : Fin (k0_t1_loop i v5).trips, 512 ∣ (k0_mult5 i v5 k0_t1).toNat) ∧
  (∀ k0_t1 : Fin (k0_t1_loop i v5).trips, ∀ a, (k0_off5 i v5 k0_t1) a + S1x64x512.size a ≤ S1x256x8192.size a) ∧
  (∀ k0_t1 : Fin (k0_t1_loop i v5).trips, 512 ∣ (k0_mult6 i v5 k0_t1).toNat) ∧
  (∀ k0_t1 : Fin (k0_t1_loop i v5).trips, ∀ a, (k0_off6 i v5 k0_t1) a + S512x128.size a ≤ S8192x256.size a) ∧
  (∀ k0_t1 : Fin (k0_t1_loop i v5).trips, ∀ a, (k0_off7 i v5 k0_t1) a + S512x128.size a ≤ S8192x128.size a) ∧
  (∀ k0_t1 : Fin (k0_t1_loop i v5).trips, 512 ∣ (k0_mult7 i v5 k0_t1).toNat) ∧
  (∀ k0_t1 : Fin (k0_t1_loop i v5).trips, ∀ a, (k0_off8 i v5 k0_t1) a + S1x64x512.size a ≤ S1x256x8192.size a) ∧
  (∀ k0_t1 : Fin (k0_t1_loop i v5).trips, 512 ∣ (k0_mult8 i v5 k0_t1).toNat) ∧
  (∀ k0_t1 : Fin (k0_t1_loop i v5).trips, 512 ∣ (k0_mult9 i v5 k0_t1).toNat) ∧
  (∀ k0_t1 : Fin (k0_t1_loop i v5).trips, ∀ a, (k0_off9 i v5 k0_t1) a + S1x64x512.size a ≤ S1x256x8192.size a) ∧
  (∀ k0_t1 : Fin (k0_t1_loop i v5).trips, 512 ∣ (k0_mult10 i v5 k0_t1).toNat) ∧
  (∀ k0_t1 : Fin (k0_t1_loop i v5).trips, ∀ a, (k0_off10 i v5 k0_t1) a + S512x128.size a ≤ S8192x256.size a) ∧
  (∀ k0_t1 : Fin (k0_t1_loop i v5).trips, 512 ∣ (k0_mult11 i v5 k0_t1).toNat) ∧
  (∀ k0_t1 : Fin (k0_t1_loop i v5).trips, ∀ a, (k0_off11 i v5 k0_t1) a + S1x64x512.size a ≤ S1x256x8192.size a) ∧
  (∀ k0_t1 : Fin (k0_t1_loop i v5).trips, 512 ∣ (k0_mult12 i v5 k0_t1).toNat) ∧
  ((k0_t2_loop i v5).OK) ∧
  (∀ k0_t2 : Fin (k0_t2_loop i v5).trips, 512 ∣ (k0_mult13 i v5 k0_t2).toNat) ∧
  (∀ k0_t2 : Fin (k0_t2_loop i v5).trips, ∀ a, (k0_off12 i v5 k0_t2) a + S1x64x512.size a ≤ S1x256x8192.size a) ∧
  (∀ k0_t2 : Fin (k0_t2_loop i v5).trips, 512 ∣ (k0_mult14 i v5 k0_t2).toNat) ∧
  (∀ k0_t2 : Fin (k0_t2_loop i v5).trips, ∀ a, (k0_off13 i v5 k0_t2) a + S512x128.size a ≤ S8192x256.size a) ∧
  (∀ k0_t2 : Fin (k0_t2_loop i v5).trips, ∀ a, (k0_off14 i v5 k0_t2) a + S512x128.size a ≤ S8192x128.size a) ∧
  (∀ k0_t2 : Fin (k0_t2_loop i v5).trips, 512 ∣ (k0_mult15 i v5 k0_t2).toNat) ∧
  (∀ k0_t2 : Fin (k0_t2_loop i v5).trips, ∀ a, (k0_off15 i v5 k0_t2) a + S1x64x512.size a ≤ S1x256x8192.size a) ∧
  (∀ k0_t2 : Fin (k0_t2_loop i v5).trips, 512 ∣ (k0_mult16 i v5 k0_t2).toNat)
def k0_chk1_1 (i : grid0.Coords) (v5 : BitVec 32) : Prop :=
  (∀ k0_t2 : Fin (k0_t2_loop i v5).trips, 512 ∣ (k0_mult17 i v5 k0_t2).toNat) ∧
  (∀ k0_t2 : Fin (k0_t2_loop i v5).trips, ∀ a, (k0_off16 i v5 k0_t2) a + S1x64x512.size a ≤ S1x256x8192.size a) ∧
  (∀ k0_t2 : Fin (k0_t2_loop i v5).trips, 512 ∣ (k0_mult18 i v5 k0_t2).toNat) ∧
  (∀ k0_t2 : Fin (k0_t2_loop i v5).trips, ∀ a, (k0_off17 i v5 k0_t2) a + S512x128.size a ≤ S8192x256.size a) ∧
  (∀ k0_t2 : Fin (k0_t2_loop i v5).trips, 512 ∣ (k0_mult19 i v5 k0_t2).toNat) ∧
  (∀ k0_t2 : Fin (k0_t2_loop i v5).trips, ∀ a, (k0_off18 i v5 k0_t2) a + S1x64x512.size a ≤ S1x256x8192.size a) ∧
  (∀ k0_t2 : Fin (k0_t2_loop i v5).trips, 512 ∣ (k0_mult20 i v5 k0_t2).toNat) ∧
  (512 ∣ (k0_mult21 i v5).toNat) ∧
  (∀ a, (k0_off19 i v5) a + S1x64x512.size a ≤ S1x256x8192.size a) ∧
  (512 ∣ (k0_mult22 i v5).toNat) ∧
  (∀ a, (k0_off20 i v5) a + S1x64x512.size a ≤ S1x256x8192.size a) ∧
  (512 ∣ (k0_mult23 i v5).toNat) ∧
  (∀ a, (k0_off21 i v5) a + S1x64x512.size a ≤ S1x256x8192.size a) ∧
  (512 ∣ (k0_mult24 i v5).toNat) ∧
  (∀ a, (k0_off22 i v5) a + S1x64x512.size a ≤ S1x256x8192.size a)
def k0_chk1 (i : grid0.Coords) (v5 : BitVec 32) : Prop :=
  k0_chk1_0 i v5 ∧
  k0_chk1_1 i v5
theorem k0_mult1_dvd : ∀ (i : grid0.Coords) (v5 : BitVec 32) (k0_hw1 : k0_chk1 i v5), 512 ∣ (k0_mult1 v5).toNat := fun i v5 k0_hw1 => k0_hw1.1.1
theorem k0_off2_inb : ∀ (i : grid0.Coords) (v5 : BitVec 32) (k0_hw1 : k0_chk1 i v5), ∀ a, (k0_off2 v5) a + S512x128.size a ≤ S8192x256.size a := fun i v5 k0_hw1 => k0_hw1.1.2.1
theorem k0_off3_inb : ∀ (i : grid0.Coords) (v5 : BitVec 32) (k0_hw1 : k0_chk1 i v5), ∀ a, (k0_off3 v5) a + S512x128.size a ≤ S8192x128.size a := fun i v5 k0_hw1 => k0_hw1.1.2.2.1
theorem k0_mult2_dvd : ∀ (i : grid0.Coords) (v5 : BitVec 32) (k0_hw1 : k0_chk1 i v5), 512 ∣ (k0_mult2 v5).toNat := fun i v5 k0_hw1 => k0_hw1.1.2.2.2.1
theorem k0_mult3_dvd : ∀ (i : grid0.Coords) (v5 : BitVec 32) (k0_hw1 : k0_chk1 i v5), 512 ∣ (k0_mult3 v5).toNat := fun i v5 k0_hw1 => k0_hw1.1.2.2.2.2.1
theorem k0_off4_inb : ∀ (i : grid0.Coords) (v5 : BitVec 32) (k0_hw1 : k0_chk1 i v5), ∀ a, (k0_off4 v5) a + S512x128.size a ≤ S8192x256.size a := fun i v5 k0_hw1 => k0_hw1.1.2.2.2.2.2.1
theorem k0_mult4_dvd : ∀ (i : grid0.Coords) (v5 : BitVec 32) (k0_hw1 : k0_chk1 i v5), 512 ∣ (k0_mult4 v5).toNat := fun i v5 k0_hw1 => k0_hw1.1.2.2.2.2.2.2.1
theorem k0_t1_ok : ∀ (i : grid0.Coords) (v5 : BitVec 32) (k0_hw1 : k0_chk1 i v5), (k0_t1_loop i v5).OK := fun i v5 k0_hw1 => k0_hw1.1.2.2.2.2.2.2.2.1
theorem k0_mult5_dvd : ∀ (i : grid0.Coords) (v5 : BitVec 32) (k0_hw1 : k0_chk1 i v5) (k0_t1 : Fin (k0_t1_loop i v5).trips), 512 ∣ (k0_mult5 i v5 k0_t1).toNat := fun i v5 k0_hw1 k0_t1 => k0_hw1.1.2.2.2.2.2.2.2.2.1 k0_t1
theorem k0_off5_inb : ∀ (i : grid0.Coords) (v5 : BitVec 32) (k0_hw1 : k0_chk1 i v5) (k0_t1 : Fin (k0_t1_loop i v5).trips), ∀ a, (k0_off5 i v5 k0_t1) a + S1x64x512.size a ≤ S1x256x8192.size a := fun i v5 k0_hw1 k0_t1 => k0_hw1.1.2.2.2.2.2.2.2.2.2.1 k0_t1
theorem k0_mult6_dvd : ∀ (i : grid0.Coords) (v5 : BitVec 32) (k0_hw1 : k0_chk1 i v5) (k0_t1 : Fin (k0_t1_loop i v5).trips), 512 ∣ (k0_mult6 i v5 k0_t1).toNat := fun i v5 k0_hw1 k0_t1 => k0_hw1.1.2.2.2.2.2.2.2.2.2.2.1 k0_t1
theorem k0_off6_inb : ∀ (i : grid0.Coords) (v5 : BitVec 32) (k0_hw1 : k0_chk1 i v5) (k0_t1 : Fin (k0_t1_loop i v5).trips), ∀ a, (k0_off6 i v5 k0_t1) a + S512x128.size a ≤ S8192x256.size a := fun i v5 k0_hw1 k0_t1 => k0_hw1.1.2.2.2.2.2.2.2.2.2.2.2.1 k0_t1
theorem k0_off7_inb : ∀ (i : grid0.Coords) (v5 : BitVec 32) (k0_hw1 : k0_chk1 i v5) (k0_t1 : Fin (k0_t1_loop i v5).trips), ∀ a, (k0_off7 i v5 k0_t1) a + S512x128.size a ≤ S8192x128.size a := fun i v5 k0_hw1 k0_t1 => k0_hw1.1.2.2.2.2.2.2.2.2.2.2.2.2.1 k0_t1
theorem k0_mult7_dvd : ∀ (i : grid0.Coords) (v5 : BitVec 32) (k0_hw1 : k0_chk1 i v5) (k0_t1 : Fin (k0_t1_loop i v5).trips), 512 ∣ (k0_mult7 i v5 k0_t1).toNat := fun i v5 k0_hw1 k0_t1 => k0_hw1.1.2.2.2.2.2.2.2.2.2.2.2.2.2.1 k0_t1
theorem k0_off8_inb : ∀ (i : grid0.Coords) (v5 : BitVec 32) (k0_hw1 : k0_chk1 i v5) (k0_t1 : Fin (k0_t1_loop i v5).trips), ∀ a, (k0_off8 i v5 k0_t1) a + S1x64x512.size a ≤ S1x256x8192.size a := fun i v5 k0_hw1 k0_t1 => k0_hw1.1.2.2.2.2.2.2.2.2.2.2.2.2.2.2.1 k0_t1
theorem k0_mult8_dvd : ∀ (i : grid0.Coords) (v5 : BitVec 32) (k0_hw1 : k0_chk1 i v5) (k0_t1 : Fin (k0_t1_loop i v5).trips), 512 ∣ (k0_mult8 i v5 k0_t1).toNat := fun i v5 k0_hw1 k0_t1 => k0_hw1.1.2.2.2.2.2.2.2.2.2.2.2.2.2.2.2.1 k0_t1
theorem k0_mult9_dvd : ∀ (i : grid0.Coords) (v5 : BitVec 32) (k0_hw1 : k0_chk1 i v5) (k0_t1 : Fin (k0_t1_loop i v5).trips), 512 ∣ (k0_mult9 i v5 k0_t1).toNat := fun i v5 k0_hw1 k0_t1 => k0_hw1.1.2.2.2.2.2.2.2.2.2.2.2.2.2.2.2.2.1 k0_t1
theorem k0_off9_inb : ∀ (i : grid0.Coords) (v5 : BitVec 32) (k0_hw1 : k0_chk1 i v5) (k0_t1 : Fin (k0_t1_loop i v5).trips), ∀ a, (k0_off9 i v5 k0_t1) a + S1x64x512.size a ≤ S1x256x8192.size a := fun i v5 k0_hw1 k0_t1 => k0_hw1.1.2.2.2.2.2.2.2.2.2.2.2.2.2.2.2.2.2.1 k0_t1
theorem k0_mult10_dvd : ∀ (i : grid0.Coords) (v5 : BitVec 32) (k0_hw1 : k0_chk1 i v5) (k0_t1 : Fin (k0_t1_loop i v5).trips), 512 ∣ (k0_mult10 i v5 k0_t1).toNat := fun i v5 k0_hw1 k0_t1 => k0_hw1.1.2.2.2.2.2.2.2.2.2.2.2.2.2.2.2.2.2.2.1 k0_t1
theorem k0_off10_inb : ∀ (i : grid0.Coords) (v5 : BitVec 32) (k0_hw1 : k0_chk1 i v5) (k0_t1 : Fin (k0_t1_loop i v5).trips), ∀ a, (k0_off10 i v5 k0_t1) a + S512x128.size a ≤ S8192x256.size a := fun i v5 k0_hw1 k0_t1 => k0_hw1.1.2.2.2.2.2.2.2.2.2.2.2.2.2.2.2.2.2.2.2.1 k0_t1
theorem k0_mult11_dvd : ∀ (i : grid0.Coords) (v5 : BitVec 32) (k0_hw1 : k0_chk1 i v5) (k0_t1 : Fin (k0_t1_loop i v5).trips), 512 ∣ (k0_mult11 i v5 k0_t1).toNat := fun i v5 k0_hw1 k0_t1 => k0_hw1.1.2.2.2.2.2.2.2.2.2.2.2.2.2.2.2.2.2.2.2.2.1 k0_t1
theorem k0_off11_inb : ∀ (i : grid0.Coords) (v5 : BitVec 32) (k0_hw1 : k0_chk1 i v5) (k0_t1 : Fin (k0_t1_loop i v5).trips), ∀ a, (k0_off11 i v5 k0_t1) a + S1x64x512.size a ≤ S1x256x8192.size a := fun i v5 k0_hw1 k0_t1 => k0_hw1.1.2.2.2.2.2.2.2.2.2.2.2.2.2.2.2.2.2.2.2.2.2.1 k0_t1
theorem k0_mult12_dvd : ∀ (i : grid0.Coords) (v5 : BitVec 32) (k0_hw1 : k0_chk1 i v5) (k0_t1 : Fin (k0_t1_loop i v5).trips), 512 ∣ (k0_mult12 i v5 k0_t1).toNat := fun i v5 k0_hw1 k0_t1 => k0_hw1.1.2.2.2.2.2.2.2.2.2.2.2.2.2.2.2.2.2.2.2.2.2.2.1 k0_t1
theorem k0_t2_ok : ∀ (i : grid0.Coords) (v5 : BitVec 32) (k0_hw1 : k0_chk1 i v5), (k0_t2_loop i v5).OK := fun i v5 k0_hw1 => k0_hw1.1.2.2.2.2.2.2.2.2.2.2.2.2.2.2.2.2.2.2.2.2.2.2.2.1
theorem k0_mult13_dvd : ∀ (i : grid0.Coords) (v5 : BitVec 32) (k0_hw1 : k0_chk1 i v5) (k0_t2 : Fin (k0_t2_loop i v5).trips), 512 ∣ (k0_mult13 i v5 k0_t2).toNat := fun i v5 k0_hw1 k0_t2 => k0_hw1.1.2.2.2.2.2.2.2.2.2.2.2.2.2.2.2.2.2.2.2.2.2.2.2.2.1 k0_t2
theorem k0_off12_inb : ∀ (i : grid0.Coords) (v5 : BitVec 32) (k0_hw1 : k0_chk1 i v5) (k0_t2 : Fin (k0_t2_loop i v5).trips), ∀ a, (k0_off12 i v5 k0_t2) a + S1x64x512.size a ≤ S1x256x8192.size a := fun i v5 k0_hw1 k0_t2 => k0_hw1.1.2.2.2.2.2.2.2.2.2.2.2.2.2.2.2.2.2.2.2.2.2.2.2.2.2.1 k0_t2
theorem k0_mult14_dvd : ∀ (i : grid0.Coords) (v5 : BitVec 32) (k0_hw1 : k0_chk1 i v5) (k0_t2 : Fin (k0_t2_loop i v5).trips), 512 ∣ (k0_mult14 i v5 k0_t2).toNat := fun i v5 k0_hw1 k0_t2 => k0_hw1.1.2.2.2.2.2.2.2.2.2.2.2.2.2.2.2.2.2.2.2.2.2.2.2.2.2.2.1 k0_t2
theorem k0_off13_inb : ∀ (i : grid0.Coords) (v5 : BitVec 32) (k0_hw1 : k0_chk1 i v5) (k0_t2 : Fin (k0_t2_loop i v5).trips), ∀ a, (k0_off13 i v5 k0_t2) a + S512x128.size a ≤ S8192x256.size a := fun i v5 k0_hw1 k0_t2 => k0_hw1.1.2.2.2.2.2.2.2.2.2.2.2.2.2.2.2.2.2.2.2.2.2.2.2.2.2.2.2.1 k0_t2
theorem k0_off14_inb : ∀ (i : grid0.Coords) (v5 : BitVec 32) (k0_hw1 : k0_chk1 i v5) (k0_t2 : Fin (k0_t2_loop i v5).trips), ∀ a, (k0_off14 i v5 k0_t2) a + S512x128.size a ≤ S8192x128.size a := fun i v5 k0_hw1 k0_t2 => k0_hw1.1.2.2.2.2.2.2.2.2.2.2.2.2.2.2.2.2.2.2.2.2.2.2.2.2.2.2.2.2.1 k0_t2
theorem k0_mult15_dvd : ∀ (i : grid0.Coords) (v5 : BitVec 32) (k0_hw1 : k0_chk1 i v5) (k0_t2 : Fin (k0_t2_loop i v5).trips), 512 ∣ (k0_mult15 i v5 k0_t2).toNat := fun i v5 k0_hw1 k0_t2 => k0_hw1.1.2.2.2.2.2.2.2.2.2.2.2.2.2.2.2.2.2.2.2.2.2.2.2.2.2.2.2.2.2.1 k0_t2
theorem k0_off15_inb : ∀ (i : grid0.Coords) (v5 : BitVec 32) (k0_hw1 : k0_chk1 i v5) (k0_t2 : Fin (k0_t2_loop i v5).trips), ∀ a, (k0_off15 i v5 k0_t2) a + S1x64x512.size a ≤ S1x256x8192.size a := fun i v5 k0_hw1 k0_t2 => k0_hw1.1.2.2.2.2.2.2.2.2.2.2.2.2.2.2.2.2.2.2.2.2.2.2.2.2.2.2.2.2.2.2.1 k0_t2
theorem k0_mult16_dvd : ∀ (i : grid0.Coords) (v5 : BitVec 32) (k0_hw1 : k0_chk1 i v5) (k0_t2 : Fin (k0_t2_loop i v5).trips), 512 ∣ (k0_mult16 i v5 k0_t2).toNat := fun i v5 k0_hw1 k0_t2 => k0_hw1.1.2.2.2.2.2.2.2.2.2.2.2.2.2.2.2.2.2.2.2.2.2.2.2.2.2.2.2.2.2.2.2 k0_t2
theorem k0_mult17_dvd : ∀ (i : grid0.Coords) (v5 : BitVec 32) (k0_hw1 : k0_chk1 i v5) (k0_t2 : Fin (k0_t2_loop i v5).trips), 512 ∣ (k0_mult17 i v5 k0_t2).toNat := fun i v5 k0_hw1 k0_t2 => k0_hw1.2.1 k0_t2
theorem k0_off16_inb : ∀ (i : grid0.Coords) (v5 : BitVec 32) (k0_hw1 : k0_chk1 i v5) (k0_t2 : Fin (k0_t2_loop i v5).trips), ∀ a, (k0_off16 i v5 k0_t2) a + S1x64x512.size a ≤ S1x256x8192.size a := fun i v5 k0_hw1 k0_t2 => k0_hw1.2.2.1 k0_t2
theorem k0_mult18_dvd : ∀ (i : grid0.Coords) (v5 : BitVec 32) (k0_hw1 : k0_chk1 i v5) (k0_t2 : Fin (k0_t2_loop i v5).trips), 512 ∣ (k0_mult18 i v5 k0_t2).toNat := fun i v5 k0_hw1 k0_t2 => k0_hw1.2.2.2.1 k0_t2
theorem k0_off17_inb : ∀ (i : grid0.Coords) (v5 : BitVec 32) (k0_hw1 : k0_chk1 i v5) (k0_t2 : Fin (k0_t2_loop i v5).trips), ∀ a, (k0_off17 i v5 k0_t2) a + S512x128.size a ≤ S8192x256.size a := fun i v5 k0_hw1 k0_t2 => k0_hw1.2.2.2.2.1 k0_t2
theorem k0_mult19_dvd : ∀ (i : grid0.Coords) (v5 : BitVec 32) (k0_hw1 : k0_chk1 i v5) (k0_t2 : Fin (k0_t2_loop i v5).trips), 512 ∣ (k0_mult19 i v5 k0_t2).toNat := fun i v5 k0_hw1 k0_t2 => k0_hw1.2.2.2.2.2.1 k0_t2
theorem k0_off18_inb : ∀ (i : grid0.Coords) (v5 : BitVec 32) (k0_hw1 : k0_chk1 i v5) (k0_t2 : Fin (k0_t2_loop i v5).trips), ∀ a, (k0_off18 i v5 k0_t2) a + S1x64x512.size a ≤ S1x256x8192.size a := fun i v5 k0_hw1 k0_t2 => k0_hw1.2.2.2.2.2.2.1 k0_t2
theorem k0_mult20_dvd : ∀ (i : grid0.Coords) (v5 : BitVec 32) (k0_hw1 : k0_chk1 i v5) (k0_t2 : Fin (k0_t2_loop i v5).trips), 512 ∣ (k0_mult20 i v5 k0_t2).toNat := fun i v5 k0_hw1 k0_t2 => k0_hw1.2.2.2.2.2.2.2.1 k0_t2
theorem k0_mult21_dvd : ∀ (i : grid0.Coords) (v5 : BitVec 32) (k0_hw1 : k0_chk1 i v5), 512 ∣ (k0_mult21 i v5).toNat := fun i v5 k0_hw1 => k0_hw1.2.2.2.2.2.2.2.2.1
theorem k0_off19_inb : ∀ (i : grid0.Coords) (v5 : BitVec 32) (k0_hw1 : k0_chk1 i v5), ∀ a, (k0_off19 i v5) a + S1x64x512.size a ≤ S1x256x8192.size a := fun i v5 k0_hw1 => k0_hw1.2.2.2.2.2.2.2.2.2.1
theorem k0_mult22_dvd : ∀ (i : grid0.Coords) (v5 : BitVec 32) (k0_hw1 : k0_chk1 i v5), 512 ∣ (k0_mult22 i v5).toNat := fun i v5 k0_hw1 => k0_hw1.2.2.2.2.2.2.2.2.2.2.1
theorem k0_off20_inb : ∀ (i : grid0.Coords) (v5 : BitVec 32) (k0_hw1 : k0_chk1 i v5), ∀ a, (k0_off20 i v5) a + S1x64x512.size a ≤ S1x256x8192.size a := fun i v5 k0_hw1 => k0_hw1.2.2.2.2.2.2.2.2.2.2.2.1
theorem k0_mult23_dvd : ∀ (i : grid0.Coords) (v5 : BitVec 32) (k0_hw1 : k0_chk1 i v5), 512 ∣ (k0_mult23 i v5).toNat := fun i v5 k0_hw1 => k0_hw1.2.2.2.2.2.2.2.2.2.2.2.2.1
theorem k0_off21_inb : ∀ (i : grid0.Coords) (v5 : BitVec 32) (k0_hw1 : k0_chk1 i v5), ∀ a, (k0_off21 i v5) a + S1x64x512.size a ≤ S1x256x8192.size a := fun i v5 k0_hw1 => k0_hw1.2.2.2.2.2.2.2.2.2.2.2.2.2.1
theorem k0_mult24_dvd : ∀ (i : grid0.Coords) (v5 : BitVec 32) (k0_hw1 : k0_chk1 i v5), 512 ∣ (k0_mult24 i v5).toNat := fun i v5 k0_hw1 => k0_hw1.2.2.2.2.2.2.2.2.2.2.2.2.2.2.1
theorem k0_off22_inb : ∀ (i : grid0.Coords) (v5 : BitVec 32) (k0_hw1 : k0_chk1 i v5), ∀ a, (k0_off22 i v5) a + S1x64x512.size a ≤ S1x256x8192.size a := fun i v5 k0_hw1 => k0_hw1.2.2.2.2.2.2.2.2.2.2.2.2.2.2.2

def k0_mult25 (i : grid0.Coords) : BitVec 32 :=
  let arg2 : BitVec 32 := BitVec.ofNat 32 (i 2).val
  let c512_i32_226 : BitVec 32 := 512#32
  let v424 : BitVec 32 := Scalar.muli arg2 c512_i32_226
  v424
def k0_off23 (i : grid0.Coords) : Fin 3 → Nat :=
  let c0_227 : Index := 0#32
  let c0_228 : Index := 0#32
  let arg2 : BitVec 32 := BitVec.ofNat 32 (i 2).val
  let c512_i32_226 : BitVec 32 := 512#32
  let v424 : BitVec 32 := Scalar.muli arg2 c512_i32_226
  let v425 : BitVec 32 := v424
  let v426 : Index := Scalar.indexCast v425
  ![0, 0, v426.toNat]
def k0_mult26 (i : grid0.Coords) : BitVec 32 :=
  let arg2 : BitVec 32 := BitVec.ofNat 32 (i 2).val
  let c512_i32_239 : BitVec 32 := 512#32
  let v441 : BitVec 32 := Scalar.muli arg2 c512_i32_239
  v441
def k0_off24 (i : grid0.Coords) : Fin 3 → Nat :=
  let c0_240 : Index := 0#32
  let c64_241 : Index := 64#32
  let arg2 : BitVec 32 := BitVec.ofNat 32 (i 2).val
  let c512_i32_239 : BitVec 32 := 512#32
  let v441 : BitVec 32 := Scalar.muli arg2 c512_i32_239
  let v442 : BitVec 32 := v441
  let v443 : Index := Scalar.indexCast v442
  ![0, 64, v443.toNat]
def k0_mult27 (i : grid0.Coords) : BitVec 32 :=
  let arg2 : BitVec 32 := BitVec.ofNat 32 (i 2).val
  let c512_i32_252 : BitVec 32 := 512#32
  let v458 : BitVec 32 := Scalar.muli arg2 c512_i32_252
  v458
def k0_off25 (i : grid0.Coords) : Fin 3 → Nat :=
  let c0_253 : Index := 0#32
  let c128_254 : Index := 128#32
  let arg2 : BitVec 32 := BitVec.ofNat 32 (i 2).val
  let c512_i32_252 : BitVec 32 := 512#32
  let v458 : BitVec 32 := Scalar.muli arg2 c512_i32_252
  let v459 : BitVec 32 := v458
  let v460 : Index := Scalar.indexCast v459
  ![0, 128, v460.toNat]
def k0_mult28 (i : grid0.Coords) : BitVec 32 :=
  let arg2 : BitVec 32 := BitVec.ofNat 32 (i 2).val
  let c512_i32_265 : BitVec 32 := 512#32
  let v475 : BitVec 32 := Scalar.muli arg2 c512_i32_265
  v475
def k0_off26 (i : grid0.Coords) : Fin 3 → Nat :=
  let c0_266 : Index := 0#32
  let c192_267 : Index := 192#32
  let arg2 : BitVec 32 := BitVec.ofNat 32 (i 2).val
  let c512_i32_265 : BitVec 32 := 512#32
  let v475 : BitVec 32 := Scalar.muli arg2 c512_i32_265
  let v476 : BitVec 32 := v475
  let v477 : Index := Scalar.indexCast v476
  ![0, 192, v477.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x256x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S128 : Shape := ⟨1, ![128]⟩
abbrev S4x8192x512 : Shape := ⟨3, ![4, 8192, 512]⟩
abbrev S4x8192x8 : Shape := ⟨3, ![4, 8192, 8]⟩
abbrev S4x8192x8x64 : Shape := ⟨4, ![4, 8192, 8, 64]⟩
abbrev S4x8x8192x64 : Shape := ⟨4, ![4, 8, 8192, 64]⟩
abbrev S_ : Shape := ⟨0, ![]⟩
abbrev S4x8x8192 : Shape := ⟨3, ![4, 8, 8192]⟩
abbrev S4x8x8192x8192 : Shape := ⟨4, ![4, 8, 8192, 8192]⟩
abbrev S4x8x8192x1 : Shape := ⟨4, ![4, 8, 8192, 1]⟩
abbrev S4x8x1x8192 : Shape := ⟨4, ![4, 8, 1, 8192]⟩
abbrev S8192 : Shape := ⟨1, ![8192]⟩
abbrev S4x2x16 : Shape := ⟨3, ![4, 2, 16]⟩
abbrev S4x2x4x16 : Shape := ⟨4, ![4, 2, 4, 16]⟩
abbrev S4x8x16 : Shape := ⟨3, ![4, 8, 16]⟩
abbrev S4x8x16x512 : Shape := ⟨4, ![4, 8, 16, 512]⟩
abbrev S1x8192 : Shape := ⟨2, ![1, 8192]⟩
abbrev S8192x1 : Shape := ⟨2, ![8192, 1]⟩
abbrev S8192x8192 : Shape := ⟨2, ![8192, 8192]⟩
abbrev S1x1x1x8192 : Shape := ⟨4, ![1, 1, 1, 8192]⟩
abbrev S1x1x8192x8192 : Shape := ⟨4, ![1, 1, 8192, 8192]⟩
abbrev S32768x512 : Shape := ⟨2, ![32768, 512]⟩

abbrev nBuf : Space → Nat
  | .hbm => 66
  | .vmem => 0
  | .smem => 0
  | _ => 0

abbrev bufTy : (tb : Table) → Fin (tcTables nBuf tb) → BufTy
  | .hbm, ⟨0, _⟩ => ⟨S128, .i32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8192x8, .f32⟩
  | .hbm, ⟨5, _⟩ => ⟨S4x8192x8x64, .f32⟩
  | .hbm, ⟨6, _⟩ => ⟨S4x8x8192x64, .f32⟩
  | .hbm, ⟨7, _⟩ => ⟨S_, .f32⟩
  | .hbm, ⟨8, _⟩ => ⟨S4x8x8192x64, .f32⟩
  | .hbm, ⟨9, _⟩ => ⟨S4x8x8192x64, .f32⟩
  | .hbm, ⟨10, _⟩ => ⟨S4x8192x8x64, .f32⟩
  | .hbm, ⟨11, _⟩ => ⟨S4x8x8192x64, .f32⟩
  | .hbm, ⟨12, _⟩ => ⟨S4x8192x8x64, .f32⟩
  | .hbm, ⟨13, _⟩ => ⟨S4x8x8192x64, .f32⟩
  | .hbm, ⟨14, _⟩ => ⟨S4x8x8192, .f32⟩
  | .hbm, ⟨15, _⟩ => ⟨S4x8x8192x8192, .f32⟩
  | .hbm, ⟨16, _⟩ => ⟨S4x8x8192x1, .f32⟩
  | .hbm, ⟨17, _⟩ => ⟨S4x8x8192x8192, .f32⟩
  | .hbm, ⟨18, _⟩ => ⟨S4x8x8192x8192, .f32⟩
  | .hbm, ⟨19, _⟩ => ⟨S4x8x1x8192, .f32⟩
  | .hbm, ⟨20, _⟩ => ⟨S4x8x8192x8192, .f32⟩
  | .hbm, ⟨21, _⟩ => ⟨S4x8x8192x8192, .f32⟩
  | .hbm, ⟨22, _⟩ => ⟨S8192, .i32⟩
  | .hbm, ⟨23, _⟩ => ⟨S4x2x16, .i32⟩
  | .hbm, ⟨24, _⟩ => ⟨S4x2x4x16, .i32⟩
  | .hbm, ⟨25, _⟩ => ⟨S4x8x16, .i32⟩
  | .hbm, ⟨26, _⟩ => ⟨S4x8x16x512, .i32⟩
  | .hbm, ⟨27, _⟩ => ⟨S4x8x8192, .i32⟩
  | .hbm, ⟨28, _⟩ => ⟨S_, .i32⟩
  | .hbm, ⟨29, _⟩ => ⟨S4x8x8192, .i32⟩
  | .hbm, ⟨30, _⟩ => ⟨S4x8x8192, .i32⟩
  | .hbm, ⟨31, _⟩ => ⟨S1x8192, .i32⟩
  | .hbm, ⟨32, _⟩ => ⟨S8192x1, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S4x8x8192x1, .i32⟩
  | .hbm, ⟨37, _⟩ => ⟨S1x1x1x8192, .i32⟩
  | .hbm, ⟨38, _⟩ => ⟨S4x8x8192x8192, .i32⟩
  | .hbm, ⟨39, _⟩ => ⟨S4x8x8192x8192, .i32⟩
  | .hbm, ⟨40, _⟩ => ⟨S4x8x8192x8192, .i1⟩
  | .hbm, ⟨41, _⟩ => ⟨S1x1x8192x8192, .i1⟩
  | .hbm, ⟨42, _⟩ => ⟨S4x8x8192x8192, .i1⟩
  | .hbm, ⟨43, _⟩ => ⟨S4x8x8192x8192, .i1⟩
  | .hbm, ⟨44, _⟩ => ⟨S_, .f32⟩
  | .hbm, ⟨45, _⟩ => ⟨S_, .f32⟩
  | .hbm, ⟨46, _⟩ => ⟨S4x8x8192x8192, .f32⟩
  | .hbm, ⟨47, _⟩ => ⟨S4x8x8192x8192, .f32⟩
  | .hbm, ⟨48, _⟩ => ⟨S_, .f32⟩
  | .hbm, ⟨49, _⟩ => ⟨S4x8x8192, .f32⟩
  | .hbm, ⟨50, _⟩ => ⟨S_, .f32⟩
  | .hbm, ⟨51, _⟩ => ⟨S4x8x8192, .f32⟩
  | .hbm, ⟨52, _⟩ => ⟨S4x8x8192, .f32⟩
  | .hbm, ⟨53, _⟩ => ⟨S4x8x8192x1, .f32⟩
  | .hbm, ⟨54, _⟩ => ⟨S4x8x8192x8192, .f32⟩
  | .hbm, ⟨55, _⟩ => ⟨S4x8x8192x8192, .f32⟩
  | .hbm, ⟨56, _⟩ => ⟨S4x8x8192x8192, .f32⟩
  | .hbm, ⟨57, _⟩ => ⟨S_, .f32⟩
  | .hbm, ⟨58, _⟩ => ⟨S4x8x8192, .f32⟩
  | .hbm, ⟨59, _⟩ => ⟨S4x8x8192x1, .f32⟩
  | .hbm, ⟨60, _⟩ => ⟨S4x8x8192x8192, .f32⟩
  | .hbm, ⟨61, _⟩ => ⟨S4x8x8192x8192, .f32⟩
  | .hbm, ⟨62, _⟩ => ⟨S4x8x8192x64, .f32⟩
  | .hbm, ⟨63, _⟩ => ⟨S4x8192x8x64, .f32⟩
  | .hbm, ⟨64, _⟩ => ⟨S32768x512, .f32⟩
  | .hbm, ⟨65, _⟩ => ⟨S32768x512, .bf16⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_0 : Ref sig .tc := ⟨.hbm, 44, rfl⟩
abbrev main_call0_v0 : Ref sig .tc := ⟨.hbm, 45, rfl⟩
abbrev main_call0_v1 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 14
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1024x5632, .bf16⟩
  | .hbm, ⟨11, _⟩ => ⟨S2816x1024, .bf16⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 60
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S32768x512, .f32⟩
  | .hbm, ⟨9, _⟩ => ⟨S32768x512, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x5632, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S_, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x1024, .f32⟩
  | .hbm, ⟨56, _⟩ => ⟨S32768x1024, .f32⟩
  | .hbm, ⟨57, _⟩ => ⟨S1x1024, .f32⟩
  | .hbm, ⟨58, _⟩ => ⟨S32768x1024, .f32⟩
  | .hbm, ⟨59, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Proof.Pre.lean ====
/- What the preconditions say: the table's words, and finite queries, keys and gates. -/
module

public import proofs.«01_k».proof.Proof.Gen.Pre_in_range
public import proofs.«01_k».proof.Proof.Gen.Pre_in_range_finite
public import Idealize.ShloMosaic.Lib.ReduceAll
public import Idealize.ShloMosaic.Lib.ValueIdx
public import Idealize.ShloMosaic.Lib.WordCmp

@[expose] public section

noncomputable section

namespace Cert.Pre

open Idealize.ShloMosaic Idealize.ShloMosaic.WordCmp

variable {F : FTy → Type} [FloatOps F]

instance : Subsingleton (Cert.Pre_in_range.S_).Idx := ⟨fun a b => funext fun x => x.elim0⟩
instance : Subsingleton (Cert.Pre_in_range_finite.S_).Idx := ⟨fun a b => funext fun x => x.elim0⟩

/-- The index of table entry `n` in the table read as eight rows of sixteen. -/
def rowIdx (n : Fin 128) : (Cert.Pre_in_range.S8x16).Idx := fun a => match a with
  | ⟨0, _⟩ => (⟨n.val / 16, by omega⟩ : Fin 8)
  | ⟨1, _⟩ => (⟨n.val % 16, by omega⟩ : Fin 16)

/-- The index of entry `n` in the flat table. -/
def tix (n : Fin 128) : (Cert.Pre_in_range.S128).Idx := fun a => match a with
  | ⟨0, _⟩ => n

theorem le_of_cmp (w : BitVec 32) (k : ℕ) (hk : k < 16)
    (h1 : IntOp.cmpi .sge w 0#32 = 1#1) (h2 : IntOp.cmpi .sle w (BitVec.ofNat 32 k) = 1#1) : w.toNat ≤ k := by
  rw [cmpi_sge_zero, ofBool_eq_one_iff] at h1
  have h1' := of_decide_eq_true h1
  rw [cmpi_sle_of_lt h1' (by rw [BitVec.toNat_ofNat]; omega), ofBool_eq_one_iff] at h2
  have := of_decide_eq_true h2
  rw [BitVec.toNat_ofNat] at this; omega

theorem word_le (a0 : IVec Cert.Pre_in_range.S128 32) (a1 a2 a3 : FVec F Cert.Pre_in_range.S4x8192x512 .f32) (a4 : FVec F Cert.Pre_in_range.S4x8192x8 .f32)
    (h : Cert.Pre_in_range.fn a0 a1 a2 a3 a4 = fun _ => 1#1) (n : Fin 128) : (a0 (tix n)).toNat ≤ n.val % 16 := by
  have e := congrFun h (fun a => a.elim0)
  unfold Cert.Pre_in_range.fn at e
  have e := Host.reduce_andi_all _ _ _ _ _ e (rowIdx n)
  obtain ⟨h1, h2⟩ := IntOp.andi_eq_one.1 e
  have hx : (shapeCast Cert.Pre_in_range.S8x16 a0 Cert.Pre_in_range.Gen.shapeCasts_S128_S8x16) (rowIdx n) = a0 (tix n) := by
    refine congrArg a0 (Shape.reshapeEquiv_eq_of_rowMajor _ ?_)
    rw [Shape.rowMajor_val_one, Shape.rowMajor_val_two]
    show n.val = n.val / 16 * 16 + n.val % 16
    omega
  have h1 : IntOp.cmpi .sge ((shapeCast Cert.Pre_in_range.S8x16 a0 Cert.Pre_in_range.Gen.shapeCasts_S128_S8x16) (rowIdx n)) 0#32 = 1#1 := h1
  have h2 : IntOp.cmpi .sle ((shapeCast Cert.Pre_in_range.S8x16 a0 Cert.Pre_in_range.Gen.shapeCasts_S128_S8x16) (rowIdx n)) (BitVec.ofNat 32 (n.val % 16)) = 1#1 := h2
  rw [hx] at h1 h2
  exact le_of_cmp _ _ (by omega) h1 h2

theorem word_le' (a0 : IVec Cert.Pre_in_range_finite.S128 32) (a1 a2 a3 : FVec F Cert.Pre_in_range_finite.S4x8192x512 .f32) (a4 : FVec F Cert.Pre_in_range_finite.S4x8192x8 .f32)
    (h : Cert.Pre_in_range_finite.fn a0 a1 a2 a3 a4 = fun _ => 1#1) (n : Fin 128) : (a0 (tix n)).toNat ≤ n.val % 16 := by
  have e := congrFun h (fun a => a.elim0)
  unfold Cert.Pre_in_range_finite.fn Cert.Pre_in_range_finite.fn_part1 at e
  obtain ⟨e, -⟩ := IntOp.andi_eq_one.1 e
  obtain ⟨e, -⟩ := IntOp.andi_eq_one.1 e
  obtain ⟨e, -⟩ := IntOp.andi_eq_one.1 e
  have e := Host.reduce_andi_all _ _ _ _ _ e (rowIdx n)
  obtain ⟨h1, h2⟩ := IntOp.andi_eq_one.1 e
  have hx : (shapeCast Cert.Pre_in_range_finite.S8x16 a0 Cert.Pre_in_range_finite.Gen.shapeCasts_S128_S8x16) (rowIdx n) = a0 (tix n) := by
    refine congrArg a0 (Shape.reshapeEquiv_eq_of_rowMajor _ ?_)
    rw [Shape.rowMajor_val_one, Shape.rowMajor_val_two]
    show n.val = n.val / 16 * 16 + n.val % 16
    omega
  have h1 : IntOp.cmpi .sge ((shapeCast Cert.Pre_in_range_finite.S8x16 a0 Cert.Pre_in_range_finite.Gen.shapeCasts_S128_S8x16) (rowIdx n)) 0#32 = 1#1 := h1
  have h2 : IntOp.cmpi .sle ((shapeCast Cert.Pre_in_range_finite.S8x16 a0 Cert.Pre_in_range_finite.Gen.shapeCasts_S128_S8x16) (rowIdx n)) (BitVec.ofNat 32 (n.val % 16)) = 1#1 := h2
  rw [hx] at h1 h2
  exact le_of_cmp _ _ (by omega) h1 h2

theorem lt_of_ogt (x : EReal) (h : FloatOps.cmpf (F := Ideal) (φ := .f32) .ogt x (FloatOps.ofBits (F := Ideal) .f32 0xFF800000#32) = 1#1) : x ≠ ⊥ := by
  have hb : (FloatOps.ofBits (F := Ideal) .f32 0xFF800000#32 : EReal) = ⊥ := by
    simp [FloatOps.ofBits, Ideal.ofBits, Ideal.ieee]
  rintro rfl
  rw [hb] at h
  simp [FloatOps.cmpf, Ideal.cmp] at h

theorem gt_of_olt (x : EReal) (h : FloatOps.cmpf (F := Ideal) (φ := .f32) .olt x (FloatOps.ofBits (F := Ideal) .f32 0x7F800000#32) = 1#1) : x ≠ ⊤ := by
  have hb : (FloatOps.ofBits (F := Ideal) .f32 0x7F800000#32 : EReal) = ⊤ := by
    simp [FloatOps.ofBits, Ideal.ofBits, Ideal.ieee]
  rintro rfl
  rw [hb] at h
  simp [FloatOps.cmpf, Ideal.cmp] at h

theorem finite (a0 : IVec Cert.Pre_in_range_finite.S128 32) (a1 a2 a3 : FVec Ideal Cert.Pre_in_range_finite.S4x8192x512 .f32) (a4 : FVec Ideal Cert.Pre_in_range_finite.S4x8192x8 .f32)
    (h : Cert.Pre_in_range_finite.fn a0 a1 a2 a3 a4 = fun _ => 1#1) :
    (∀ x, (a1 x : EReal) ≠ ⊥ ∧ (a1 x : EReal) ≠ ⊤) ∧ (∀ x, (a2 x : EReal) ≠ ⊥ ∧ (a2 x : EReal) ≠ ⊤) ∧ (∀ x, (a4 x : EReal) ≠ ⊥ ∧ (a4 x : EReal) ≠ ⊤) := by
  have e := congrFun h (fun a => a.elim0)
  unfold Cert.Pre_in_range_finite.fn Cert.Pre_in_range_finite.fn_part1 at e
  obtain ⟨e, e4⟩ := IntOp.andi_eq_one.1 e
  obtain ⟨e, e2⟩ := IntOp.andi_eq_one.1 e
  obtain ⟨-, e1⟩ := IntOp.andi_eq_one.1 e
  refine ⟨fun x => ?_, fun x => ?_, fun x => ?_⟩
  · obtain ⟨h1, h2⟩ := IntOp.andi_eq_one.1 (Host.reduce_andi_all _ _ _ _ _ e1 x)
    exact ⟨lt_of_ogt _ h1, gt_of_olt _ h2⟩
  · obtain ⟨h1, h2⟩ := IntOp.andi_eq_one.1 (Host.reduce_andi_all _ _ _ _ _ e2 x)
    exact ⟨lt_of_ogt _ h1, gt_of_olt _ h2⟩
  · obtain ⟨h1, h2⟩ := IntOp.andi_eq_one.1 (Host.reduce_andi_all _ _ _ _ _ e4 x)
    exact ⟨lt_of_ogt _ h1, gt_of_olt _ h2⟩

end Cert.Pre

end
-- ==== Proof.KernelIdealHeads.lean ====
/- The attention kernel's state per head, and what one step of its recurrence over key tiles does to it. -/
module

public import proofs.«01_k».proof.Proof.Gen.KernelIdeal.Loops
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- One head's running state: the current tile's scores, their column maxima, the running maxima, the last
rescaling factors, the rescaled sums (numerators over denominators) and the last tile's weights. -/
structure HS (F : FTy → Type) [FloatOps F] where
  s : Vec F S512x512 .f32
  p : Vec F S512x512 .bf16
  bm : Vec F S1x512 .f32
  m : Vec F S1x512 .f32
  al : Vec F S1x512 .f32
  acc : Vec F S80x512 .f32

/-- Add the last tile's weighted values to the rescaled sums. -/
def HS.upd (h : HS F) (v : Vec F S1x64x512 .bf16) : HS F := { h with acc := k0_pay3 v h.al h.acc h.p }
/-- Turn the current scores into weights against the new running maximum. -/
def HS.soft (h : HS F) : HS F :=
  { h with p := k0_pay7 (k0_pay6 h.s h.bm h.m), m := k0_pay8 (k0_pay4 h.bm h.m), al := k0_pay5 h.bm h.m }
/-- Compute the next tile's scores and their column maxima. -/
def HS.score (h : HS F) (k : Vec F S512x128 .bf16) (f : Vec F S512x128 .bf16) (q : Vec F S256x512 .bf16) : HS F :=
  { h with s := k0_pay10 k f q, bm := k0_pay11 k f q }
/-- One trip of the recurrence: the last tile's values added, the current tile's weights, the next tile's scores. -/
def HS.trip (h : HS F) (v : Vec F S1x64x512 .bf16) (k f : Vec F S512x128 .bf16) (q : Vec F S256x512 .bf16) : HS F :=
  ((h.upd v).soft).score k f q

/-- A load through a whole memref held at the contents that read `X`. -/
theorem readAt_ld {κ : Kind} {sp : Space} {s : Shape} {e : EltTy} {m : Memref sig κ sp s e} (h : m.IsWhole)
    (X : s.Idx → Elt F e) (r : Rect s) : m.view.readAt (Elt F) r.toLoadRect (h.unread X) = View.ld X r :=
  funext fun x => h.readAt_unread X r.toLoadRect x

/-- The six buffers of one head. -/
def ownsHS (c : Dev nD) (ms : Memref sig .tc .vmem S512x512 .f32) (mp : Memref sig .tc .vmem S512x512 .bf16)
    (mb mm ma : Memref sig .tc .vmem S1x512 .f32) (mc : Memref sig .tc .vmem S80x512 .f32) (h : HS F) :
    sProp (MT nD τ sig Unit (Elt F) ℕ (UR sig nD τ) ℕ) :=
  iprop(owns (c : Thread nD τ) ms fullShare h.s ∗ owns (c : Thread nD τ) mp fullShare h.p
    ∗ owns (c : Thread nD τ) mb fullShare h.bm ∗ owns (c : Thread nD τ) mm fullShare h.m
    ∗ owns (c : Thread nD τ) ma fullShare h.al ∗ owns (c : Thread nD τ) mc fullShare h.acc)

/-- A whole memref owned at `X` is its points-to at the contents that read `X`. -/
theorem owns_eq (c : Dev nD) {sp : Space} {sh : Shape} {e : EltTy} {m : Memref sig .tc sp sh e} (h : m.IsWhole)
    (q : PosShare TreeShare) (X : sh.Idx → Elt F e) :
    (owns (c : Thread nD τ) m q X : sProp (MT nD τ sig Unit (Elt F) ℕ (UR sig nD τ) ℕ))
      = iprop(m.view.loc (c : Thread nD τ) ↦[m.view.set]{q} h.unread X) := by
  have h₁ : (owns (c : Thread nD τ) m q X : sProp (MT nD τ sig Unit (Elt F) ℕ (UR sig nD τ) ℕ))
      ⊢ iprop(m.view.loc (c : Thread nD τ) ↦[m.view.set]{q} h.unread X) := by
    unfold owns
    iintro ⟨%f, %e, H⟩
    obtain rfl := h.eq_unread e
    iexact H
  have h₂ : (iprop(m.view.loc (c : Thread nD τ) ↦[m.view.set]{q} h.unread X) : sProp (MT nD τ sig Unit (Elt F) ℕ (UR sig nD τ) ℕ))
      ⊢ owns (c : Thread nD τ) m q X := by
    unfold owns
    iintro H
    iexists _; isplitr; swap; · iexact H
    ipureintro; exact h.read_unread _
  exact BI.equiv_iff.mp ⟨h₁, h₂⟩

/-- One head's buffers as points-tos. -/
theorem ownsHS_eq (c : Dev nD) {ms : Memref sig .tc .vmem S512x512 .f32} {mp : Memref sig .tc .vmem S512x512 .bf16}
    {mb mm ma : Memref sig .tc .vmem S1x512 .f32} {mc : Memref sig .tc .vmem S80x512 .f32}
    (hs : ms.IsWhole) (hp : mp.IsWhole) (hb : mb.IsWhole) (hm : mm.IsWhole) (ha : ma.IsWhole) (hc : mc.IsWhole) (h : HS F) :
    ownsHS c ms mp mb mm ma mc h
      = iprop((ms.view.loc (c : Thread nD τ) ↦[ms.view.set]{fullShare} hs.unread h.s)
        ∗ (mp.view.loc (c : Thread nD τ) ↦[mp.view.set]{fullShare} hp.unread h.p)
        ∗ (mb.view.loc (c : Thread nD τ) ↦[mb.view.set]{fullShare} hb.unread h.bm)
        ∗ (mm.view.loc (c : Thread nD τ) ↦[mm.view.set]{fullShare} hm.unread h.m)
        ∗ (ma.view.loc (c : Thread nD τ) ↦[ma.view.set]{fullShare} ha.unread h.al)
        ∗ (mc.view.loc (c : Thread nD τ) ↦[mc.view.set]{fullShare} hc.unread h.acc)) := by
  unfold ownsHS
  rw [owns_eq c hs, owns_eq c hp, owns_eq c hb, owns_eq c hm, owns_eq c ha, owns_eq c hc]

theorem ld_S1x512 {e : EltTy} (X : S1x512.Idx → Elt F e) (inb) : View.ld X (Rect.unit (s := S1x512) ![0, 0] ![1, 512] inb) = X :=
  View.ld_unit_zero (S := S1x512) (by decide) _ X
theorem ld_S80x512 {e : EltTy} (X : S80x512.Idx → Elt F e) (inb) : View.ld X (Rect.unit (s := S80x512) ![0, 0] ![80, 512] inb) = X :=
  View.ld_unit_zero (S := S80x512) (by decide) _ X
theorem ld_S512x512 {e : EltTy} (X : S512x512.Idx → Elt F e) (inb) : View.ld X (Rect.unit (s := S512x512) ![0, 0] ![512, 512] inb) = X :=
  View.ld_unit_zero (S := S512x512) (by decide) _ X
theorem ld_S256x512 {e : EltTy} (X : S256x512.Idx → Elt F e) (inb) : View.ld X (Rect.unit (s := S256x512) ![0, 0] ![256, 512] inb) = X :=
  View.ld_unit_zero (S := S256x512) (by decide) _ X

end Cert.KernelIdeal.Gen

end
-- ==== Proof.KernelIdealTrip.lean ====
/- One trip of the attention kernel's loop over key tiles. -/
module

public import proofs.«01_k».proof.Proof.KernelIdealHeads

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (arg3 : Memref sig .tc .smem S128 .i32) (harg3 : arg3.IsWhole) (arg4 : Memref sig .tc .vmem S512x256 .bf16) (harg4 : arg4.IsWhole) (arg5 : Memref sig .tc .vmem S512x128 .bf16) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S1x256x8192 .bf16) (harg8 : arg8.IsWhole) (arg9 : Memref sig .tc .vmem S512x256 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x512 .bf16) (harg21 : arg21.IsWhole) (arg22 : Memref sig .tc .vmem S1x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S1x512 .f32) (harg30 : arg30.IsWhole) (arg31 : Memref sig .tc .vmem S1x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S80x512 .f32) (harg34 : arg34.IsWhole) (arg35 : Memref sig .tc .vmem S80x512 .f32) (harg35 : arg35.IsWhole) (arg36 : Memref sig .tc .vmem S80x512 .f32) (harg36 : arg36.IsWhole) (arg37 : Memref sig .tc .vmem S80x512 .f32) (harg37 : arg37.IsWhole) (arg2 : BitVec 32) (arg38 : BitVec 32)

set_option maxHeartbeats 4000000 in
/-- One trip takes every head's state through one step of the recurrence, the operands held as they were. -/
theorem trip (c : Dev nD) (E : Set ℕ) (i : grid0.Coords) (arg2 : BitVec 32) (v5 : Elt F .i32) (hw : k0_chk1 i v5) (v253 : BitVec 32)
    (k : Fin (k0_t1_loop i v5).trips) (x6 : Vec F S8192x256 .bf16) (x7 : Vec F S8192x128 .bf16) (x8 : Vec F S1x256x8192 .bf16)
    (y0 y1 y2 y3 : Vec F S256x512 .bf16) (h0 h1 h2 h3 : HS F) :
    (iprop(owns (c : Thread nD τ) arg6 fullShare x6 ∗ owns (c : Thread nD τ) arg7 fullShare x7 ∗ owns (c : Thread nD τ) arg8 fullShare x8 ∗ owns (c : Thread nD τ) arg10 fullShare y0 ∗ owns (c : Thread nD τ) arg11 fullShare y1 ∗ owns (c : Thread nD τ) arg12 fullShare y2 ∗ owns (c : Thread nD τ) arg13 fullShare y3 ∗ ownsHS c arg14 arg18 arg22 arg26 arg30 arg34 h0 ∗ ownsHS c arg15 arg19 arg23 arg27 arg31 arg35 h1 ∗ ownsHS c arg16 arg20 arg24 arg28 arg32 arg36 h2 ∗ ownsHS c arg17 arg21 arg25 arg29 arg33 arg37 h3) : sProp (MT nD τ sig Unit (Elt F) ℕ (UR sig nD τ) ℕ))
      ⊢ wp frame (wpE (defs₀ (F := F)) Variants.none c none) E
          (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg2 v5 hw v253 k ())
          (fun _ => iprop(owns (c : Thread nD τ) arg6 fullShare x6 ∗ owns (c : Thread nD τ) arg7 fullShare x7 ∗ owns (c : Thread nD τ) arg8 fullShare x8 ∗ owns (c : Thread nD τ) arg10 fullShare y0 ∗ owns (c : Thread nD τ) arg11 fullShare y1 ∗ owns (c : Thread nD τ) arg12 fullShare y2 ∗ owns (c : Thread nD τ) arg13 fullShare y3 ∗ ownsHS c arg14 arg18 arg22 arg26 arg30 arg34 (h0.trip (View.ld x8 (Rect.unit (s := S1x256x8192) (k0_off5 i v5 k) S1x64x512.size (k0_off5_inb i v5 hw k))) (View.ld x6 (Rect.unit (s := S8192x256) (k0_off6 i v5 k) S512x128.size (k0_off6_inb i v5 hw k))) (View.ld x7 (Rect.unit (s := S8192x128) (k0_off7 i v5 k) S512x128.size (k0_off7_inb i v5 hw k))) y0) ∗ ownsHS c arg15 arg19 arg23 arg27 arg31 arg35 (h1.trip (View.ld x8 (Rect.unit (s := S1x256x8192) (k0_off8 i v5 k) S1x64x512.size (k0_off8_inb i v5 hw k))) (View.ld x6 (Rect.unit (s := S8192x256) (k0_off6 i v5 k) S512x128.size (k0_off6_inb i v5 hw k))) (View.ld x7 (Rect.unit (s := S8192x128) (k0_off7 i v5 k) S512x128.size (k0_off7_inb i v5 hw k))) y1) ∗ ownsHS c arg16 arg20 arg24 arg28 arg32 arg36 (h2.trip (View.ld x8 (Rect.unit (s := S1x256x8192) (k0_off9 i v5 k) S1x64x512.size (k0_off9_inb i v5 hw k))) (View.ld x6 (Rect.unit (s := S8192x256) (k0_off10 i v5 k) S512x128.size (k0_off10_inb i v5 hw k))) (View.ld x7 (Rect.unit (s := S8192x128) (k0_off7 i v5 k) S512x128.size (k0_off7_inb i v5 hw k))) y2) ∗ ownsHS c arg17 arg21 arg25 arg29 arg33 arg37 (h3.trip (View.ld x8 (Rect.unit (s := S1x256x8192) (k0_off11 i v5 k) S1x64x512.size (k0_off11_inb i v5 hw k))) (View.ld x6 (Rect.unit (s := S8192x256) (k0_off10 i v5 k) S512x128.size (k0_off10_inb i v5 hw k))) (View.ld x7 (Rect.unit (s := S8192x128) (k0_off7 i v5 k) S512x128.size (k0_off7_inb i v5 hw k))) y3))) := by
  rw [owns_eq c harg6, owns_eq c harg7, owns_eq c harg8, owns_eq c harg10, owns_eq c harg11, owns_eq c harg12, owns_eq c harg13, ownsHS_eq c harg14 harg18 harg22 harg26 harg30 harg34 h0, ownsHS_eq c harg15 harg19 harg23 harg27 harg31 harg35 h1, ownsHS_eq c harg16 harg20 harg24 harg28 harg32 harg36 h2, ownsHS_eq c harg17 harg21 harg25 harg29 harg33 harg37 h3]
  unfold k0_t1_body
  iintro ⟨H6, H7, H8, H10, H11, H12, H13, ⟨H14, H18, H22, H26, H30, H34⟩, ⟨H15, H19, H23, H27, H31, H35⟩, ⟨H16, H20, H24, H28, H32, H36⟩, ⟨H17, H21, H25, H29, H33, H37⟩⟩
  sl_exec
  sl_step
  isplitl [H6]
  · iexact H6
  isplitl [H7]
  · iexact H7
  isplitl [H8]
  · iexact H8
  isplitl [H10]
  · iexact H10
  isplitl [H11]
  · iexact H11
  isplitl [H12]
  · iexact H12
  isplitl [H13]
  · iexact H13
  isplitl [H14 H18 H22 H26 H30 H34]
  · unfold ownsHS
    isplitl [H14]
    · unfold owns; iexists _; isplitr; swap; · iexact H14
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      (try rw [readAt_ld harg6, readAt_ld harg7])
      rfl
    isplitl [H18]
    · unfold owns; iexists _; isplitr; swap; · iexact H18
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      skip
      rfl
    isplitl [H22]
    · unfold owns; iexists _; isplitr; swap; · iexact H22
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      (try rw [readAt_ld harg6, readAt_ld harg7])
      dsimp only [HS.trip, HS.score, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay100, k0_pay101, k0_pay102, k0_pay103, k0_pay104, k0_pay105, k0_pay106, k0_pay107, k0_pay108, k0_pay109, k0_pay110, k0_pay111]
    isplitl [H26]
    · unfold owns; iexists _; isplitr; swap; · iexact H26
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      skip
      rfl
    isplitl [H30]
    · unfold owns; iexists _; isplitr; swap; · iexact H30
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      skip
      rfl
    · unfold owns; iexists _; isplitr; swap; · iexact H34
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      (try rw [readAt_ld harg8])
      rfl
  isplitl [H15 H19 H23 H27 H31 H35]
  · unfold ownsHS
    isplitl [H15]
    · unfold owns; iexists _; isplitr; swap; · iexact H15
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      (try rw [readAt_ld harg6, readAt_ld harg7])
      rfl
    isplitl [H19]
    · unfold owns; iexists _; isplitr; swap; · iexact H19
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      skip
      rfl
    isplitl [H23]
    · unfold owns; iexists _; isplitr; swap; · iexact H23
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      (try rw [readAt_ld harg6, readAt_ld harg7])
      dsimp only [HS.trip, HS.score, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay100, k0_pay101, k0_pay102, k0_pay103, k0_pay104, k0_pay105, k0_pay106, k0_pay107, k0_pay108, k0_pay109, k0_pay110, k0_pay111]
    isplitl [H27]
    · unfold owns; iexists _; isplitr; swap; · iexact H27
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      skip
      rfl
    isplitl [H31]
    · unfold owns; iexists _; isplitr; swap; · iexact H31
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      skip
      rfl
    · unfold owns; iexists _; isplitr; swap; · iexact H35
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      (try rw [readAt_ld harg8])
      rfl
  isplitl [H16 H20 H24 H28 H32 H36]
  · unfold ownsHS
    isplitl [H16]
    · unfold owns; iexists _; isplitr; swap; · iexact H16
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      (try rw [readAt_ld harg6, readAt_ld harg7])
      rfl
    isplitl [H20]
    · unfold owns; iexists _; isplitr; swap; · iexact H20
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      skip
      rfl
    isplitl [H24]
    · unfold owns; iexists _; isplitr; swap; · iexact H24
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      (try rw [readAt_ld harg6, readAt_ld harg7])
      dsimp only [HS.trip, HS.score, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay100, k0_pay101, k0_pay102, k0_pay103, k0_pay104, k0_pay105, k0_pay106, k0_pay107, k0_pay108, k0_pay109, k0_pay110, k0_pay111]
    isplitl [H28]
    · unfold owns; iexists _; isplitr; swap; · iexact H28
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      skip
      rfl
    isplitl [H32]
    · unfold owns; iexists _; isplitr; swap; · iexact H32
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      skip
      rfl
    · unfold owns; iexists _; isplitr; swap; · iexact H36
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      (try rw [readAt_ld harg8])
      rfl
  · unfold ownsHS
    isplitl [H17]
    · unfold owns; iexists _; isplitr; swap; · iexact H17
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      (try rw [readAt_ld harg6, readAt_ld harg7])
      rfl
    isplitl [H21]
    · unfold owns; iexists _; isplitr; swap; · iexact H21
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      skip
      rfl
    isplitl [H25]
    · unfold owns; iexists _; isplitr; swap; · iexact H25
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      (try rw [readAt_ld harg6, readAt_ld harg7])
      dsimp only [HS.trip, HS.score, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay100, k0_pay101, k0_pay102, k0_pay103, k0_pay104, k0_pay105, k0_pay106, k0_pay107, k0_pay108, k0_pay109, k0_pay110, k0_pay111]
    isplitl [H29]
    · unfold owns; iexists _; isplitr; swap; · iexact H29
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      skip
      rfl
    isplitl [H33]
    · unfold owns; iexists _; isplitr; swap; · iexact H33
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      skip
      rfl
    · unfold owns; iexists _; isplitr; swap; · iexact H37
      ipureintro; refine (View.read_writes_full _ _ _ _ _).trans ?_
      (try delta Gen.trip.sl.cst_294 Gen.trip.sl.cst_301 Gen.trip.sl.cst_322 Gen.trip.sl.cst_325 Gen.trip.sl.r Gen.trip.sl.r_1 Gen.trip.sl.r_2 Gen.trip.sl.r_3 Gen.trip.sl.r_4 Gen.trip.sl.r_5 Gen.trip.sl.v520 Gen.trip.sl.v521 Gen.trip.sl.v522 Gen.trip.sl.v524 Gen.trip.sl.v526 Gen.trip.sl.v527 Gen.trip.sl.v528 Gen.trip.sl.v531 Gen.trip.sl.v532 Gen.trip.sl.v534 Gen.trip.sl.v535 Gen.trip.sl.v537 Gen.trip.sl.v538 Gen.trip.sl.v542 Gen.trip.sl.v543 Gen.trip.sl.v544 Gen.trip.sl.v546 Gen.trip.sl.v547 Gen.trip.sl.v548 Gen.trip.sl.v549 Gen.trip.sl.v550 Gen.trip.sl.v551 Gen.trip.sl.v553 Gen.trip.sl.v554 Gen.trip.sl.v556 Gen.trip.sl.v557 Gen.trip.sl.v563 Gen.trip.sl.v566 Gen.trip.sl.v567 Gen.trip.sl.v569 Gen.trip.sl.v571 Gen.trip.sl.v572 Gen.trip.sl.v573 Gen.trip.sl.v574 Gen.trip.sl.v576 Gen.trip.sl.v577 Gen.trip.sl.v582 Gen.trip.sl.v584 Gen.trip.sl.v587 Gen.trip.sl.v588 Gen.trip.sl.v590 Gen.trip.sl.v591 Gen.trip.sl.v593 Gen.trip.sl.v594 Gen.trip.sl.v598 Gen.trip.sl.v599 Gen.trip.sl.v600 Gen.trip.sl.v602 Gen.trip.sl.v603 Gen.trip.sl.v604 Gen.trip.sl.v605 Gen.trip.sl.v606 Gen.trip.sl.v607 Gen.trip.sl.v609 Gen.trip.sl.v610 Gen.trip.sl.v612 Gen.trip.sl.v613 Gen.trip.sl.v622 Gen.trip.sl.v623 Gen.trip.sl.v625 Gen.trip.sl.v627 Gen.trip.sl.v628 Gen.trip.sl.v629 Gen.trip.sl.v630 Gen.trip.sl.v632 Gen.trip.sl.v633 Gen.trip.sl.v638 Gen.trip.sl.v640 Gen.trip.sl.v643 Gen.trip.sl.v644 Gen.trip.sl.v646 Gen.trip.sl.v647 Gen.trip.sl.v649 Gen.trip.sl.v650 Gen.trip.sl.v654 Gen.trip.sl.v655 Gen.trip.sl.v656 Gen.trip.sl.v658 Gen.trip.sl.v659 Gen.trip.sl.v660 Gen.trip.sl.v661 Gen.trip.sl.v662 Gen.trip.sl.v663 Gen.trip.sl.v665 Gen.trip.sl.v666 Gen.trip.sl.v668 Gen.trip.sl.v669 Gen.trip.sl.v675 Gen.trip.sl.v679 Gen.trip.sl.v681 Gen.trip.sl.v683 Gen.trip.sl.v684 Gen.trip.sl.v685 Gen.trip.sl.v686 Gen.trip.sl.v688 Gen.trip.sl.v689 Gen.trip.sl.v694 Gen.trip.sl.v696 Gen.trip.sl.v699 Gen.trip.sl.v700 Gen.trip.sl.v702 Gen.trip.sl.v703 Gen.trip.sl.v705 Gen.trip.sl.v706 Gen.trip.sl.v710 Gen.trip.sl.v711 Gen.trip.sl.v712 Gen.trip.sl.v714 Gen.trip.sl.v715 Gen.trip.sl.v716 Gen.trip.sl.v717 Gen.trip.sl.v718 Gen.trip.sl.v719 Gen.trip.sl.v721 Gen.trip.sl.v722)
      simp only [readAt_ld, ld_S1x512, ld_S80x512, ld_S512x512, ld_S256x512]
      (try rw [readAt_ld harg8])
      rfl

end Cert.KernelIdeal.Gen

end
-- ==== Proof.KernelIdealBody.lean ====
/- The attention kernel's body: what it leaves in its buffers. -/
module

public import proofs.«01_k».proof.Proof.KernelIdealTrip

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- What a head's queries are: the head's own columns of the transposed block, zeros elsewhere. -/
def qh0 (i : grid0.Coords) (x4 : Vec F S512x256 .bf16) (x5 : Vec F S512x128 .bf16) : Vec F S256x512 .bf16 :=
  k0_pay72 (k0_pay69 (View.ld x4 (Rect.unit (s := S512x256) ![0, 0] S512x128.size inb_S512x256_S512x128_0_0)) (View.ld x5 (Rect.unit (s := S512x128) ![0, 0] S512x128.size inb_S512x128_S512x128_0_0))) k0_pay70 (k0_pay71 i)
/-- The second head's queries. -/
def qh1 (i : grid0.Coords) (x4 : Vec F S512x256 .bf16) (x5 : Vec F S512x128 .bf16) : Vec F S256x512 .bf16 :=
  k0_pay73 (iota .tc S256x1 32 [0] iota_S256x1_d0_w32) (Scalar.muli (BitVec.ofNat 32 (i 1).val) 4#32) (k0_pay69 (View.ld x4 (Rect.unit (s := S512x256) ![0, 0] S512x128.size inb_S512x256_S512x128_0_0)) (View.ld x5 (Rect.unit (s := S512x128) ![0, 0] S512x128.size inb_S512x128_S512x128_0_0)))
/-- The third head's queries. -/
def qh2 (i : grid0.Coords) (x4 : Vec F S512x256 .bf16) (x5 : Vec F S512x128 .bf16) : Vec F S256x512 .bf16 :=
  k0_pay75 (iota .tc S256x1 32 [0] iota_S256x1_d0_w32) (Scalar.muli (BitVec.ofNat 32 (i 1).val) 4#32) (k0_pay74 (View.ld x4 (Rect.unit (s := S512x256) ![0, 128] S512x128.size inb_S512x256_S512x128_0_128)) (View.ld x5 (Rect.unit (s := S512x128) ![0, 0] S512x128.size inb_S512x128_S512x128_0_0))) 2#32
/-- The fourth head's queries. -/
def qh3 (i : grid0.Coords) (x4 : Vec F S512x256 .bf16) (x5 : Vec F S512x128 .bf16) : Vec F S256x512 .bf16 :=
  k0_pay77 (k0_pay74 (View.ld x4 (Rect.unit (s := S512x256) ![0, 128] S512x128.size inb_S512x256_S512x128_0_128)) (View.ld x5 (Rect.unit (s := S512x128) ![0, 0] S512x128.size inb_S512x128_S512x128_0_0))) (Scalar.ofBits .f32 0x00000000#32) (k0_pay76 (iota .tc S256x1 32 [0] iota_S256x1_d0_w32) (Scalar.muli (BitVec.ofNat 32 (i 1).val) 4#32))

/-- A head's state before the loop: the first tile's scores, the maxima at the mask's value, sums at zero. -/
def HS.start (p : Vec F S512x512 .bf16) (k f : Vec F S512x128 .bf16) (q : Vec F S256x512 .bf16) : HS F :=
  ⟨k0_pay79 k f q, p, k0_pay80 k f q, k0_pay92, k0_pay93, k0_pay91⟩
/-- A head's state after `k` trips, the trip's operands given by `g`. -/
def HS.iter (q : Vec F S256x512 .bf16) {n : ℕ} (g : Fin n → Vec F S1x64x512 .bf16 × Vec F S512x128 .bf16 × Vec F S512x128 .bf16) (h : HS F) : ℕ → HS F
  | 0 => h
  | k + 1 => if hk : k < n then (HS.iter q g h k).trip (g ⟨k, hk⟩).1 (g ⟨k, hk⟩).2.1 (g ⟨k, hk⟩).2.2 q else HS.iter q g h k
theorem HS.iter_succ (q : Vec F S256x512 .bf16) {n : ℕ} (g : Fin n → Vec F S1x64x512 .bf16 × Vec F S512x128 .bf16 × Vec F S512x128 .bf16) (h : HS F) (k : Fin n) :
    HS.iter q g h (k.val + 1) = (HS.iter q g h k.val).trip (g k).1 (g k).2.1 (g k).2.2 q := by
  simp only [HS.iter, k.isLt, dif_pos]
/-- The diagonal tile's weights: keys after the query masked, then the step against the running maximum. -/
def HS.diag (h : HS F) : HS F :=
  { h with p := k0_pay117 (k0_pay113 h.s) (k0_pay114 h.s h.m), m := k0_pay118 (k0_pay114 h.s h.m), al := k0_pay116 (k0_pay115 h.s h.m) }
/-- After the loop: the last tile's values, the diagonal tile's weights, the diagonal tile's values. -/
def HS.fin (h : HS F) (v v' : Vec F S1x64x512 .bf16) : HS F := ((h.upd v).diag).upd v'

/-- What trip `k` loads for head 0. -/
def g0 (i : grid0.Coords) (v5 : BitVec 32) (hw : k0_chk1 i v5) (x6 : Vec F S8192x256 .bf16) (x7 : Vec F S8192x128 .bf16) (x8 : Vec F S1x256x8192 .bf16)
    (k : Fin (k0_t1_loop i v5).trips) : Vec F S1x64x512 .bf16 × Vec F S512x128 .bf16 × Vec F S512x128 .bf16 :=
  ⟨View.ld x8 (Rect.unit (s := S1x256x8192) (k0_off5 i v5 k) S1x64x512.size (k0_off5_inb i v5 hw k)),
   View.ld x6 (Rect.unit (s := S8192x256) (k0_off6 i v5 k) S512x128.size (k0_off6_inb i v5 hw k)),
   View.ld x7 (Rect.unit (s := S8192x128) (k0_off7 i v5 k) S512x128.size (k0_off7_inb i v5 hw k))⟩
/-- Head 0's state after `k` trips. -/
def st0 (i : grid0.Coords) (v5 : BitVec 32) (hw : k0_chk1 i v5) (x4 : Vec F S512x256 .bf16) (x5 : Vec F S512x128 .bf16) (x6 : Vec F S8192x256 .bf16) (x7 : Vec F S8192x128 .bf16) (x8 : Vec F S1x256x8192 .bf16) (p : Vec F S512x512 .bf16) (k : ℕ) : HS F :=
  HS.iter (qh0 i x4 x5) (g0 i v5 hw x6 x7 x8) (HS.start p
    (View.ld x6 (Rect.unit (s := S8192x256) (k0_off2 v5) S512x128.size (k0_off2_inb i v5 hw)))
    (View.ld x7 (Rect.unit (s := S8192x128) (k0_off3 v5) S512x128.size (k0_off3_inb i v5 hw))) (qh0 i x4 x5)) k
/-- Head 0's state at the end. -/
def fin0 (i : grid0.Coords) (v5 : BitVec 32) (hw : k0_chk1 i v5) (x4 : Vec F S512x256 .bf16) (x5 : Vec F S512x128 .bf16) (x6 : Vec F S8192x256 .bf16) (x7 : Vec F S8192x128 .bf16) (x8 : Vec F S1x256x8192 .bf16) (p : Vec F S512x512 .bf16) : HS F :=
  (st0 i v5 hw x4 x5 x6 x7 x8 p (k0_t1_loop i v5).trips).fin
    (View.ld x8 (Rect.unit (s := S1x256x8192) (k0_off19 i v5) S1x64x512.size (k0_off19_inb i v5 hw)))
    (View.ld x8 (Rect.unit (s := S1x256x8192) (k0_off23 i) S1x64x512.size (k0_off23_inb i)))

/-- What trip `k` loads for head 1. -/
def g1 (i : grid0.Coords) (v5 : BitVec 32) (hw : k0_chk1 i v5) (x6 : Vec F S8192x256 .bf16) (x7 : Vec F S8192x128 .bf16) (x8 : Vec F S1x256x8192 .bf16)
    (k : Fin (k0_t1_loop i v5).trips) : Vec F S1x64x512 .bf16 × Vec F S512x128 .bf16 × Vec F S512x128 .bf16 :=
  ⟨View.ld x8 (Rect.unit (s := S1x256x8192) (k0_off8 i v5 k) S1x64x512.size (k0_off8_inb i v5 hw k)),
   View.ld x6 (Rect.unit (s := S8192x256) (k0_off6 i v5 k) S512x128.size (k0_off6_inb i v5 hw k)),
   View.ld x7 (Rect.unit (s := S8192x128) (k0_off7 i v5 k) S512x128.size (k0_off7_inb i v5 hw k))⟩
/-- Head 1's state after `k` trips. -/
def st1 (i : grid0.Coords) (v5 : BitVec 32) (hw : k0_chk1 i v5) (x4 : Vec F S512x256 .bf16) (x5 : Vec F S512x128 .bf16) (x6 : Vec F S8192x256 .bf16) (x7 : Vec F S8192x128 .bf16) (x8 : Vec F S1x256x8192 .bf16) (p : Vec F S512x512 .bf16) (k : ℕ) : HS F :=
  HS.iter (qh1 i x4 x5) (g1 i v5 hw x6 x7 x8) (HS.start p
    (View.ld x6 (Rect.unit (s := S8192x256) (k0_off2 v5) S512x128.size (k0_off2_inb i v5 hw)))
    (View.ld x7 (Rect.unit (s := S8192x128) (k0_off3 v5) S512x128.size (k0_off3_inb i v5 hw))) (qh1 i x4 x5)) k
/-- Head 1's state at the end. -/
def fin1 (i : grid0.Coords) (v5 : BitVec 32) (hw : k0_chk1 i v5) (x4 : Vec F S512x256 .bf16) (x5 : Vec F S512x128 .bf16) (x6 : Vec F S8192x256 .bf16) (x7 : Vec F S8192x128 .bf16) (x8 : Vec F S1x256x8192 .bf16) (p : Vec F S512x512 .bf16) : HS F :=
  (st1 i v5 hw x4 x5 x6 x7 x8 p (k0_t1_loop i v5).trips).fin
    (View.ld x8 (Rect.unit (s := S1x256x8192) (k0_off20 i v5) S1x64x512.size (k0_off20_inb i v5 hw)))
    (View.ld x8 (Rect.unit (s := S1x256x8192) (k0_off24 i) S1x64x512.size (k0_off24_inb i)))

/-- What trip `k` loads for head 2. -/
def g2 (i : grid0.Coords) (v5 : BitVec 32) (hw : k0_chk1 i v5) (x6 : Vec F S8192x256 .bf16) (x7 : Vec F S8192x128 .bf16) (x8 : Vec F S1x256x8192 .bf16)
    (k : Fin (k0_t1_loop i v5).trips) : Vec F S1x64x512 .bf16 × Vec F S512x128 .bf16 × Vec F S512x128 .bf16 :=
  ⟨View.ld x8 (Rect.unit (s := S1x256x8192) (k0_off9 i v5 k) S1x64x512.size (k0_off9_inb i v5 hw k)),
   View.ld x6 (Rect.unit (s := S8192x256) (k0_off10 i v5 k) S512x128.size (k0_off10_inb i v5 hw k)),
   View.ld x7 (Rect.unit (s := S8192x128) (k0_off7 i v5 k) S512x128.size (k0_off7_inb i v5 hw k))⟩
/-- Head 2's state after `k` trips. -/
def st2 (i : grid0.Coords) (v5 : BitVec 32) (hw : k0_chk1 i v5) (x4 : Vec F S512x256 .bf16) (x5 : Vec F S512x128 .bf16) (x6 : Vec F S8192x256 .bf16) (x7 : Vec F S8192x128 .bf16) (x8 : Vec F S1x256x8192 .bf16) (p : Vec F S512x512 .bf16) (k : ℕ) : HS F :=
  HS.iter (qh2 i x4 x5) (g2 i v5 hw x6 x7 x8) (HS.start p
    (View.ld x6 (Rect.unit (s := S8192x256) (k0_off4 v5) S512x128.size (k0_off4_inb i v5 hw)))
    (View.ld x7 (Rect.unit (s := S8192x128) (k0_off3 v5) S512x128.size (k0_off3_inb i v5 hw))) (qh2 i x4 x5)) k
/-- Head 2's state at the end. -/
def fin2 (i : grid0.Coords) (v5 : BitVec 32) (hw : k0_chk1 i v5) (x4 : Vec F S512x256 .bf16) (x5 : Vec F S512x128 .bf16) (x6 : Vec F S8192x256 .bf16) (x7 : Vec F S8192x128 .bf16) (x8 : Vec F S1x256x8192 .bf16) (p : Vec F S512x512 .bf16) : HS F :=
  (st2 i v5 hw x4 x5 x6 x7 x8 p (k0_t1_loop i v5).trips).fin
    (View.ld x8 (Rect.unit (s := S1x256x8192) (k0_off21 i v5) S1x64x512.size (k0_off21_inb i v5 hw)))
    (View.ld x8 (Rect.unit (s := S1x256x8192) (k0_off25 i) S1x64x512.size (k0_off25_inb i)))

/-- What trip `k` loads for head 3. -/
def g3 (i : grid0.Coords) (v5 : BitVec 32) (hw : k0_chk1 i v5) (x6 : Vec F S8192x256 .bf16) (x7 : Vec F S8192x128 .bf16) (x8 : Vec F S1x256x8192 .bf16)
    (k : Fin (k0_t1_loop i v5).trips) : Vec F S1x64x512 .bf16 × Vec F S512x128 .bf16 × Vec F S512x128 .bf16 :=
  ⟨View.ld x8 (Rect.unit (s := S1x256x8192) (k0_off11 i v5 k) S1x64x512.size (k0_off11_inb i v5 hw k)),
   View.ld x6 (Rect.unit (s := S8192x256) (k0_off10 i v5 k) S512x128.size (k0_off10_inb i v5 hw k)),
   View.ld x7 (Rect.unit (s := S8192x128) (k0_off7 i v5 k) S512x128.size (k0_off7_inb i v5 hw k))⟩
/-- Head 3's state after `k` trips. -/
def st3 (i : grid0.Coords) (v5 : BitVec 32) (hw : k0_chk1 i v5) (x4 : Vec F S512x256 .bf16) (x5 : Vec F S512x128 .bf16) (x6 : Vec F S8192x256 .bf16) (x7 : Vec F S8192x128 .bf16) (x8 : Vec F S1x256x8192 .bf16) (p : Vec F S512x512 .bf16) (k : ℕ) : HS F :=
  HS.iter (qh3 i x4 x5) (g3 i v5 hw x6 x7 x8) (HS.start p
    (View.ld x6 (Rect.unit (s := S8192x256) (k0_off4 v5) S512x128.size (k0_off4_inb i v5 hw)))
    (View.ld x7 (Rect.unit (s := S8192x128) (k0_off3 v5) S512x128.size (k0_off3_inb i v5 hw))) (qh3 i x4 x5)) k
/-- Head 3's state at the end. -/
def fin3 (i : grid0.Coords) (v5 : BitVec 32) (hw : k0_chk1 i v5) (x4 : Vec F S512x256 .bf16) (x5 : Vec F S512x128 .bf16) (x6 : Vec F S8192x256 .bf16) (x7 : Vec F S8192x128 .bf16) (x8 : Vec F S1x256x8192 .bf16) (p : Vec F S512x512 .bf16) : HS F :=
  (st3 i v5 hw x4 x5 x6 x7 x8 p (k0_t1_loop i v5).trips).fin
    (View.ld x8 (Rect.unit (s := S1x256x8192) (k0_off22 i v5) S1x64x512.size (k0_off22_inb i v5 hw)))
    (View.ld x8 (Rect.unit (s := S1x256x8192) (k0_off26 i) S1x64x512.size (k0_off26_inb i)))

/-- An index of a half block. -/
def colIdx (r : Fin 512) (k : Fin 128) : S512x128.Idx := fun a => match a with
  | ⟨0, _⟩ => r
  | ⟨1, _⟩ => k
/-- The block the body leaves: heads 0 and 1 in its left half, heads 2 and 3 in its right. -/
def outBlk (i : grid0.Coords) (v5 : BitVec 32) (hw : k0_chk1 i v5) (x4 : Vec F S512x256 .bf16) (x5 : Vec F S512x128 .bf16) (x6 : Vec F S8192x256 .bf16) (x7 : Vec F S8192x128 .bf16) (x8 : Vec F S1x256x8192 .bf16) (p0 p1 p2 p3 : Vec F S512x512 .bf16) : Vec F S512x256 .bf16 := fun x =>
  if h : (x 1).val < 128 then
    k0_pay1 (fin0 i v5 hw x4 x5 x6 x7 x8 p0).acc (fin1 i v5 hw x4 x5 x6 x7 x8 p1).acc (colIdx (x 0) ⟨(x 1).val, h⟩)
  else k0_pay2 (fin2 i v5 hw x4 x5 x6 x7 x8 p2).acc (fin3 i v5 hw x4 x5 x6 x7 x8 p3).acc
    (colIdx (x 0) ⟨(x 1).val - 128, by have := (x 1).isLt; change (x 1).val < 256 at this; omega⟩)

/-- The second loop has no trips: the first's step is one. -/
theorem t2_trips (i : grid0.Coords) (v5 : BitVec 32) : (k0_t2_loop i v5).trips = 0 := by
  have h : ∀ x : BitVec 32, Scalar.muli (Scalar.divsi x 1#32) 1#32 = x := by
    intro x; simp [Scalar.muli, Scalar.divsi, IntOp.muli, IntOp.divsi, IntOp.SDivCorner, BitVec.sdiv_one]
  unfold Scf.Loop.trips Scf.trips k0_t2_loop
  simp only [h]
  simp

theorem rc_S1x512 {e : EltTy} {κ : Kind} {sp : Space} (v : View sig κ sp S1x512 e) (inb) (inb') (w : S1x512.Idx → Elt F e) (L : List (View.Piece (Elt F) S1x512 e)) :
    v.readCov (⟨Rect.unit ![0, 0] ![1, 512] inb', w⟩ :: L) (Rect.unit ![0, 0] ![1, 512] inb).toLoadRect = w := View.readCov_full v inb inb' w L
theorem rc_S80x512 {e : EltTy} {κ : Kind} {sp : Space} (v : View sig κ sp S80x512 e) (inb) (inb') (w : S80x512.Idx → Elt F e) (L : List (View.Piece (Elt F) S80x512 e)) :
    v.readCov (⟨Rect.unit ![0, 0] ![80, 512] inb', w⟩ :: L) (Rect.unit ![0, 0] ![80, 512] inb).toLoadRect = w := View.readCov_full v inb inb' w L
theorem rc_S512x512 {e : EltTy} {κ : Kind} {sp : Space} (v : View sig κ sp S512x512 e) (inb) (inb') (w : S512x512.Idx → Elt F e) (L : List (View.Piece (Elt F) S512x512 e)) :
    v.readCov (⟨Rect.unit ![0, 0] ![512, 512] inb', w⟩ :: L) (Rect.unit ![0, 0] ![512, 512] inb).toLoadRect = w := View.readCov_full v inb inb' w L
theorem rc_S256x512 {e : EltTy} {κ : Kind} {sp : Space} (v : View sig κ sp S256x512 e) (inb) (inb') (w : S256x512.Idx → Elt F e) (L : List (View.Piece (Elt F) S256x512 e)) :
    v.readCov (⟨Rect.unit ![0, 0] ![256, 512] inb', w⟩ :: L) (Rect.unit ![0, 0] ![256, 512] inb).toLoadRect = w := View.readCov_full v inb inb' w L

/-- The two stores of the out block leave the block, whatever was there. -/
theorem outBlk_put (i : grid0.Coords) (v5 : BitVec 32) (hw : k0_chk1 i v5) (x4 : Vec F S512x256 .bf16) (x5 : Vec F S512x128 .bf16) (x6 : Vec F S8192x256 .bf16) (x7 : Vec F S8192x128 .bf16) (x8 : Vec F S1x256x8192 .bf16) (p0 p1 p2 p3 : Vec F S512x512 .bf16) (x9 : Vec F S512x256 .bf16)
    (a0 a1 a2 a3 : Vec F S80x512 .f32) (h0 : a0 = (fin0 i v5 hw x4 x5 x6 x7 x8 p0).acc) (h1 : a1 = (fin1 i v5 hw x4 x5 x6 x7 x8 p1).acc)
    (h2 : a2 = (fin2 i v5 hw x4 x5 x6 x7 x8 p2).acc) (h3 : a3 = (fin3 i v5 hw x4 x5 x6 x7 x8 p3).acc) :
    VecWindow.put (s := S512x256) (VecWindow.put (s := S512x256) x9 ![0, 0] S512x128.size (k0_pay1 a0 a1)) ![0, 128] S512x128.size (k0_pay2 a2 a3)
      = outBlk i v5 hw x4 x5 x6 x7 x8 p0 p1 p2 p3 := by
  subst h0 h1 h2 h3
  funext x
  have hx0 : (x 0).val < 512 := (x 0).isLt
  have hx1 : (x 1).val < 256 := (x 1).isLt
  unfold outBlk VecWindow.put
  by_cases h : (x 1).val < 128
  · rw [dif_neg (by intro H; have := (H 1).1; change 128 ≤ (x 1).val at this; omega), dif_pos (by
      intro a; match a with
      | ⟨0, _⟩ => exact ⟨Nat.zero_le _, by change (x 0).val < 0 + 512; omega⟩
      | ⟨1, _⟩ => exact ⟨Nat.zero_le _, by change (x 1).val < 0 + 128; omega⟩), dif_pos h]
    refine congrArg _ (funext fun a => Fin.ext ?_)
    match a with
    | ⟨0, _⟩ => rfl
    | ⟨1, _⟩ => rfl
  · rw [dif_pos (by
      intro a; match a with
      | ⟨0, _⟩ => exact ⟨Nat.zero_le _, by change (x 0).val < 0 + 512; omega⟩
      | ⟨1, _⟩ => exact ⟨by change 128 ≤ (x 1).val; omega, by change (x 1).val < 128 + 128; omega⟩), dif_neg h]
    refine congrArg _ (funext fun a => Fin.ext ?_)
    match a with
    | ⟨0, _⟩ => rfl
    | ⟨1, _⟩ => rfl

/-- The table's word at a point. -/
def tword (i : grid0.Coords) (x3 : Vec F S128 .i32) : BitVec 32 := x3 (fun a => match a with
  | ⟨0, _⟩ => ⟨k0_off1 i 0, by have := k0_off1_inb i 0; change k0_off1 i 0 + 1 ≤ 128 at this; change k0_off1 i 0 < 128; omega⟩)

/-- A prefix of a program, by its own triple. -/
theorem wp_bind_use {α β : Type} {E : Set ℕ} {c : Dev nD} {P R : sProp (MT nD τ sig Unit (Elt F) ℕ (UR sig nD τ) ℕ)} {p : Prog (TpuEff nD τ sig (Elt F) Λ₀ .tc) α}
    {k : α → Prog (TpuEff nD τ sig (Elt F) Λ₀ .tc) β} {Φ : α → sProp (MT nD τ sig Unit (Elt F) ℕ (UR sig nD τ) ℕ)} {Q : β → sProp (MT nD τ sig Unit (Elt F) ℕ (UR sig nD τ) ℕ)}
    (h : P ⊢ wp frame (wpE (defs₀ (F := F)) Variants.none c none) E p Φ)
    (hk : ∀ r, iprop(Φ r ∗ R) ⊢ wp frame (wpE (defs₀ (F := F)) Variants.none c none) E (k r) Q) :
    iprop(P ∗ R) ⊢ wp frame (wpE (defs₀ (F := F)) Variants.none c none) E (p >>= k) Q := by
  rw [wp_bind]
  exact (sep_mono_left h).trans (BIBase.Entails.trans (wp_frame_r _ _ _) (wp_mono _ _ _ hk))

section
variable (arg3 : Memref sig .tc .smem S128 .i32) (harg3 : arg3.IsWhole) (arg4 : Memref sig .tc .vmem S512x256 .bf16) (harg4 : arg4.IsWhole) (arg5 : Memref sig .tc .vmem S512x128 .bf16) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S1x256x8192 .bf16) (harg8 : arg8.IsWhole) (arg9 : Memref sig .tc .vmem S512x256 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x512 .bf16) (harg21 : arg21.IsWhole) (arg22 : Memref sig .tc .vmem S1x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S1x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S1x512 .f32) (harg30 : arg30.IsWhole) (arg31 : Memref sig .tc .vmem S1x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S80x512 .f32) (harg34 : arg34.IsWhole) (arg35 : Memref sig .tc .vmem S80x512 .f32) (harg35 : arg35.IsWhole) (arg36 : Memref sig .tc .vmem S80x512 .f32) (harg36 : arg36.IsWhole) (arg37 : Memref sig .tc .vmem S80x512 .f32) (harg37 : arg37.IsWhole) (arg2 : BitVec 32) (arg38 : BitVec 32)

set_option maxHeartbeats 4000000 in
/-- The body's opening: the table's word, the first tile's weights cleared at the first point only, the queries loaded. -/
theorem part13 (c : Dev nD) (E : Set ℕ) (i : grid0.Coords) (q3 : PosShare TreeShare) (x3 : Vec F S128 .i32) (x4 : Vec F S512x256 .bf16) (x5 : Vec F S512x128 .bf16)
    (p0 p1 p2 p3 : Vec F S512x512 .bf16) (hw : k0_chk1 i (tword (F := F) i x3)) :
    (iprop(owns (c : Thread nD τ) arg3 q3 x3 ∗ owns (c : Thread nD τ) arg4 fullShare x4 ∗ owns (c : Thread nD τ) arg5 fullShare x5 ∗ owns (c : Thread nD τ) arg18 fullShare p0 ∗ owns (c : Thread nD τ) arg19 fullShare p1 ∗ owns (c : Thread nD τ) arg20 fullShare p2 ∗ owns (c : Thread nD τ) arg21 fullShare p3) : sProp (MT nD τ sig Unit (Elt F) ℕ (UR sig nD τ) ℕ))
      ⊢ wp frame (wpE (defs₀ (F := F)) Variants.none c none) E (k0_part13 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37)
        (fun r => iprop(⌜r = ⟨BitVec.ofNat 32 (i 2).val, tword (F := F) i x3, hw, iota .tc S256x1 32 [0] iota_S256x1_d0_w32, Scalar.muli (BitVec.ofNat 32 (i 1).val) 4#32,
            k0_pay69 (View.ld x4 (Rect.unit (s := S512x256) ![0, 0] S512x128.size inb_S512x256_S512x128_0_0)) (View.ld x5 (Rect.unit (s := S512x128) ![0, 0] S512x128.size inb_S512x128_S512x128_0_0)), k0_pay70, k0_pay71 i⟩⌝ ∗ owns (c : Thread nD τ) arg3 q3 x3 ∗ owns (c : Thread nD τ) arg4 fullShare x4 ∗ owns (c : Thread nD τ) arg5 fullShare x5 ∗ (∃ p, owns (c : Thread nD τ) arg18 fullShare p) ∗ (∃ p, owns (c : Thread nD τ) arg19 fullShare p) ∗ (∃ p, owns (c : Thread nD τ) arg20 fullShare p) ∗ (∃ p, owns (c : Thread nD τ) arg21 fullShare p))) := by
  rw [owns_eq c harg3 q3 x3, owns_eq c harg4, owns_eq c harg5, owns_eq c harg18, owns_eq c harg19, owns_eq c harg20, owns_eq c harg21]
  rw [k0_part13_eq_skeleton]; unfold k0_part13_skel
  iintro ⟨H3, H4, H5, H18, H19, H20, H21⟩
  sl_exec
  have hr : Gen.part13.sl.r arg3 harg3 i x3 = tword (F := F) i x3 := by
    delta Gen.part13.sl.r
    rw [readAt_ld harg3]
    refine congrArg x3 (funext fun a => Fin.ext ?_)
    match a with
    | ⟨0, _⟩ => rfl
  generalize Gen.part13.sl.r arg3 harg3 i x3 = w at hr ⊢
  subst hr
  sl_exec
  sl_step
  isplitr
  · ipureintro
    rw [readAt_ld harg4, readAt_ld harg5]
    rfl
  isplitl [H3]; · iexact H3
  isplitl [H4]; · iexact H4
  isplitl [H5]; · iexact H5
  isplitl [H18]
  · iexists _; unfold owns; iexists _; isplitr; swap; · iexact H18
    ipureintro; rfl
  isplitl [H19]
  · iexists _; unfold owns; iexists _; isplitr; swap; · iexact H19
    ipureintro; rfl
  isplitl [H20]
  · iexists _; unfold owns; iexists _; isplitr; swap; · iexact H20
    ipureintro; rfl
  iexists _; unfold owns; iexists _; isplitr; swap; · iexact H21
  ipureintro; rfl

set_option maxHeartbeats 16000000 in
/-- The body's triple: from the blocks, the table and any scratch, the out block's value for some stale weights. -/
theorem body (c : Dev nD) (E : Set ℕ) (i : grid0.Coords) (q3 : PosShare TreeShare) (x3 : Vec F S128 .i32) (x4 : Vec F S512x256 .bf16) (x5 : Vec F S512x128 .bf16) (x6 : Vec F S8192x256 .bf16) (x7 : Vec F S8192x128 .bf16) (x8 : Vec F S1x256x8192 .bf16) (x9 : Vec F S512x256 .bf16)
    (z0 z1 z2 z3 : Vec F S256x512 .bf16) (hs0 hs1 hs2 hs3 : HS F) (hw : k0_chk1 i (tword (F := F) i x3)) :
    (iprop((owns (c : Thread nD τ) arg3 q3 x3 ∗ owns (c : Thread nD τ) arg4 fullShare x4 ∗ owns (c : Thread nD τ) arg5 fullShare x5 ∗ owns (c : Thread nD τ) arg18 fullShare hs0.p ∗ owns (c : Thread nD τ) arg19 fullShare hs1.p ∗ owns (c : Thread nD τ) arg20 fullShare hs2.p ∗ owns (c : Thread nD τ) arg21 fullShare hs3.p) ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare z0 ∗ owns (c : Thread nD τ) arg11 fullShare z1 ∗ owns (c : Thread nD τ) arg12 fullShare z2 ∗ owns (c : Thread nD τ) arg13 fullShare z3 ∗ owns (c : Thread nD τ) arg14 fullShare hs0.s ∗ owns (c : Thread nD τ) arg22 fullShare hs0.bm ∗ owns (c : Thread nD τ) arg26 fullShare hs0.m ∗ owns (c : Thread nD τ) arg30 fullShare hs0.al ∗ owns (c : Thread nD τ) arg34 fullShare hs0.acc ∗ owns (c : Thread nD τ) arg15 fullShare hs1.s ∗ owns (c : Thread nD τ) arg23 fullShare hs1.bm ∗ owns (c : Thread nD τ) arg27 fullShare hs1.m ∗ owns (c : Thread nD τ) arg31 fullShare hs1.al ∗ owns (c : Thread nD τ) arg35 fullShare hs1.acc ∗ owns (c : Thread nD τ) arg16 fullShare hs2.s ∗ owns (c : Thread nD τ) arg24 fullShare hs2.bm ∗ owns (c : Thread nD τ) arg28 fullShare hs2.m ∗ owns (c : Thread nD τ) arg32 fullShare hs2.al ∗ owns (c : Thread nD τ) arg36 fullShare hs2.acc ∗ owns (c : Thread nD τ) arg17 fullShare hs3.s ∗ owns (c : Thread nD τ) arg25 fullShare hs3.bm ∗ owns (c : Thread nD τ) arg29 fullShare hs3.m ∗ owns (c : Thread nD τ) arg33 fullShare hs3.al ∗ owns (c : Thread nD τ) arg37 fullShare hs3.acc) : sProp (MT nD τ sig Unit (Elt F) ℕ (UR sig nD τ) ℕ))
      ⊢ wp frame (wpE (defs₀ (F := F)) Variants.none c none) E (cc0_fox i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) (fun _ => iprop(∃ p0 p1 p2 p3, owns (c : Thread nD τ) arg3 q3 x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outBlk i (tword (F := F) i x3) hw x4 x5 x6 x7 x8 p0 p1 p2 p3) ∗ owns (c : Thread nD τ) arg10 fullShare (qh0 i x4 x5) ∗ owns (c : Thread nD τ) arg11 fullShare (qh1 i x4 x5) ∗ owns (c : Thread nD τ) arg12 fullShare (qh2 i x4 x5) ∗ owns (c : Thread nD τ) arg13 fullShare (qh3 i x4 x5) ∗ ownsHS c arg14 arg18 arg22 arg26 arg30 arg34 (fin0 i (tword (F := F) i x3) hw x4 x5 x6 x7 x8 p0) ∗ ownsHS c arg15 arg19 arg23 arg27 arg31 arg35 (fin1 i (tword (F := F) i x3) hw x4 x5 x6 x7 x8 p1) ∗ ownsHS c arg16 arg20 arg24 arg28 arg32 arg36 (fin2 i (tword (F := F) i x3) hw x4 x5 x6 x7 x8 p2) ∗ ownsHS c arg17 arg21 arg25 arg29 arg33 arg37 (fin3 i (tword (F := F) i x3) hw x4 x5 x6 x7 x8 p3))) := by
  rw [cc0_fox_eq_skeleton]; unfold cc0_fox_skel
  refine wp_bind_use (part13 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 c E i q3 x3 x4 x5 hs0.p hs1.p hs2.p hs3.p hw) fun r => ?_
  rw [owns_eq c harg4 fullShare x4, owns_eq c harg5 fullShare x5, owns_eq c harg6 fullShare x6, owns_eq c harg7 fullShare x7, owns_eq c harg8 fullShare x8, owns_eq c harg9 fullShare x9, owns_eq c harg10 fullShare z0, owns_eq c harg11 fullShare z1, owns_eq c harg12 fullShare z2, owns_eq c harg13 fullShare z3, owns_eq c harg14, owns_eq c harg22, owns_eq c harg26, owns_eq c harg30, owns_eq c harg34, owns_eq c harg15, owns_eq c harg23, owns_eq c harg27, owns_eq c harg31, owns_eq c harg35, owns_eq c harg16, owns_eq c harg24, owns_eq c harg28, owns_eq c harg32, owns_eq c harg36, owns_eq c harg17, owns_eq c harg25, owns_eq c harg29, owns_eq c harg33, owns_eq c harg37]
  iintro ⟨⟨%hr, H3, H4, H5, ⟨%p0, H18⟩, ⟨%p1, H19⟩, ⟨%p2, H20⟩, ⟨%p3, H21⟩⟩, H6, H7, H8, H9, H10, H11, H12, H13, H14, H22, H26, H30, H34, H15, H23, H27, H31, H35, H16, H24, H28, H32, H36, H17, H25, H29, H33, H37⟩
  subst hr
  sl_exec
  iapply (Scf.wp_for_bind _ _ _ _ _ _ _ _ _ (fun k _ => iprop(owns (c : Thread nD τ) arg6 fullShare x6 ∗ owns (c : Thread nD τ) arg7 fullShare x7 ∗ owns (c : Thread nD τ) arg8 fullShare x8 ∗ owns (c : Thread nD τ) arg10 fullShare (qh0 i x4 x5) ∗ owns (c : Thread nD τ) arg11 fullShare (qh1 i x4 x5) ∗ owns (c : Thread nD τ) arg12 fullShare (qh2 i x4 x5) ∗ owns (c : Thread nD τ) arg13 fullShare (qh3 i x4 x5) ∗ ownsHS c arg14 arg18 arg22 arg26 arg30 arg34 (st0 i (tword (F := F) i x3) hw x4 x5 x6 x7 x8 p0 k) ∗ ownsHS c arg15 arg19 arg23 arg27 arg31 arg35 (st1 i (tword (F := F) i x3) hw x4 x5 x6 x7 x8 p1 k) ∗ ownsHS c arg16 arg20 arg24 arg28 arg32 arg36 (st2 i (tword (F := F) i x3) hw x4 x5 x6 x7 x8 p2 k) ∗ ownsHS c arg17 arg21 arg25 arg29 arg33 arg37 (st3 i (tword (F := F) i x3) hw x4 x5 x6 x7 x8 p3 k))) (fun k acc => by
      have := trip arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 c E i (BitVec.ofNat 32 (i 2).val) (tword (F := F) i x3) hw (BitVec.ofNat 32 (i 2).val) k x6 x7 x8 (qh0 i x4 x5) (qh1 i x4 x5) (qh2 i x4 x5) (qh3 i x4 x5)
        (st0 i (tword (F := F) i x3) hw x4 x5 x6 x7 x8 p0 k.val) (st1 i (tword (F := F) i x3) hw x4 x5 x6 x7 x8 p1 k.val) (st2 i (tword (F := F) i x3) hw x4 x5 x6 x7 x8 p2 k.val) (st3 i (tword (F := F) i x3) hw x4 x5 x6 x7 x8 p3 k.val)
      have e0 : st0 i (tword (F := F) i x3) hw x4 x5 x6 x7 x8 p0 (k.val + 1) = _ := HS.iter_succ _ _ _ k
      have e1 : st1 i (tword (F := F) i x3) hw x4 x5 x6 x7 x8 p1 (k.val + 1) = _ := HS.iter_succ _ _ _ k
      have e2 : st2 i (tword (F := F) i x3) hw x4 x5 x6 x7 x8 p2 (k.val + 1) = _ := HS.iter_succ _ _ _ k
      have e3 : st3 i (tword (F := F) i x3) hw x4 x5 x6 x7 x8 p3 (k.val + 1) = _ := HS.iter_succ _ _ _ k
      rw [e0, e1, e2, e3]
      exact this)) $$ [H6 H7 H8 H10 H11 H12 H13 H14 H18 H22 H26 H30 H34 H15 H19 H23 H27 H31 H35 H16 H20 H24 H28 H32 H36 H17 H21 H25 H29 H33 H37]
  · unfold ownsHS
    rw [owns_eq c harg6 fullShare x6, owns_eq c harg7 fullShare x7, owns_eq c harg8 fullShare x8]
    isplitl [H6]; · iexact H6
    isplitl [H7]; · iexact H7
    isplitl [H8]; · iexact H8
    isplitl [H10]
    · unfold owns; iexists _; isplitr; swap; · iexact H10
      ipureintro; refine (View.read_writes_full _ _ _ _ _).trans ?_
      (try delta Gen.body.sl.H10_1 Gen.body.sl.v45 Gen.body.sl.v42 Gen.body.sl.v41 Gen.body.sl.v40 Gen.body.sl.cst Gen.body.sl.v39 Gen.body.sl.v38 Gen.body.sl.v37)
      (try rw [readAt_ld harg4, readAt_ld harg5])
      rfl
    isplitl [H11]
    · unfold owns; iexists _; isplitr; swap; · iexact H11
      ipureintro; refine (View.read_writes_full _ _ _ _ _).trans ?_
      (try delta Gen.body.sl.H11_1 Gen.body.sl.v69 Gen.body.sl.v66 Gen.body.sl.v65 Gen.body.sl.v40 Gen.body.sl.cst Gen.body.sl.v63 Gen.body.sl.v62 Gen.body.sl.v61 Gen.body.sl.v60 Gen.body.sl.v59 Gen.body.sl.v58 Gen.body.sl.v57 Gen.body.sl.v49 Gen.body.sl.v48 Gen.body.sl.v47 Gen.body.sl.v46 Gen.body.sl.v56 Gen.body.sl.v55 Gen.body.sl.v53 Gen.body.sl.v52 Gen.body.sl.v51 Gen.body.sl.v50)
      (try rw [readAt_ld harg4, readAt_ld harg5])
      rfl
    isplitl [H12]
    · unfold owns; iexists _; isplitr; swap; · iexact H12
      ipureintro; refine (View.read_writes_full _ _ _ _ _).trans ?_
      (try delta Gen.body.sl.H12_1 Gen.body.sl.v100 Gen.body.sl.v97 Gen.body.sl.v96 Gen.body.sl.v40 Gen.body.sl.cst Gen.body.sl.v76 Gen.body.sl.v75 Gen.body.sl.v74 Gen.body.sl.v73 Gen.body.sl.v71 Gen.body.sl.v94 Gen.body.sl.v93 Gen.body.sl.v92 Gen.body.sl.v91 Gen.body.sl.v90 Gen.body.sl.v89 Gen.body.sl.v88 Gen.body.sl.v80 Gen.body.sl.v79 Gen.body.sl.v78 Gen.body.sl.v77 Gen.body.sl.v87 Gen.body.sl.v86 Gen.body.sl.v84 Gen.body.sl.v50 Gen.body.sl.v82 Gen.body.sl.v81)
      (try rw [readAt_ld harg4, readAt_ld harg5])
      rfl
    isplitl [H13]
    · unfold owns; iexists _; isplitr; swap; · iexact H13
      ipureintro; refine (View.read_writes_full _ _ _ _ _).trans ?_
      (try delta Gen.body.sl.H13_1 Gen.body.sl.v124 Gen.body.sl.v121 Gen.body.sl.v120 Gen.body.sl.v40 Gen.body.sl.cst Gen.body.sl.v76 Gen.body.sl.v75 Gen.body.sl.v74 Gen.body.sl.v73 Gen.body.sl.v71 Gen.body.sl.v118 Gen.body.sl.v117 Gen.body.sl.v116 Gen.body.sl.v115 Gen.body.sl.v114 Gen.body.sl.v113 Gen.body.sl.v112 Gen.body.sl.v104 Gen.body.sl.v103 Gen.body.sl.v102 Gen.body.sl.v77 Gen.body.sl.v111 Gen.body.sl.v110 Gen.body.sl.v53 Gen.body.sl.v52 Gen.body.sl.v51 Gen.body.sl.v50)
      (try rw [readAt_ld harg4, readAt_ld harg5])
      rfl
    isplitl [H14 H18 H22 H26 H30 H34]
    · skip
      isplitl [H14]
      · unfold owns; iexists _; isplitr; swap; · iexact H14
        ipureintro; refine (View.read_writes_full _ _ _ _ _).trans ?_
        (try delta Gen.body.sl.H14_1 Gen.body.sl.v138 Gen.body.sl.v135 Gen.body.sl.cst_48 Gen.body.sl.v134 Gen.body.sl.H10_1 Gen.body.sl.v45 Gen.body.sl.v42 Gen.body.sl.v41 Gen.body.sl.v40 Gen.body.sl.cst Gen.body.sl.v39 Gen.body.sl.v38 Gen.body.sl.v37 Gen.body.sl.v133 Gen.body.sl.v132 Gen.body.sl.v129)
        (try rw [readAt_ld harg6, readAt_ld harg7]); (try rw [rc_S256x512]); (try rw [readAt_ld harg4, readAt_ld harg5]); rfl
      isplitl [H18]
      · iexact H18
      isplitl [H22]
      · unfold owns; iexists _; isplitr; swap; · iexact H22
        ipureintro; refine (View.read_writes_full _ _ _ _ _).trans ?_
        (try delta Gen.body.sl.H22_1 Gen.body.sl.v143 Gen.body.sl.v140 Gen.body.sl.v139 Gen.body.sl.v135 Gen.body.sl.cst_48 Gen.body.sl.v134 Gen.body.sl.H10_1 Gen.body.sl.v45 Gen.body.sl.v42 Gen.body.sl.v41 Gen.body.sl.v40 Gen.body.sl.cst Gen.body.sl.v39 Gen.body.sl.v38 Gen.body.sl.v37 Gen.body.sl.v133 Gen.body.sl.v132 Gen.body.sl.v129)
        (try rw [readAt_ld harg6, readAt_ld harg7]); (try rw [rc_S256x512]); (try rw [readAt_ld harg4, readAt_ld harg5]); first | (dsimp only [st0, st1, st2, st3, HS.iter, HS.start, k0_pay78, k0_pay79, k0_pay80, k0_pay81, k0_pay82, k0_pay83, k0_pay84, k0_pay85, k0_pay86, k0_pay87, k0_pay88, k0_pay89, k0_pay90]; done) | (dsimp only [st0, st1, st2, st3, HS.iter, HS.start, k0_pay78, k0_pay79, k0_pay80, k0_pay81, k0_pay82, k0_pay83, k0_pay84, k0_pay85, k0_pay86, k0_pay87, k0_pay88, k0_pay89, k0_pay90, qh0, qh1, qh2, qh3, Scalar.ofBits, k0_pay69, k0_pay70, k0_pay71, k0_pay72, k0_pay73, k0_pay74, k0_pay75, k0_pay76, k0_pay77]; done)
      isplitl [H26]
      · unfold owns; iexists _; isplitr; swap; · iexact H26
        ipureintro; refine (View.read_writes_full _ _ _ _ _).trans ?_
        (try delta Gen.body.sl.H26_1)
        rfl
      isplitl [H30]
      · unfold owns; iexists _; isplitr; swap; · iexact H30
        ipureintro; refine (View.read_writes_full _ _ _ _ _).trans ?_
        (try delta Gen.body.sl.H30_1)
        rfl
      · unfold owns; iexists _; isplitr; swap; · iexact H34
        ipureintro; refine (View.read_writes_full _ _ _ _ _).trans ?_
        (try delta Gen.body.sl.H34_1)
        rfl
    isplitl [H15 H19 H23 H27 H31 H35]
    · skip
      isplitl [H15]
      · unfold owns; iexists _; isplitr; swap; · iexact H15
        ipureintro; refine (View.read_writes_full _ _ _ _ _).trans ?_
        (try delta Gen.body.sl.H15_1 Gen.body.sl.v157 Gen.body.sl.v154 Gen.body.sl.cst_48 Gen.body.sl.v153 Gen.body.sl.H11_1 Gen.body.sl.v69 Gen.body.sl.v66 Gen.body.sl.v65 Gen.body.sl.v40 Gen.body.sl.cst Gen.body.sl.v63 Gen.body.sl.v62 Gen.body.sl.v61 Gen.body.sl.v60 Gen.body.sl.v59 Gen.body.sl.v58 Gen.body.sl.v57 Gen.body.sl.v49 Gen.body.sl.v48 Gen.body.sl.v47 Gen.body.sl.v46 Gen.body.sl.v56 Gen.body.sl.v55 Gen.body.sl.v53 Gen.body.sl.v52 Gen.body.sl.v51 Gen.body.sl.v50 Gen.body.sl.v133 Gen.body.sl.v132 Gen.body.sl.v129)
        (try rw [readAt_ld harg6, readAt_ld harg7]); (try rw [rc_S256x512]); (try rw [readAt_ld harg4, readAt_ld harg5]); rfl
      isplitl [H19]
      · iexact H19
      isplitl [H23]
      · unfold owns; iexists _; isplitr; swap; · iexact H23
        ipureintro; refine (View.read_writes_full _ _ _ _ _).trans ?_
        (try delta Gen.body.sl.H23_1 Gen.body.sl.v162 Gen.body.sl.v159 Gen.body.sl.v158 Gen.body.sl.v154 Gen.body.sl.cst_48 Gen.body.sl.v153 Gen.body.sl.H11_1 Gen.body.sl.v69 Gen.body.sl.v66 Gen.body.sl.v65 Gen.body.sl.v40 Gen.body.sl.cst Gen.body.sl.v63 Gen.body.sl.v62 Gen.body.sl.v61 Gen.body.sl.v60 Gen.body.sl.v59 Gen.body.sl.v58 Gen.body.sl.v57 Gen.body.sl.v49 Gen.body.sl.v48 Gen.body.sl.v47 Gen.body.sl.v46 Gen.body.sl.v56 Gen.body.sl.v55 Gen.body.sl.v53 Gen.body.sl.v52 Gen.body.sl.v51 Gen.body.sl.v50 Gen.body.sl.v133 Gen.body.sl.v132 Gen.body.sl.v129)
        (try rw [readAt_ld harg6, readAt_ld harg7]); (try rw [rc_S256x512]); (try rw [readAt_ld harg4, readAt_ld harg5]); first | (dsimp only [st0, st1, st2, st3, HS.iter, HS.start, k0_pay78, k0_pay79, k0_pay80, k0_pay81, k0_pay82, k0_pay83, k0_pay84, k0_pay85, k0_pay86, k0_pay87, k0_pay88, k0_pay89, k0_pay90]; done) | (dsimp only [st0, st1, st2, st3, HS.iter, HS.start, k0_pay78, k0_pay79, k0_pay80, k0_pay81, k0_pay82, k0_pay83, k0_pay84, k0_pay85, k0_pay86, k0_pay87, k0_pay88, k0_pay89, k0_pay90, qh0, qh1, qh2, qh3, Scalar.ofBits, k0_pay69, k0_pay70, k0_pay71, k0_pay72, k0_pay73, k0_pay74, k0_pay75, k0_pay76, k0_pay77]; done)
      isplitl [H27]
      · unfold owns; iexists _; isplitr; swap; · iexact H27
        ipureintro; refine (View.read_writes_full _ _ _ _ _).trans ?_
        (try delta Gen.body.sl.H27_1)
        rfl
      isplitl [H31]
      · unfold owns; iexists _; isplitr; swap; · iexact H31
        ipureintro; refine (View.read_writes_full _ _ _ _ _).trans ?_
        (try delta Gen.body.sl.H31_1)
        rfl
      · unfold owns; iexists _; isplitr; swap; · iexact H35
        ipureintro; refine (View.read_writes_full _ _ _ _ _).trans ?_
        (try delta Gen.body.sl.H35_1)
        rfl
    isplitl [H16 H20 H24 H28 H32 H36]
    · skip
      isplitl [H16]
      · unfold owns; iexists _; isplitr; swap; · iexact H16
        ipureintro; refine (View.read_writes_full _ _ _ _ _).trans ?_
        (try delta Gen.body.sl.H16_1 Gen.body.sl.v176 Gen.body.sl.v173 Gen.body.sl.cst_48 Gen.body.sl.v172 Gen.body.sl.H12_1 Gen.body.sl.v100 Gen.body.sl.v97 Gen.body.sl.v96 Gen.body.sl.v40 Gen.body.sl.cst Gen.body.sl.v76 Gen.body.sl.v75 Gen.body.sl.v74 Gen.body.sl.v73 Gen.body.sl.v71 Gen.body.sl.v94 Gen.body.sl.v93 Gen.body.sl.v92 Gen.body.sl.v91 Gen.body.sl.v90 Gen.body.sl.v89 Gen.body.sl.v88 Gen.body.sl.v80 Gen.body.sl.v79 Gen.body.sl.v78 Gen.body.sl.v77 Gen.body.sl.v87 Gen.body.sl.v86 Gen.body.sl.v84 Gen.body.sl.v50 Gen.body.sl.v82 Gen.body.sl.v81 Gen.body.sl.v171 Gen.body.sl.v132 Gen.body.sl.v167)
        (try rw [readAt_ld harg6, readAt_ld harg7]); (try rw [rc_S256x512]); (try rw [readAt_ld harg4, readAt_ld harg5]); rfl
      isplitl [H20]
      · iexact H20
      isplitl [H24]
      · unfold owns; iexists _; isplitr; swap; · iexact H24
        ipureintro; refine (View.read_writes_full _ _ _ _ _).trans ?_
        (try delta Gen.body.sl.H24_1 Gen.body.sl.v181 Gen.body.sl.v178 Gen.body.sl.v177 Gen.body.sl.v173 Gen.body.sl.cst_48 Gen.body.sl.v172 Gen.body.sl.H12_1 Gen.body.sl.v100 Gen.body.sl.v97 Gen.body.sl.v96 Gen.body.sl.v40 Gen.body.sl.cst Gen.body.sl.v76 Gen.body.sl.v75 Gen.body.sl.v74 Gen.body.sl.v73 Gen.body.sl.v71 Gen.body.sl.v94 Gen.body.sl.v93 Gen.body.sl.v92 Gen.body.sl.v91 Gen.body.sl.v90 Gen.body.sl.v89 Gen.body.sl.v88 Gen.body.sl.v80 Gen.body.sl.v79 Gen.body.sl.v78 Gen.body.sl.v77 Gen.body.sl.v87 Gen.body.sl.v86 Gen.body.sl.v84 Gen.body.sl.v50 Gen.body.sl.v82 Gen.body.sl.v81 Gen.body.sl.v171 Gen.body.sl.v132 Gen.body.sl.v167)
        (try rw [readAt_ld harg6, readAt_ld harg7]); (try rw [rc_S256x512]); (try rw [readAt_ld harg4, readAt_ld harg5]); first | (dsimp only [st0, st1, st2, st3, HS.iter, HS.start, k0_pay78, k0_pay79, k0_pay80, k0_pay81, k0_pay82, k0_pay83, k0_pay84, k0_pay85, k0_pay86, k0_pay87, k0_pay88, k0_pay89, k0_pay90]; done) | (dsimp only [st0, st1, st2, st3, HS.iter, HS.start, k0_pay78, k0_pay79, k0_pay80, k0_pay81, k0_pay82, k0_pay83, k0_pay84, k0_pay85, k0_pay86, k0_pay87, k0_pay88, k0_pay89, k0_pay90, qh0, qh1, qh2, qh3, Scalar.ofBits, k0_pay69, k0_pay70, k0_pay71, k0_pay72, k0_pay73, k0_pay74, k0_pay75, k0_pay76, k0_pay77]; done)
      isplitl [H28]
      · unfold owns; iexists _; isplitr; swap; · iexact H28
        ipureintro; refine (View.read_writes_full _ _ _ _ _).trans ?_
        (try delta Gen.body.sl.H28_1)
        rfl
      isplitl [H32]
      · unfold owns; iexists _; isplitr; swap; · iexact H32
        ipureintro; refine (View.read_writes_full _ _ _ _ _).trans ?_
        (try delta Gen.body.sl.H32_1)
        rfl
      · unfold owns; iexists _; isplitr; swap; · iexact H36
        ipureintro; refine (View.read_writes_full _ _ _ _ _).trans ?_
        (try delta Gen.body.sl.H36_1)
        rfl
    · skip
      isplitl [H17]
      · unfold owns; iexists _; isplitr; swap; · iexact H17
        ipureintro; refine (View.read_writes_full _ _ _ _ _).trans ?_
        (try delta Gen.body.sl.H17_1 Gen.body.sl.v191 Gen.body.sl.H13_1 Gen.body.sl.v124 Gen.body.sl.v121 Gen.body.sl.v120 Gen.body.sl.v40 Gen.body.sl.cst Gen.body.sl.v76 Gen.body.sl.v75 Gen.body.sl.v74 Gen.body.sl.v73 Gen.body.sl.v71 Gen.body.sl.v118 Gen.body.sl.v117 Gen.body.sl.v116 Gen.body.sl.v115 Gen.body.sl.v114 Gen.body.sl.v113 Gen.body.sl.v112 Gen.body.sl.v104 Gen.body.sl.v103 Gen.body.sl.v102 Gen.body.sl.v77 Gen.body.sl.v111 Gen.body.sl.v110 Gen.body.sl.v53 Gen.body.sl.v52 Gen.body.sl.v51 Gen.body.sl.v50 Gen.body.sl.v171 Gen.body.sl.v132 Gen.body.sl.v167)
        (try rw [readAt_ld harg6, readAt_ld harg7]); (try rw [rc_S256x512]); (try rw [readAt_ld harg4, readAt_ld harg5]); rfl
      isplitl [H21]
      · iexact H21
      isplitl [H25]
      · unfold owns; iexists _; isplitr; swap; · iexact H25
        ipureintro; refine (View.read_writes_full _ _ _ _ _).trans ?_
        (try delta Gen.body.sl.H25_1 Gen.body.sl.v191 Gen.body.sl.H13_1 Gen.body.sl.v124 Gen.body.sl.v121 Gen.body.sl.v120 Gen.body.sl.v40 Gen.body.sl.cst Gen.body.sl.v76 Gen.body.sl.v75 Gen.body.sl.v74 Gen.body.sl.v73 Gen.body.sl.v71 Gen.body.sl.v118 Gen.body.sl.v117 Gen.body.sl.v116 Gen.body.sl.v115 Gen.body.sl.v114 Gen.body.sl.v113 Gen.body.sl.v112 Gen.body.sl.v104 Gen.body.sl.v103 Gen.body.sl.v102 Gen.body.sl.v77 Gen.body.sl.v111 Gen.body.sl.v110 Gen.body.sl.v53 Gen.body.sl.v52 Gen.body.sl.v51 Gen.body.sl.v50 Gen.body.sl.v171 Gen.body.sl.v132 Gen.body.sl.v167)
        (try rw [readAt_ld harg6, readAt_ld harg7]); (try rw [rc_S256x512]); (try rw [readAt_ld harg4, readAt_ld harg5]); first | (dsimp only [st0, st1, st2, st3, HS.iter, HS.start, k0_pay78, k0_pay79, k0_pay80, k0_pay81, k0_pay82, k0_pay83, k0_pay84, k0_pay85, k0_pay86, k0_pay87, k0_pay88, k0_pay89, k0_pay90]; done) | (dsimp only [st0, st1, st2, st3, HS.iter, HS.start, k0_pay78, k0_pay79, k0_pay80, k0_pay81, k0_pay82, k0_pay83, k0_pay84, k0_pay85, k0_pay86, k0_pay87, k0_pay88, k0_pay89, k0_pay90, qh0, qh1, qh2, qh3, Scalar.ofBits, k0_pay69, k0_pay70, k0_pay71, k0_pay72, k0_pay73, k0_pay74, k0_pay75, k0_pay76, k0_pay77]; done)
      isplitl [H29]
      · unfold owns; iexists _; isplitr; swap; · iexact H29
        ipureintro; refine (View.read_writes_full _ _ _ _ _).trans ?_
        (try delta Gen.body.sl.H29_1)
        rfl
      isplitl [H33]
      · unfold owns; iexists _; isplitr; swap; · iexact H33
        ipureintro; refine (View.read_writes_full _ _ _ _ _).trans ?_
        (try delta Gen.body.sl.H33_1)
        rfl
      · unfold owns; iexists _; isplitr; swap; · iexact H37
        ipureintro; refine (View.read_writes_full _ _ _ _ _).trans ?_
        (try delta Gen.body.sl.H37_1)
        rfl

  iintro %acc HI
  iapply (Scf.wp_for_bind _ _ _ _ _ _ _ _ _ (fun _ _ => iprop(owns (c : Thread nD τ) arg6 fullShare x6 ∗ owns (c : Thread nD τ) arg7 fullShare x7 ∗ owns (c : Thread nD τ) arg8 fullShare x8 ∗ owns (c : Thread nD τ) arg10 fullShare (qh0 i x4 x5) ∗ owns (c : Thread nD τ) arg11 fullShare (qh1 i x4 x5) ∗ owns (c : Thread nD τ) arg12 fullShare (qh2 i x4 x5) ∗ owns (c : Thread nD τ) arg13 fullShare (qh3 i x4 x5) ∗ ownsHS c arg14 arg18 arg22 arg26 arg30 arg34 (st0 i (tword (F := F) i x3) hw x4 x5 x6 x7 x8 p0 (k0_t1_loop i (tword (F := F) i x3)).trips) ∗ ownsHS c arg15 arg19 arg23 arg27 arg31 arg35 (st1 i (tword (F := F) i x3) hw x4 x5 x6 x7 x8 p1 (k0_t1_loop i (tword (F := F) i x3)).trips) ∗ ownsHS c arg16 arg20 arg24 arg28 arg32 arg36 (st2 i (tword (F := F) i x3) hw x4 x5 x6 x7 x8 p2 (k0_t1_loop i (tword (F := F) i x3)).trips) ∗ ownsHS c arg17 arg21 arg25 arg29 arg33 arg37 (st3 i (tword (F := F) i x3) hw x4 x5 x6 x7 x8 p3 (k0_t1_loop i (tword (F := F) i x3)).trips))) (fun k acc => by
      exact (Nat.not_lt_zero _ (lt_of_lt_of_eq k.isLt (t2_trips i (tword (F := F) i x3)))).elim)) $$ [HI]
  · iexact HI
  iintro %acc2 HI
  rw [owns_eq c harg6, owns_eq c harg7, owns_eq c harg8, owns_eq c harg10, owns_eq c harg11, owns_eq c harg12, owns_eq c harg13, ownsHS_eq c harg14 harg18 harg22 harg26 harg30 harg34 (st0 i (tword (F := F) i x3) hw x4 x5 x6 x7 x8 p0 (k0_t1_loop i (tword (F := F) i x3)).trips), ownsHS_eq c harg15 harg19 harg23 harg27 harg31 harg35 (st1 i (tword (F := F) i x3) hw x4 x5 x6 x7 x8 p1 (k0_t1_loop i (tword (F := F) i x3)).trips), ownsHS_eq c harg16 harg20 harg24 harg28 harg32 harg36 (st2 i (tword (F := F) i x3) hw x4 x5 x6 x7 x8 p2 (k0_t1_loop i (tword (F := F) i x3)).trips), ownsHS_eq c harg17 harg21 harg25 harg29 harg33 harg37 (st3 i (tword (F := F) i x3) hw x4 x5 x6 x7 x8 p3 (k0_t1_loop i (tword (F := F) i x3)).trips)]
  icases HI with ⟨H6, H7, H8, H10, H11, H12, H13, ⟨H14, H18, H22, H26, H30, H34⟩, ⟨H15, H19, H23, H27, H31, H35⟩, ⟨H16, H20, H24, H28, H32, H36⟩, ⟨H17, H21, H25, H29, H33, H37⟩⟩
  sl_exec
  sl_step
  iexists p0, p1, p2, p3
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr; swap; · iexact H9
    ipureintro
    rw [View.read_writes_cons_put _ _ _ _ _ rfl, View.read_writes_cons_put _ _ _ _ _ rfl]
    refine outBlk_put _ _ _ _ _ _ _ _ _ _ _ _ _ _ _ _ _ ?_ ?_ ?_ ?_
    · delta Gen.body.sl.v492 Gen.body.sl.H34_2 Gen.body.sl.H34_1_1 Gen.body.sl.v440 Gen.body.sl.v437 Gen.body.sl.v436 Gen.body.sl.cst_187 Gen.body.sl.v435 Gen.body.sl.H18_1 Gen.body.sl.r_1 Gen.body.sl.r Gen.body.sl.v430 Gen.body.sl.v345 Gen.body.sl.cst_180 Gen.body.sl.r_7 Gen.body.sl.v434 Gen.body.sl.v432 Gen.body.sl.v433 Gen.body.sl.v431 Gen.body.sl.H30_1_1 Gen.body.sl.r_2
      simp only [readAt_ld, rc_S1x512, rc_S80x512, rc_S512x512, ld_S1x512, ld_S80x512, ld_S512x512]; (repeat rw [readAt_ld harg8]); rfl
    · delta Gen.body.sl.v493 Gen.body.sl.H35_2 Gen.body.sl.H35_1_1 Gen.body.sl.v457 Gen.body.sl.v454 Gen.body.sl.v453 Gen.body.sl.cst_187 Gen.body.sl.v452 Gen.body.sl.H19_1 Gen.body.sl.v336 Gen.body.sl.v333 Gen.body.sl.v332 Gen.body.sl.v331 Gen.body.sl.v330 Gen.body.sl.v324 Gen.body.sl.v322 Gen.body.sl.r_4 Gen.body.sl.r_3 Gen.body.sl.v447 Gen.body.sl.v345 Gen.body.sl.cst_180 Gen.body.sl.v445 Gen.body.sl.v451 Gen.body.sl.v449 Gen.body.sl.v450 Gen.body.sl.v448 Gen.body.sl.H31_1_1 Gen.body.sl.v329 Gen.body.sl.v326 Gen.body.sl.v325
      simp only [readAt_ld, rc_S1x512, rc_S80x512, rc_S512x512, ld_S1x512, ld_S80x512, ld_S512x512]; (repeat rw [readAt_ld harg8]); rfl
    · delta Gen.body.sl.v506 Gen.body.sl.H36_2 Gen.body.sl.H36_1_1 Gen.body.sl.v356 Gen.body.sl.v353 Gen.body.sl.v352 Gen.body.sl.cst_187 Gen.body.sl.v346 Gen.body.sl.v345 Gen.body.sl.cst_180 Gen.body.sl.v344 Gen.body.sl.v350 Gen.body.sl.v349 Gen.body.sl.v474 Gen.body.sl.v471 Gen.body.sl.v470 Gen.body.sl.v469 Gen.body.sl.H20_1 Gen.body.sl.v464 Gen.body.sl.v462 Gen.body.sl.r_8 Gen.body.sl.v468 Gen.body.sl.v466 Gen.body.sl.v467 Gen.body.sl.v465 Gen.body.sl.H32_1_1
      simp only [readAt_ld, rc_S1x512, rc_S80x512, rc_S512x512, ld_S1x512, ld_S80x512, ld_S512x512]; (repeat rw [readAt_ld harg8]); rfl
    · delta Gen.body.sl.v507 Gen.body.sl.H37_2 Gen.body.sl.H37_1_1 Gen.body.sl.r_6 Gen.body.sl.r_5 Gen.body.sl.v491 Gen.body.sl.v488 Gen.body.sl.v487 Gen.body.sl.cst_187 Gen.body.sl.v486 Gen.body.sl.H21_1 Gen.body.sl.v481 Gen.body.sl.v345 Gen.body.sl.cst_180 Gen.body.sl.v479 Gen.body.sl.v485 Gen.body.sl.v483 Gen.body.sl.v484 Gen.body.sl.v482 Gen.body.sl.H33_1_1
      simp only [readAt_ld, rc_S1x512, rc_S80x512, rc_S512x512, ld_S1x512, ld_S80x512, ld_S512x512]; (repeat rw [readAt_ld harg8]); rfl
  isplitl [H10]; · iexact H10
  isplitl [H11]; · iexact H11
  isplitl [H12]; · iexact H12
  isplitl [H13]; · iexact H13
  isplitl [H14 H18 H22 H26 H30 H34]
  · unfold ownsHS
    isplitl [H14]
    · unfold owns; iexists _; isplitr; swap; · iexact H14
      ipureintro; exact harg14.read_unread _
    isplitl [H18]
    · unfold owns; iexists _; isplitr; swap; · iexact H18
      ipureintro; refine (View.read_writes_full _ _ _ _ _).trans ?_
      (try delta Gen.body.sl.H18_1 Gen.body.sl.r_1 Gen.body.sl.r)
      simp only [readAt_ld, rc_S1x512, rc_S80x512, rc_S512x512, ld_S1x512, ld_S80x512, ld_S512x512]; rfl
    isplitl [H22]
    · unfold owns; iexists _; isplitr; swap; · iexact H22
      ipureintro; exact harg22.read_unread _
    isplitl [H26]
    · unfold owns; iexists _; isplitr; swap; · iexact H26
      ipureintro; refine (View.read_writes_full _ _ _ _ _).trans ?_
      (try delta Gen.body.sl.r_1)
      simp only [readAt_ld, rc_S1x512, rc_S80x512, rc_S512x512, ld_S1x512, ld_S80x512, ld_S512x512]; rfl
    isplitl [H30]
    · unfold owns; iexists _; isplitr; swap; · iexact H30
      ipureintro; refine (View.read_writes_full _ _ _ _ _).trans ?_
      (try delta Gen.body.sl.H30_1_1 Gen.body.sl.r_2)
      simp only [readAt_ld, rc_S1x512, rc_S80x512, rc_S512x512, ld_S1x512, ld_S80x512, ld_S512x512]; rfl
    · unfold owns; iexists _; isplitr; swap; · iexact H34
      ipureintro; refine (View.read_writes_full _ _ _ _ _).trans ?_
      (try delta Gen.body.sl.H34_2 Gen.body.sl.H34_1_1 Gen.body.sl.v440 Gen.body.sl.v437 Gen.body.sl.v436 Gen.body.sl.cst_187 Gen.body.sl.v435 Gen.body.sl.H18_1 Gen.body.sl.r_1 Gen.body.sl.r Gen.body.sl.v430 Gen.body.sl.v345 Gen.body.sl.cst_180 Gen.body.sl.r_7 Gen.body.sl.v434 Gen.body.sl.v432 Gen.body.sl.v433 Gen.body.sl.v431 Gen.body.sl.H30_1_1 Gen.body.sl.r_2)
      simp only [readAt_ld, rc_S1x512, rc_S80x512, rc_S512x512, ld_S1x512, ld_S80x512, ld_S512x512]; (repeat rw [readAt_ld harg8]); rfl
  isplitl [H15 H19 H23 H27 H31 H35]
  · unfold ownsHS
    isplitl [H15]
    · unfold owns; iexists _; isplitr; swap; · iexact H15
      ipureintro; exact harg15.read_unread _
    isplitl [H19]
    · unfold owns; iexists _; isplitr; swap; · iexact H19
      ipureintro; refine (View.read_writes_full _ _ _ _ _).trans ?_
      (try delta Gen.body.sl.H19_1 Gen.body.sl.v336 Gen.body.sl.v333 Gen.body.sl.v332 Gen.body.sl.v331 Gen.body.sl.v330 Gen.body.sl.v324 Gen.body.sl.v322 Gen.body.sl.r_4 Gen.body.sl.r_3)
      simp only [readAt_ld, rc_S1x512, rc_S80x512, rc_S512x512, ld_S1x512, ld_S80x512, ld_S512x512]; rfl
    isplitl [H23]
    · unfold owns; iexists _; isplitr; swap; · iexact H23
      ipureintro; exact harg23.read_unread _
    isplitl [H27]
    · unfold owns; iexists _; isplitr; swap; · iexact H27
      ipureintro; refine (View.read_writes_full _ _ _ _ _).trans ?_
      (try delta Gen.body.sl.v339 Gen.body.sl.v324 Gen.body.sl.v322 Gen.body.sl.r_4)
      simp only [readAt_ld, rc_S1x512, rc_S80x512, rc_S512x512, ld_S1x512, ld_S80x512, ld_S512x512]; rfl
    isplitl [H31]
    · unfold owns; iexists _; isplitr; swap; · iexact H31
      ipureintro; refine (View.read_writes_full _ _ _ _ _).trans ?_
      (try delta Gen.body.sl.H31_1_1 Gen.body.sl.v329 Gen.body.sl.v326 Gen.body.sl.v325 Gen.body.sl.v324 Gen.body.sl.v322 Gen.body.sl.r_4)
      simp only [readAt_ld, rc_S1x512, rc_S80x512, rc_S512x512, ld_S1x512, ld_S80x512, ld_S512x512]; rfl
    · unfold owns; iexists _; isplitr; swap; · iexact H35
      ipureintro; refine (View.read_writes_full _ _ _ _ _).trans ?_
      (try delta Gen.body.sl.H35_2 Gen.body.sl.H35_1_1 Gen.body.sl.v457 Gen.body.sl.v454 Gen.body.sl.v453 Gen.body.sl.cst_187 Gen.body.sl.v452 Gen.body.sl.H19_1 Gen.body.sl.v336 Gen.body.sl.v333 Gen.body.sl.v332 Gen.body.sl.v331 Gen.body.sl.v330 Gen.body.sl.v324 Gen.body.sl.v322 Gen.body.sl.r_4 Gen.body.sl.r_3 Gen.body.sl.v447 Gen.body.sl.v345 Gen.body.sl.cst_180 Gen.body.sl.v445 Gen.body.sl.v451 Gen.body.sl.v449 Gen.body.sl.v450 Gen.body.sl.v448 Gen.body.sl.H31_1_1 Gen.body.sl.v329 Gen.body.sl.v326 Gen.body.sl.v325)
      simp only [readAt_ld, rc_S1x512, rc_S80x512, rc_S512x512, ld_S1x512, ld_S80x512, ld_S512x512]; (repeat rw [readAt_ld harg8]); rfl
  isplitl [H16 H20 H24 H28 H32 H36]
  · unfold ownsHS
    isplitl [H16]
    · unfold owns; iexists _; isplitr; swap; · iexact H16
      ipureintro; exact harg16.read_unread _
    isplitl [H20]
    · unfold owns; iexists _; isplitr; swap; · iexact H20
      ipureintro; refine (View.read_writes_full _ _ _ _ _).trans ?_
      (try delta Gen.body.sl.H20_1)
      simp only [readAt_ld, rc_S1x512, rc_S80x512, rc_S512x512, ld_S1x512, ld_S80x512, ld_S512x512]; rfl
    isplitl [H24]
    · unfold owns; iexists _; isplitr; swap; · iexact H24
      ipureintro; exact harg24.read_unread _
    isplitl [H28]
    · unfold owns; iexists _; isplitr; swap; · iexact H28
      ipureintro; refine (View.read_writes_full _ _ _ _ _).trans ?_
      skip
      simp only [readAt_ld, rc_S1x512, rc_S80x512, rc_S512x512, ld_S1x512, ld_S80x512, ld_S512x512]; rfl
    isplitl [H32]
    · unfold owns; iexists _; isplitr; swap; · iexact H32
      ipureintro; refine (View.read_writes_full _ _ _ _ _).trans ?_
      (try delta Gen.body.sl.H32_1_1)
      simp only [readAt_ld, rc_S1x512, rc_S80x512, rc_S512x512, ld_S1x512, ld_S80x512, ld_S512x512]; rfl
    · unfold owns; iexists _; isplitr; swap; · iexact H36
      ipureintro; refine (View.read_writes_full _ _ _ _ _).trans ?_
      (try delta Gen.body.sl.H36_2 Gen.body.sl.H36_1_1 Gen.body.sl.v356 Gen.body.sl.v353 Gen.body.sl.v352 Gen.body.sl.cst_187 Gen.body.sl.v346 Gen.body.sl.v345 Gen.body.sl.cst_180 Gen.body.sl.v344 Gen.body.sl.v350 Gen.body.sl.v349 Gen.body.sl.v474 Gen.body.sl.v471 Gen.body.sl.v470 Gen.body.sl.v469 Gen.body.sl.H20_1 Gen.body.sl.v464 Gen.body.sl.v462 Gen.body.sl.r_8 Gen.body.sl.v468 Gen.body.sl.v466 Gen.body.sl.v467 Gen.body.sl.v465 Gen.body.sl.H32_1_1)
      simp only [readAt_ld, rc_S1x512, rc_S80x512, rc_S512x512, ld_S1x512, ld_S80x512, ld_S512x512]; (repeat rw [readAt_ld harg8]); rfl
  · unfold ownsHS
    isplitl [H17]
    · unfold owns; iexists _; isplitr; swap; · iexact H17
      ipureintro; exact harg17.read_unread _
    isplitl [H21]
    · unfold owns; iexists _; isplitr; swap; · iexact H21
      ipureintro; refine (View.read_writes_full _ _ _ _ _).trans ?_
      (try delta Gen.body.sl.H21_1)
      simp only [readAt_ld, rc_S1x512, rc_S80x512, rc_S512x512, ld_S1x512, ld_S80x512, ld_S512x512]; rfl
    isplitl [H25]
    · unfold owns; iexists _; isplitr; swap; · iexact H25
      ipureintro; exact harg25.read_unread _
    isplitl [H29]
    · unfold owns; iexists _; isplitr; swap; · iexact H29
      ipureintro; refine (View.read_writes_full _ _ _ _ _).trans ?_
      skip
      simp only [readAt_ld, rc_S1x512, rc_S80x512, rc_S512x512, ld_S1x512, ld_S80x512, ld_S512x512]; rfl
    isplitl [H33]
    · unfold owns; iexists _; isplitr; swap; · iexact H33
      ipureintro; refine (View.read_writes_full _ _ _ _ _).trans ?_
      (try delta Gen.body.sl.H33_1_1)
      simp only [readAt_ld, rc_S1x512, rc_S80x512, rc_S512x512, ld_S1x512, ld_S80x512, ld_S512x512]; rfl
    · unfold owns; iexists _; isplitr; swap; · iexact H37
      ipureintro; refine (View.read_writes_full _ _ _ _ _).trans ?_
      (try delta Gen.body.sl.H37_2 Gen.body.sl.H37_1_1 Gen.body.sl.r_6 Gen.body.sl.r_5 Gen.body.sl.v491 Gen.body.sl.v488 Gen.body.sl.v487 Gen.body.sl.cst_187 Gen.body.sl.v486 Gen.body.sl.H21_1 Gen.body.sl.v481 Gen.body.sl.v345 Gen.body.sl.cst_180 Gen.body.sl.v479 Gen.body.sl.v485 Gen.body.sl.v483 Gen.body.sl.v484 Gen.body.sl.v482 Gen.body.sl.H33_1_1)
      simp only [readAt_ld, rc_S1x512, rc_S80x512, rc_S512x512, ld_S1x512, ld_S80x512, ld_S512x512]; (repeat rw [readAt_ld harg8]); rfl

end

end Cert.KernelIdeal.Gen

end
-- ==== Proof.KernelIdealRun.lean ====
/- The attention kernel's run: its launch, its body at every grid point, and what the run leaves. -/
module

public import proofs.«01_k».proof.Proof.KernelIdealBody
public import proofs.«01_k».proof.Proof.Gen.KernelIdeal.Launch
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- The host operations before the launch, stretch by stretch. -/
abbrev pre : List (List (HloOp τ sig (Elt F))) := [hostOps0, hostOps0_1, hostOps0_2, hostOps0_3, hostOps0_4]

/-- The buffers when the launch begins. -/
abbrev V (c : Dev nD) (b : Ref sig .tc) : Buf (Elt F) ((c : Thread nD τ).loc b) := StableHlo.after (pre (F := F)).flatten (fun b => m (c, b)) b

theorem pre_sub : (pre (F := F)).Forall fun ops => ops.Forall fun op => op.bufs ⊆ StableHlo.tcRefs τ sig :=
  ⟨hostOps0_sub, hostOps0_1_sub, hostOps0_2_sub, hostOps0_3_sub, hostOps0_4_sub⟩

theorem pre_fresh : (pre (F := F)).Forall fun ops => ops.Forall fun op => op.fresh = ∅ := by
  refine ⟨?_, ?_, ?_, ?_, ?_⟩ <;> (simp only [List.Forall]; repeat' constructor)

set_option maxHeartbeats 1600000 in
/-- The program is its host operations and then the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main pre pre_sub pre_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [pre, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- The table's contents at the launch. -/
def tbl : pre0.Contents (Elt F) := fun j => V m (0 : Dev nD) (pre0.ref j)
/-- The one table's words. -/
def tbl0 : Vec F S128 .i32 := tbl m 0
theorem V_pre (c : Dev nD) (j : Fin 1) : V m c (pre0.ref j) = tbl m j := by
  obtain rfl : c = 0 := Subsingleton.elim _ _; rfl
abbrev adm : (pcfg0 (F := F)).Adm := ⟨tbl m, (trivial : True)⟩
abbrev cfgM : Pipeline.Cfg sig Λ₀ := cfg0 (adm m)

/-- The table's words keep every point's tiles inside the arrays. -/
abbrev TblOk : Prop := ∀ i : grid0.Coords, k0_chk1 i (tword (F := F) i (tbl0 m))

abbrev tbM0_0 : Memref sig .tc .smem S128 .i32 := Memref.whole main_arg0

theorem PhiT0_eq (c : Dev nD) : (Pipeline.ΦT pre0 (tbl m) c : sProp 𝕄) = iprop(owns (c : Thread nD τ) tbM0_0 fullShare.right (tbl0 m)) := by
  unfold Pipeline.ΦT Pipeline.prefHeld
  rw [show (Finset.univ : Finset (Fin 1)) = {(0 : Fin 1)} from by decide, bigSep_singleton]
  exact (owns_whole (c : Thread nD τ) main_arg0 fullShare.right (tbl0 m)).symm

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- What a run leaves of the argument arrays. -/
abbrev ArgsKept (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)

/-- The argument arrays are no window's, so the run leaves them. -/
theorem args_of (rdat : (c : Dev nD) → Pipeline.RDat τ (Elt F) Unit ℕ (UR sig nD τ) ℕ ((Pipeline.pin pcfgs fun _ => adm m) 0) c) (r : PUnit × MemSt nD τ sig (Elt F))
    (h : Pipeline.RDat.FramePost ((Pipeline.pin pcfgs fun _ => adm m) 0) rdat (V m) r) : ArgsKept m r := fun c =>
  ⟨((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c)⟩

abbrev ms0_0 (t : Fin (cfgM m).N) : Memref sig .tc .vmem S512x256 .bf16 := spec0_0.stage ((cfgM m).slots t 0)
abbrev ms0_1 (t : Fin (cfgM m).N) : Memref sig .tc .vmem S512x128 .bf16 := spec0_1.stage ((cfgM m).slots t 1)
abbrev ms0_2 (t : Fin (cfgM m).N) : Memref sig .tc .vmem S8192x256 .bf16 := spec0_2.stage ((cfgM m).slots t 2)
abbrev ms0_3 (t : Fin (cfgM m).N) : Memref sig .tc .vmem S8192x128 .bf16 := spec0_3.stage ((cfgM m).slots t 3)
abbrev ms0_4 (t : Fin (cfgM m).N) : Memref sig .tc .vmem S1x256x8192 .bf16 := spec0_4.stage ((cfgM m).slots t 4)
abbrev ms0_5 (t : Fin (cfgM m).N) : Memref sig .tc .vmem S512x256 .bf16 := spec0_5.stage ((cfgM m).slots t 5)

/-- The body at point `t`, on the buffers the pipeline calls it with. -/
abbrev bodyAt0 (t : Fin (cfgM m).N) : Prog (TpuEff nD τ sig (Elt F) Λ₀ .tc) PUnit :=
  cc0_fox (grid0.coords t) (Memref.whole main_arg0) (Memref.isWhole_whole _) (ms0_0 m t) (hstage0_0 (((cfgM m).slots t 0).cast nbuf0_0)) (ms0_1 m t) (hstage0_1 (((cfgM m).slots t 1).cast nbuf0_1)) (ms0_2 m t) (hstage0_2 (((cfgM m).slots t 2).cast nbuf0_2)) (ms0_3 m t) (hstage0_3 (((cfgM m).slots t 3).cast nbuf0_3)) (ms0_4 m t) (hstage0_4 (((cfgM m).slots t 4).cast nbuf0_4)) (ms0_5 m t) (hstage0_5 (((cfgM m).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _)

theorem PhiA0_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d) ∗ (∃ d, owns (c : Thread nD τ) (Memref.whole cc0_scratch15) fullShare d) ∗ (∃ d, owns (c : Thread nD τ) (Memref.whole cc0_scratch16) fullShare d) ∗ (∃ d, owns (c : Thread nD τ) (Memref.whole cc0_scratch17) fullShare d) ∗ (∃ d, owns (c : Thread nD τ) (Memref.whole cc0_scratch18) fullShare d) ∗ (∃ d, owns (c : Thread nD τ) (Memref.whole cc0_scratch19) fullShare d) ∗ (∃ d, owns (c : Thread nD τ) (Memref.whole cc0_scratch20) fullShare d) ∗ (∃ d, owns (c : Thread nD τ) (Memref.whole cc0_scratch21) fullShare d) ∗ (∃ d, owns (c : Thread nD τ) (Memref.whole cc0_scratch22) fullShare d) ∗ (∃ d, owns (c : Thread nD τ) (Memref.whole cc0_scratch23) fullShare d) ∗ (∃ d, owns (c : Thread nD τ) (Memref.whole cc0_scratch24) fullShare d) ∗ (∃ d, owns (c : Thread nD τ) (Memref.whole cc0_scratch25) fullShare d) ∗ (∃ d, owns (c : Thread nD τ) (Memref.whole cc0_scratch26) fullShare d) ∗ (∃ d, owns (c : Thread nD τ) (Memref.whole cc0_scratch27) fullShare d)) ∗ (∃ r, prngReg c r)) := by
  unfold Pipeline.ΦA; rw [scopedRest0_eq]; simp only [owns_whole]; try rfl

/-- The output window is the last. -/
def forgets0 : Fin 6 → Bool := fun w => w.val == 5

/-- The run's data: the arrays at the launch, each input's block kept, the output's block `out t`, scratch at any contents. -/
def dats (out : (c : Dev nD) → Fin (cfgM m).N → S512x256.Idx → Elt F .bf16) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => out c t
  Φ _ := iprop(Pipeline.ΦA spec0 c ∗ Pipeline.ΦT pre0 (tbl m) c)
  q w := Pipeline.shareOf spec0 w
  owed _ := 0

variable (out : (c : Dev nD) → Fin (cfgM m).N → S512x256.Idx → Elt F .bf16)

theorem A_eq (c : Dev nD) (w : Fin (cfgM m).W) : (dats m out 0 c).A w = V m c (Pipeline.arrRef spec0 w) := by
  dsimp only [dats]
theorem after0_0 (c : Dev nD) (t : Fin (cfgM m).N) : (dats m out 0 c).after 0 t = iblk m c 0 t := by dsimp only [dats]; try rfl
theorem after0_1 (c : Dev nD) (t : Fin (cfgM m).N) : (dats m out 0 c).after 1 t = iblk m c 1 t := by dsimp only [dats]; try rfl
theorem after0_2 (c : Dev nD) (t : Fin (cfgM m).N) : (dats m out 0 c).after 2 t = iblk m c 2 t := by dsimp only [dats]; try rfl
theorem after0_3 (c : Dev nD) (t : Fin (cfgM m).N) : (dats m out 0 c).after 3 t = iblk m c 3 t := by dsimp only [dats]; try rfl
theorem after0_4 (c : Dev nD) (t : Fin (cfgM m).N) : (dats m out 0 c).after 4 t = iblk m c 4 t := by dsimp only [dats]; try rfl
theorem after0_5 (c : Dev nD) (t : Fin (cfgM m).N) : (dats m out 0 c).after 5 t = out c t := by dsimp only [dats]; try rfl
theorem before0_0 (c : Dev nD) (t : Fin (cfgM m).N) (d) : (dats m out 0 c).before 0 t d = iblk m c 0 t :=
  before0_0_of m (dats m out 0 c) (A_eq m out c 0) (after0_0 m out c) t d
theorem before0_1 (c : Dev nD) (t : Fin (cfgM m).N) (d) : (dats m out 0 c).before 1 t d = iblk m c 1 t :=
  before0_1_of m (dats m out 0 c) (A_eq m out c 1) (after0_1 m out c) t d
theorem before0_2 (c : Dev nD) (t : Fin (cfgM m).N) (d) : (dats m out 0 c).before 2 t d = iblk m c 2 t :=
  before0_2_of m (dats m out 0 c) (A_eq m out c 2) (after0_2 m out c) t d
theorem before0_3 (c : Dev nD) (t : Fin (cfgM m).N) (d) : (dats m out 0 c).before 3 t d = iblk m c 3 t :=
  before0_3_of m (dats m out 0 c) (A_eq m out c 3) (after0_3 m out c) t d
theorem before0_4 (c : Dev nD) (t : Fin (cfgM m).N) (d) : (dats m out 0 c).before 4 t d = iblk m c 4 t :=
  before0_4_of m (dats m out 0 c) (A_eq m out c 4) (after0_4 m out c) t d

/-- What the body is called with at point `t`. -/
def bodyPre (c : Dev nD) (t : Fin (cfgM m).N) : sProp 𝕄 :=
  iprop((dats m out 0 c).Φ t.castSucc ∗ (dats m out 0 c).owesAt () t.castSucc
    ∗ (∃ d, owns (c : Thread nD τ) (ms0_0 m t) fullShare ((dats m out 0 c).before 0 t d))
    ∗ (∃ d, owns (c : Thread nD τ) (ms0_1 m t) fullShare ((dats m out 0 c).before 1 t d))
    ∗ (∃ d, owns (c : Thread nD τ) (ms0_2 m t) fullShare ((dats m out 0 c).before 2 t d))
    ∗ (∃ d, owns (c : Thread nD τ) (ms0_3 m t) fullShare ((dats m out 0 c).before 3 t d))
    ∗ (∃ d, owns (c : Thread nD τ) (ms0_4 m t) fullShare ((dats m out 0 c).before 4 t d))
    ∗ (∃ d, owns (c : Thread nD τ) (ms0_5 m t) fullShare d))

/-- and what it returns: the output block some value the body gives, from some leftover weights. -/
def bodyMid (hT : TblOk m) (c : Dev nD) (t : Fin (cfgM m).N) : sProp 𝕄 :=
  iprop((dats m out 0 c).Φ t.succ ∗ (dats m out 0 c).owesAt () t.succ
    ∗ owns (c : Thread nD τ) (ms0_0 m t) fullShare ((dats m out 0 c).after 0 t)
    ∗ owns (c : Thread nD τ) (ms0_1 m t) fullShare ((dats m out 0 c).after 1 t)
    ∗ owns (c : Thread nD τ) (ms0_2 m t) fullShare ((dats m out 0 c).after 2 t)
    ∗ owns (c : Thread nD τ) (ms0_3 m t) fullShare ((dats m out 0 c).after 3 t)
    ∗ owns (c : Thread nD τ) (ms0_4 m t) fullShare ((dats m out 0 c).after 4 t)
    ∗ (∃ p0 p1 p2 p3, owns (c : Thread nD τ) (ms0_5 m t) fullShare
        (outBlk (grid0.coords t) (tword (F := F) (grid0.coords t) (tbl0 m)) (hT (grid0.coords t)) (iblk m c 0 t) (iblk m c 1 t) (iblk m c 2 t) (iblk m c 3 t) (iblk m c 4 t) p0 p1 p2 p3)))

/-- A program's triple with a frame beside it. -/
theorem wp_use {E : Set ℕ} {c : Dev nD} {P R : sProp 𝕄} {p : Prog (TpuEff nD τ sig (Elt F) Λ₀ .tc) PUnit}
    {Φ : PUnit → sProp 𝕄} {Q : PUnit → sProp 𝕄}
    (h : P ⊢ wp frame (wpE (defs₀ (F := F)) Variants.none c none) E p Φ) (hk : ∀ r, iprop(Φ r ∗ R) ⊢ Q r) :
    iprop(P ∗ R) ⊢ wp frame (wpE (defs₀ (F := F)) Variants.none c none) E p Q :=
  (sep_mono_left h).trans (BIBase.Entails.trans (wp_frame_r _ _ _) (wp_mono _ _ _ hk))

set_option maxHeartbeats 4000000 in
/-- The body at any point. -/
theorem sound_body (hT : TblOk m) (c : Dev nD) (t : Fin (cfgM m).N) :
    bodyPre m out c t ⊢ wp frame (wpE (defs₀ (F := F)) Variants.none c none) Set.univ (bodyAt0 m t) (fun _ => bodyMid m out hT c t) := by
  unfold bodyPre bodyMid bodyAt0
  simp only [before0_0, before0_1, before0_2, before0_3, before0_4]
  rw [show (dats m out 0 c).Φ t.succ = (dats m out 0 c).Φ t.castSucc from rfl,
    show (dats m out 0 c).owesAt () t.succ = (dats m out 0 c).owesAt () t.castSucc from rfl,
    after0_0, after0_1, after0_2, after0_3, after0_4]
  rw [show (dats m out 0 c).Φ t.castSucc = iprop(Pipeline.ΦA spec0 c ∗ Pipeline.ΦT pre0 (tbl m) c) from rfl, PhiT0_eq, PhiA0_eq]
  iintro ⟨⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s13, S13⟩, ⟨%s14, S14⟩, ⟨%s15, S15⟩, ⟨%s16, S16⟩, ⟨%s17, S17⟩, ⟨%s18, S18⟩, ⟨%s19, S19⟩, ⟨%s20, S20⟩, ⟨%s21, S21⟩, ⟨%s22, S22⟩, ⟨%s23, S23⟩, ⟨%s24, S24⟩, ⟨%s25, S25⟩, ⟨%s26, S26⟩, ⟨%s27, S27⟩⟩, Hg⟩, HT0⟩, Ho, ⟨%d0, H0⟩, ⟨%d1, H1⟩, ⟨%d2, H2⟩, ⟨%d3, H3⟩, ⟨%d4, H4⟩, ⟨%d5, H5⟩⟩
  iapply (wp_use (R := iprop((∃ r, prngReg c r) ∗ (dats m out 0 c).owesAt () t.castSucc))
    (body (Memref.whole main_arg0) (Memref.isWhole_whole _) (ms0_0 m t) (hstage0_0 (((cfgM m).slots t 0).cast nbuf0_0)) (ms0_1 m t) (hstage0_1 (((cfgM m).slots t 1).cast nbuf0_1)) (ms0_2 m t) (hstage0_2 (((cfgM m).slots t 2).cast nbuf0_2)) (ms0_3 m t) (hstage0_3 (((cfgM m).slots t 3).cast nbuf0_3)) (ms0_4 m t) (hstage0_4 (((cfgM m).slots t 4).cast nbuf0_4)) (ms0_5 m t) (hstage0_5 (((cfgM m).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _)
      c Set.univ (grid0.coords t) fullShare.right (tbl0 m) (iblk m c 0 t) (iblk m c 1 t) (iblk m c 2 t) (iblk m c 3 t) (iblk m c 4 t) d5 s0 s1 s2 s3 ⟨s4, s8, s12, s16, s20, s24⟩ ⟨s5, s9, s13, s17, s21, s25⟩ ⟨s6, s10, s14, s18, s22, s26⟩ ⟨s7, s11, s15, s19, s23, s27⟩ (hT (grid0.coords t)))
    (fun _ => ?post))
  case post =>
    unfold ownsHS
    iintro ⟨⟨%p0, %p1, %p2, %p3, HT0, H0, H1, H2, H3, H4, H5, S0, S1, S2, S3, ⟨S4, S8, S12, S16, S20, S24⟩, ⟨S5, S9, S13, S17, S21, S25⟩, ⟨S6, S10, S14, S18, S22, S26⟩, ⟨S7, S11, S15, S19, S23, S27⟩⟩, Hg, Ho⟩
    isplitl [S0 S1 S2 S3 S4 S5 S6 S7 S8 S9 S10 S11 S12 S13 S14 S15 S16 S17 S18 S19 S20 S21 S22 S23 S24 S25 S26 S27 Hg HT0]
    · isplitl [S0 S1 S2 S3 S4 S5 S6 S7 S8 S9 S10 S11 S12 S13 S14 S15 S16 S17 S18 S19 S20 S21 S22 S23 S24 S25 S26 S27 Hg]
      · isplitl [S0 S1 S2 S3 S4 S5 S6 S7 S8 S9 S10 S11 S12 S13 S14 S15 S16 S17 S18 S19 S20 S21 S22 S23 S24 S25 S26 S27]
        · isplitl [S0]; · iexists _; iexact S0
          isplitl [S1]; · iexists _; iexact S1
          isplitl [S2]; · iexists _; iexact S2
          isplitl [S3]; · iexists _; iexact S3
          isplitl [S4]; · iexists _; iexact S4
          isplitl [S5]; · iexists _; iexact S5
          isplitl [S6]; · iexists _; iexact S6
          isplitl [S7]; · iexists _; iexact S7
          isplitl [S8]; · iexists _; iexact S8
          isplitl [S9]; · iexists _; iexact S9
          isplitl [S10]; · iexists _; iexact S10
          isplitl [S11]; · iexists _; iexact S11
          isplitl [S12]; · iexists _; iexact S12
          isplitl [S13]; · iexists _; iexact S13
          isplitl [S14]; · iexists _; iexact S14
          isplitl [S15]; · iexists _; iexact S15
          isplitl [S16]; · iexists _; iexact S16
          isplitl [S17]; · iexists _; iexact S17
          isplitl [S18]; · iexists _; iexact S18
          isplitl [S19]; · iexists _; iexact S19
          isplitl [S20]; · iexists _; iexact S20
          isplitl [S21]; · iexists _; iexact S21
          isplitl [S22]; · iexists _; iexact S22
          isplitl [S23]; · iexists _; iexact S23
          isplitl [S24]; · iexists _; iexact S24
          isplitl [S25]; · iexists _; iexact S25
          isplitl [S26]; · iexists _; iexact S26
          iexists _; iexact S27
        iexact Hg
      iexact HT0
    isplitl [Ho]; · iexact Ho
    isplitl [H0]; · iexact H0
    isplitl [H1]; · iexact H1
    isplitl [H2]; · iexact H2
    isplitl [H3]; · iexact H3
    isplitl [H4]; · iexact H4
    iexists p0, p1, p2, p3; iexact H5
  isplitr [Hg Ho]; swap
  · isplitl [Hg]; · iexact Hg
    iexact Ho
  isplitl [HT0 H0 H1 S8 S9 S10 S11]
  · isplitl [HT0]; · iexact HT0
    isplitl [H0]; · iexact H0
    isplitl [H1]; · iexact H1
    isplitl [S8]; · iexact S8
    isplitl [S9]; · iexact S9
    isplitl [S10]; · iexact S10
    iexact S11
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  isplitl [S4]; · iexact S4
  isplitl [S12]; · iexact S12
  isplitl [S16]; · iexact S16
  isplitl [S20]; · iexact S20
  isplitl [S24]; · iexact S24
  isplitl [S5]; · iexact S5
  isplitl [S13]; · iexact S13
  isplitl [S17]; · iexact S17
  isplitl [S21]; · iexact S21
  isplitl [S25]; · iexact S25
  isplitl [S6]; · iexact S6
  isplitl [S14]; · iexact S14
  isplitl [S18]; · iexact S18
  isplitl [S22]; · iexact S22
  isplitl [S26]; · iexact S26
  isplitl [S7]; · iexact S7
  isplitl [S15]; · iexact S15
  isplitl [S19]; · iexact S19
  isplitl [S23]; · iexact S23
  iexact S27

theorem defs₀_row (t : Fin (cfgM m).N) :
    defs₀ (F := F) .tc (cfgM m).body ((cfgM m).bodyArgs t ((cfgM m).slots t)) = bodyAt0 m t := by
  unfold defs₀; rw [Defs.onTc_tc]

/-- What the body returns when its output block is left unnamed. -/
def bodyPostF (c : Dev nD) (t : Fin (cfgM m).N) : sProp 𝕄 :=
  iprop((dats m out 0 c).Φ t.succ ∗ (dats m out 0 c).owesAt () t.succ
    ∗ owns (c : Thread nD τ) (ms0_0 m t) fullShare ((dats m out 0 c).after 0 t)
    ∗ owns (c : Thread nD τ) (ms0_1 m t) fullShare ((dats m out 0 c).after 1 t)
    ∗ owns (c : Thread nD τ) (ms0_2 m t) fullShare ((dats m out 0 c).after 2 t)
    ∗ owns (c : Thread nD τ) (ms0_3 m t) fullShare ((dats m out 0 c).after 3 t)
    ∗ owns (c : Thread nD τ) (ms0_4 m t) fullShare ((dats m out 0 c).after 4 t)
    ∗ (∃ d, owns (c : Thread nD τ) (ms0_5 m t) fullShare d))

/-- What the body returns when its output block is named. -/
def bodyPostN (c : Dev nD) (t : Fin (cfgM m).N) : sProp 𝕄 :=
  iprop((dats m out 0 c).Φ t.succ ∗ (dats m out 0 c).owesAt () t.succ
    ∗ owns (c : Thread nD τ) (ms0_0 m t) fullShare ((dats m out 0 c).after 0 t)
    ∗ owns (c : Thread nD τ) (ms0_1 m t) fullShare ((dats m out 0 c).after 1 t)
    ∗ owns (c : Thread nD τ) (ms0_2 m t) fullShare ((dats m out 0 c).after 2 t)
    ∗ owns (c : Thread nD τ) (ms0_3 m t) fullShare ((dats m out 0 c).after 3 t)
    ∗ owns (c : Thread nD τ) (ms0_4 m t) fullShare ((dats m out 0 c).after 4 t)
    ∗ owns (c : Thread nD τ) (ms0_5 m t) fullShare ((dats m out 0 c).after 5 t))

theorem sound_bodyF (hT : TblOk m) (c : Dev nD) (t : Fin (cfgM m).N) :
    bodyPre m out c t ⊢ wp frame (wpE (defs₀ (F := F)) Variants.none c none) Set.univ (bodyAt0 m t) (fun _ => bodyPostF m out c t) := by
  refine (sound_body m out hT c t).trans (wp_mono _ _ _ fun _ => ?_)
  unfold bodyMid bodyPostF
  iintro ⟨HP, Ho, H0, H1, H2, H3, H4, ⟨%p0, %p1, %p2, %p3, H5⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  iexists _; iexact H5

/-- The block the body gives, whatever weights were left over. -/
abbrev OutIs (hT : TblOk m) : Prop := ∀ (c : Dev nD) (t : Fin (cfgM m).N) (p0 p1 p2 p3 : S512x512.Idx → Elt F .bf16),
  outBlk (grid0.coords t) (tword (F := F) (grid0.coords t) (tbl0 m)) (hT (grid0.coords t)) (iblk m c 0 t) (iblk m c 1 t) (iblk m c 2 t) (iblk m c 3 t) (iblk m c 4 t) p0 p1 p2 p3 = out c t

theorem sound_bodyN (hT : TblOk m) (hO : OutIs m out hT) (c : Dev nD) (t : Fin (cfgM m).N) :
    bodyPre m out c t ⊢ wp frame (wpE (defs₀ (F := F)) Variants.none c none) Set.univ (bodyAt0 m t) (fun _ => bodyPostN m out c t) := by
  refine (sound_body m out hT c t).trans (wp_mono _ _ _ fun _ => ?_)
  unfold bodyMid bodyPostN
  rw [after0_5]
  iintro ⟨HP, Ho, H0, H1, H2, H3, H4, ⟨%p0, %p1, %p2, %p3, H5⟩⟩
  rw [hO c t p0 p1 p2 p3]
  isplitl [HP]; · iexact HP
  isplitl [Ho]; · iexact Ho
  isplitl [H0]; · iexact H0
  isplitl [H1]; · iexact H1
  isplitl [H2]; · iexact H2
  isplitl [H3]; · iexact H3
  isplitl [H4]; · iexact H4
  iexact H5

theorem body_obligationF (hT : TblOk m) (c : Dev nD) : BodyObligation (dats (F := F) m out 0 c) (defs₀ (F := F)) Variants.none () Set.univ forgets0 := fun t => by
  rw [bigSep_W0, bigSep_W0, defs₀_row m]
  exact triple_restated (sound_bodyF m out hT c t) rfl .rfl fun _ => .rfl

theorem body_obligationN (hT : TblOk m) (hO : OutIs m out hT) (c : Dev nD) : BodyObligation (dats (F := F) m out 0 c) (defs₀ (F := F)) Variants.none () Set.univ := fun t => by
  rw [bigSep_W0, bigSep_W0, defs₀_row m]
  exact triple_restated (sound_bodyN m out hT hO c t) rfl
    (by
      unfold bodyPre
      iintro ⟨HP, Ho, H0, H1, H2, H3, H4, ⟨%d5, H5⟩⟩
      isplitl [HP]; · iexact HP
      isplitl [Ho]; · iexact Ho
      isplitl [H0]; · iexact H0
      isplitl [H1]; · iexact H1
      isplitl [H2]; · iexact H2
      isplitl [H3]; · iexact H3
      isplitl [H4]; · iexact H4
      iexists _; iexact H5) fun _ => .rfl

set_option backward.isDefEq.respectTransparency.types false in
/-- The run, its output unnamed. -/
theorem run_forget (hT : TblOk m) : θ_run defs (onTc (τ := τ) (main (F := F))) (s₀ m ρ) (fun r => (Pipeline.RDat.FramePost ((Pipeline.pin pcfgs fun _ => adm m) 0) (fun c => (dats m out 0 c).toRForget forgets0) (V m)) r ∧ r.2.sem = fun _ => 0) :=
  Pipeline.θ_run_frameP_forget_shared (Q' := _) pcfgs (fun _ => adm m) (dats m out) (0 : Fin 1) launch₀0 defs₀ Variants.none forgets0 m ρ main
    (hbody := fun c => (body_obligationF m out hT c).loose) (hq := fun _ _ _ => rfl)
    (howed := fun _ _ => rfl) (V := V m) (hmain := hmain m Variants.none) (hA := A_eq m out) (hpf := V_pre m) (hΦ := fun _ _ => rfl)

set_option backward.isDefEq.respectTransparency.types false in
/-- The run, its output named. -/
theorem run_named (hT : TblOk m) (hO : OutIs m out hT) : θ_run defs (onTc (τ := τ) (main (F := F))) (s₀ m ρ) (fun r => (Pipeline.FramePost (Pipeline.pin pcfgs fun _ => adm m) (dats m out) 0 (V m)) r ∧ r.2.sem = fun _ => 0) :=
  Pipeline.θ_run_frameP_shared (Q' := _) pcfgs (fun _ => adm m) (dats m out) (0 : Fin 1) launch₀0 defs₀ Variants.none m ρ main
    (hbody := fun c => (body_obligationN m out hT hO c).loose) (hq := fun _ _ _ => rfl)
    (howed := fun _ _ => rfl) (V := V m) (hmain := hmain m Variants.none) (hA := A_eq m out) (hpf := V_pre m) (hΦ := fun _ _ => rfl)

/-- The frame: every execution ends, the arguments unchanged and the semaphores at zero. -/
theorem frame_run (hT : TblOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_of m (fun c => (dats m (fun c t => Pipeline.Dat.unnamed (cfg := (cfgM m)) 5 t) 0 c).toRForget forgets0) r h.1, h.2⟩)
    (run_forget m ρ (fun c t => Pipeline.Dat.unnamed (cfg := (cfgM m)) 5 t) hT)

end Cert.KernelIdeal.Gen

end
-- ==== Proof.KernelIdealTable.lean ====
/- The table of first tiles: the precondition keeps every point's tiles inside the arrays. -/
module

public import proofs.«01_k».proof.Proof.KernelIdealRun
public import proofs.«01_k».proof.Proof.Pre

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- A grid point with the query tile `a`. -/
def qpt (a : Fin 16) : grid0.Coords := fun x => match x with
  | ⟨0, _⟩ => (⟨0, by decide⟩ : Fin 4)
  | ⟨1, _⟩ => (⟨0, by decide⟩ : Fin 2)
  | ⟨2, _⟩ => a

set_option maxHeartbeats 4000000 in
/-- From a first tile no later than the query tile every offset is in bounds. -/
theorem chk_small : ∀ a b : Fin 16, b.val ≤ a.val → k0_chk1 (qpt a) (BitVec.ofNat 32 b.val) := by decide +kernel

theorem chk_of (i : grid0.Coords) (v : BitVec 32) (h : v.toNat ≤ (i 2).val) : k0_chk1 i v := by
  have hi : (i 2).val < 16 := (i 2).isLt
  have := chk_small ⟨(i 2).val, hi⟩ ⟨v.toNat, by omega⟩ h
  rw [BitVec.ofNat_toNat, BitVec.setWidth_eq] at this
  exact this

/-- The table entry of a grid point belongs to its query tile. -/
theorem off_mod : ∀ (a : Fin 4) (b : Fin 2) (e : Fin 16), ((Scalar.addi (Scalar.muli (Scalar.addi (Scalar.muli (BitVec.ofNat 32 a.val) 2#32) (BitVec.ofNat 32 b.val)) 16#32) (BitVec.ofNat 32 e.val)).toNat = (a.val * 2 + b.val) * 16 + e.val) := by decide +kernel

theorem off_val (i : grid0.Coords) : k0_off1 i 0 = ((i 0).val * 2 + (i 1).val) * 16 + (i 2).val := off_mod (i 0) (i 1) (i 2)

theorem tblOk_of (m : (ℓ : Loc nD τ sig) → Buf (Elt F) ℓ)
    (h : ∀ n : Fin 128, (tbl0 m (Cert.Pre.tix n)).toNat ≤ n.val % 16) : TblOk m := by
  intro i
  have h2 : (i 2).val < 16 := (i 2).isLt
  have hlt : ((i 0).val * 2 + (i 1).val) * 16 + (i 2).val < 128 := by
    have h0 : (i 0).val < 4 := (i 0).isLt
    have h1 : (i 1).val < 2 := (i 1).isLt
    omega
  refine chk_of i _ ?_
  have := h ⟨((i 0).val * 2 + (i 1).val) * 16 + (i 2).val, hlt⟩
  have e : tword i (tbl0 m) = tbl0 m (Cert.Pre.tix ⟨((i 0).val * 2 + (i 1).val) * 16 + (i 2).val, hlt⟩) := by
    unfold tword Cert.Pre.tix
    refine congrArg (tbl0 m) (funext fun a => Fin.ext ?_)
    match a with
    | ⟨0, _⟩ => exact off_val i
  rw [e]; refine this.trans ?_
  show (((i 0).val * 2 + (i 1).val) * 16 + (i 2).val) % 16 ≤ _
  omega

end Cert.KernelIdeal.Gen

end
-- ==== Proof.OutRow.lean ====
/- One row of the block's output: the sums and the two normalizations, and the kernel's stored block as that. -/
module

public import proofs.«01_k».proof.Proof.Gen.Kernel2Ideal.Value
public import Idealize.ShloMosaic.Lib.MatmulPlain
public import Idealize.ShloMosaic.Lib.ValueLayoutCasts

@[expose] public section

noncomputable section

namespace Cert.Out

open Idealize.ShloMosaic Idealize.ShloMosaic.ValueIdx
open scoped BigOperators

/-- Position `d` of the first half of a row of 1024. -/
abbrev lo (d : Fin 512) : Fin 1024 := ⟨d.val, by omega⟩
/-- Position `d` of the second half. -/
abbrev hi (d : Fin 512) : Fin 1024 := ⟨512 + d.val, by omega⟩
/-- Column `f` of the gate half of the joined weight. -/
abbrev gc (f : Fin 2816) : Fin 5632 := ⟨f.val, by omega⟩
/-- Column `f` of its other half. -/
abbrev uc (f : Fin 2816) : Fin 5632 := ⟨2816 + f.val, by omega⟩

/-- The row divided by its root mean square, times the weight. -/
def nrm (z g : Fin 1024 → EReal) (e : Fin 1024) : EReal :=
  z e * Ideal.rsqrt (Ideal.div (∑ k, z k * z k) (FloatOps.ofBits (F := Ideal) .f32 0x44800000#32)
    + FloatOps.ofBits (F := Ideal) .f32 0x358637BD#32) * g e

/-- The row after the output projection of the two halves. -/
def mid (x : Fin 1024 → EReal) (p y : Fin 512 → EReal) (wa wb : Fin 512 → Fin 1024 → EReal) (e : Fin 1024) : EReal :=
  x e + (∑ d, p d * wa d e) + ∑ d, y d * wb d e

/-- The gated hidden row. -/
def act (h : Fin 1024 → EReal) (wg wu : Fin 1024 → Fin 2816 → EReal) (f : Fin 2816) : EReal :=
  (∑ k, h k * wg k f) * Ideal.logistic (∑ k, h k * wg k f) * ∑ k, h k * wu k f

/-- The whole row. -/
def row (x : Fin 1024 → EReal) (p y : Fin 512 → EReal) (wa wb : Fin 512 → Fin 1024 → EReal) (g : Fin 1024 → EReal)
    (wg wu : Fin 1024 → Fin 2816 → EReal) (wd : Fin 2816 → Fin 1024 → EReal) (gf : Fin 1024 → EReal) (e : Fin 1024) : EReal :=
  nrm (fun e => mid x p y wa wb e + ∑ f, act (nrm (mid x p y wa wb) g) wg wu f * wd f e) gf e

end Cert.Out

namespace Cert.Kernel2Ideal.Gen

open Idealize.ShloMosaic Idealize.ShloMosaic.ValueIdx Cert.Out
open scoped BigOperators

theorem zero_word : (FloatOps.ofBits (F := Ideal) .f32 0x00000000#32 : EReal) = 0 := by
  simp [FloatOps.ofBits, Ideal.ofBits, Ideal.ieee]

theorem mmA (p : FVec Ideal S512x512 .bf16) (w : FVec Ideal S512x1024 .bf16) (r : Fin 512) (e : Fin 1024) :
    matmul dot_S512x512_S512x1024_S512x1024_1_0_0_1_n_n none p w (constant S512x1024 .f32 0x00000000#32) (ix2 r e)
      = ∑ k : Fin 512, p (ix2 r k) * w (ix2 k e) :=
  (Ideal.matmul_plain_apply (M := 512) (K := 512) (N := 1024) none p w _ r e).trans
    ((congrArg (· + _) zero_word).trans (zero_add _))

theorem mmB (p : FVec Ideal S512x1024 .bf16) (w : FVec Ideal S1024x2816 .bf16) (r : Fin 512) (e : Fin 2816) :
    matmul dot_S512x1024_S1024x2816_S512x2816_1_0_0_1_n_n none p w (constant S512x2816 .f32 0x00000000#32) (ix2 r e)
      = ∑ k : Fin 1024, p (ix2 r k) * w (ix2 k e) :=
  (Ideal.matmul_plain_apply (M := 512) (K := 1024) (N := 2816) none p w _ r e).trans
    ((congrArg (· + _) zero_word).trans (zero_add _))

theorem mmC (p : FVec Ideal S512x2816 .bf16) (w : FVec Ideal S2816x1024 .bf16) (r : Fin 512) (e : Fin 1024) :
    matmul dot_S512x2816_S2816x1024_S512x1024_1_0_0_1_n_n none p w (constant S512x1024 .f32 0x00000000#32) (ix2 r e)
      = ∑ k : Fin 2816, p (ix2 r k) * w (ix2 k e) :=
  (Ideal.matmul_plain_apply (M := 512) (K := 2816) (N := 1024) none p w _ r e).trans
    ((congrArg (· + _) zero_word).trans (zero_add _))

/-- The normalization of a block, as the kernel writes it. -/
def normV (z : FVec Ideal S512x1024 .f32) (g : FVec Ideal S1x1024 .f32) : FVec Ideal S512x1024 .f32 :=
  mulf (mulf z (broadcastTo S512x1024 (rsqrt (addf (divf (shapeCast S512x1
    (multiReduction .add [1] S512 (mulf z z) 0x00000000#32 reduces_S512x1024_S512 (.inl rfl) rfl) shapeCasts_S512_S512x1)
    (broadcast S512x1 (Scalar.ofBits (F := Ideal) .f32 0x44800000#32)))
    (broadcast S512x1 (Scalar.ofBits (F := Ideal) .f32 0x358637BD#32)))) broadcasts_S512x1_S512x1024))
    (broadcastTo S512x1024 (shapeCast S1x1024 g shapeCasts_S1x1024_S1x1024) broadcasts_S1x1024_S512x1024)

theorem colB (v : FVec Ideal S512x1 .f32) (r : Fin 512) (e : Fin 1024) :
    broadcastTo S512x1024 v broadcasts_S512x1_S512x1024 (ix2 r e) = v (ix2 r 0) :=
  broadcastTo_apply v _ _ _ (fun a => match a with
    | ⟨0, _⟩ => by show r.val = if (512 : Nat) = 1 then 0 else r.val; rw [if_neg (by decide)]
    | ⟨1, _⟩ => by show (0 : Nat) = if (1 : Nat) = 1 then 0 else e.val; rw [if_pos rfl])

theorem rowB (v : FVec Ideal S1x1024 .f32) (r : Fin 512) (e : Fin 1024) :
    broadcastTo S512x1024 v broadcasts_S1x1024_S512x1024 (ix2 r e) = v (ix2 0 e) :=
  broadcastTo_apply v _ _ _ (fun a => match a with
    | ⟨0, _⟩ => by show (0 : Nat) = if (1 : Nat) = 1 then 0 else r.val; rw [if_pos rfl]
    | ⟨1, _⟩ => by show e.val = if (1024 : Nat) = 1 then 0 else e.val; rw [if_neg (by decide)])

theorem sumR (v : FVec Ideal S512x1024 .f32) (r : Fin 512) :
    shapeCast S512x1 (multiReduction .add [1] S512 v 0x00000000#32 reduces_S512x1024_S512 (.inl rfl) rfl) shapeCasts_S512_S512x1 (ix2 r 0)
      = ∑ k : Fin 1024, v (ix2 r k) :=
  (shapeCast_a_a1_apply _ _ r 0).trans ((Ideal.multiReduction_add_single v _ reduces_S512x1024_S512 (.inl rfl) rfl (ix1 r)).trans
    (Finset.sum_congr rfl fun k _ => congrArg v (funext fun a => match a with | ⟨0, _⟩ => rfl | ⟨1, _⟩ => rfl)))

theorem normV_apply (z : FVec Ideal S512x1024 .f32) (g : FVec Ideal S1x1024 .f32) (r : Fin 512) (e : Fin 1024) :
    normV z g (ix2 r e) = nrm (fun k => z (ix2 r k)) (fun k => g (ix2 0 k)) e := by
  unfold normV nrm
  rw [shapeCast_self]
  refine congrArg₂ (· * ·) (congrArg (z (ix2 r e) * ·) ((colB _ r e).trans ?_)) (rowB g r e)
  exact congrArg (fun s : EReal => Ideal.rsqrt (Ideal.div s (FloatOps.ofBits (F := Ideal) .f32 0x44800000#32)
    + FloatOps.ofBits (F := Ideal) .f32 0x358637BD#32)) (sumR (mulf z z) r)

theorem pay2_apply (v0 : FVec Ideal S512x1024 .f32) (v1 : FVec Ideal S512x512 .bf16) (v2 : FVec Ideal S512x1024 .bf16)
    (v6 : FVec Ideal S512x512 .bf16) (v7 : FVec Ideal S512x1024 .bf16) (r : Fin 512) (e : Fin 1024) :
    k0_pay2 (F := Ideal) v0 v1 v2 v6 v7 (ix2 r e)
      = mid (fun k => v0 (ix2 r k)) (fun d => v1 (ix2 r d)) (fun d => v6 (ix2 r d)) (fun d k => v2 (ix2 d k)) (fun d k => v7 (ix2 d k)) e := by
  unfold k0_pay2 mid
  rw [shapeCast_self, shapeCast_self]
  exact congrArg₂ (· + ·) (congrArg (v0 (ix2 r e) + ·) (mmA v1 v2 r e)) (mmA v6 v7 r e)

/-- The gated block, over the normalized one. -/
def actV (h : FVec Ideal S512x1024 .f32) (wg wu : FVec Ideal S1024x2816 .bf16) : FVec Ideal S512x2816 .bf16 :=
  truncf .bf16 (mulf (mulf (matmul dot_S512x1024_S1024x2816_S512x2816_1_0_0_1_n_n none (truncf .bf16 h bitsLt_bf16_f32) wg (constant S512x2816 .f32 0x00000000#32))
    (logistic (matmul dot_S512x1024_S1024x2816_S512x2816_1_0_0_1_n_n none (truncf .bf16 h bitsLt_bf16_f32) wg (constant S512x2816 .f32 0x00000000#32))))
    (matmul dot_S512x1024_S1024x2816_S512x2816_1_0_0_1_n_n none (truncf .bf16 h bitsLt_bf16_f32) wu (constant S512x2816 .f32 0x00000000#32))) bitsLt_bf16_f32

theorem actV_apply (h : FVec Ideal S512x1024 .f32) (wg wu : FVec Ideal S1024x2816 .bf16) (r : Fin 512) (f : Fin 2816) :
    actV h wg wu (ix2 r f) = act (fun k => h (ix2 r k)) (fun k f => wg (ix2 k f)) (fun k f => wu (ix2 k f)) f := by
  unfold act
  exact congrArg₂ (· * ·) (congrArg (fun s : EReal => s * Ideal.logistic s) (mmB (truncf .bf16 h bitsLt_bf16_f32) wg r f))
    (mmB (truncf .bf16 h bitsLt_bf16_f32) wu r f)

theorem pay3_eq (v0 : FVec Ideal S512x1024 .f32) (v1 : FVec Ideal S512x512 .bf16) (v2 : FVec Ideal S512x1024 .bf16)
    (v6 : FVec Ideal S512x512 .bf16) (v7 : FVec Ideal S512x1024 .bf16) (g : FVec Ideal S1x1024 .f32) (wg wu : FVec Ideal S1024x2816 .bf16) :
    k0_pay3 (F := Ideal) v0 v1 v2 v6 v7 g wg wu = actV (normV (k0_pay2 v0 v1 v2 v6 v7) g) wg wu := by
  unfold k0_pay3 actV normV
  simp only [shapeCast_self]

theorem pay1_eq (z : FVec Ideal S512x1024 .f32) (a : FVec Ideal S512x2816 .bf16) (w : FVec Ideal S2816x1024 .bf16) (g : FVec Ideal S1x1024 .f32) :
    k0_pay1 (F := Ideal) z a w g = normV (addf z (matmul dot_S512x2816_S2816x1024_S512x1024_1_0_0_1_n_n none a w (constant S512x1024 .f32 0x00000000#32))) g := by
  unfold k0_pay1 normV
  simp only [shapeCast_self]

theorem pay_apply (v0 : FVec Ideal S512x1024 .f32) (v1 : FVec Ideal S512x512 .bf16) (v2 : FVec Ideal S512x1024 .bf16)
    (v6 : FVec Ideal S512x512 .bf16) (v7 : FVec Ideal S512x1024 .bf16) (g : FVec Ideal S1x1024 .f32) (wg wu : FVec Ideal S1024x2816 .bf16)
    (w : FVec Ideal S2816x1024 .bf16) (gf : FVec Ideal S1x1024 .f32) (r : Fin 512) (e : Fin 1024) :
    k0_pay1 (F := Ideal) (k0_pay2 v0 v1 v2 v6 v7) (k0_pay3 v0 v1 v2 v6 v7 g wg wu) w gf (ix2 r e)
      = row (fun k => v0 (ix2 r k)) (fun d => v1 (ix2 r d)) (fun d => v6 (ix2 r d)) (fun d k => v2 (ix2 d k)) (fun d k => v7 (ix2 d k))
          (fun k => g (ix2 0 k)) (fun k f => wg (ix2 k f)) (fun k f => wu (ix2 k f)) (fun f k => w (ix2 f k)) (fun k => gf (ix2 0 k)) e := by
  rw [pay3_eq, pay1_eq, normV_apply]
  unfold row
  refine congrArg (fun z => nrm z _ e) (funext fun k => ?_)
  refine congrArg₂ (· + ·) (pay2_apply v0 v1 v2 v6 v7 r k) ((mmC _ w r k).trans (Finset.sum_congr rfl fun f _ => ?_))
  rw [actV_apply]
  refine congrArg (fun h => act h _ _ f * _) (funext fun j => ?_)
  rw [normV_apply]
  exact congrArg (fun z => nrm z _ j) (funext fun i => pay2_apply v0 v1 v2 v6 v7 r i)

end Cert.Kernel2Ideal.Gen
-- ==== Proof.OutRef.lean ====
/- The reference's result, read at one place: the row function of OutRow at the arrays' rows. -/
module

public import proofs.«01_k».proof.Proof.OutRow
public import proofs.«01_k».proof.Proof.Gen.Reference2Ideal.Read

@[expose] public section

noncomputable section

namespace Cert.Reference2Ideal.Read

open Cert.Reference2Ideal Cert.Reference2Ideal.Gen Idealize.ShloMosaic Idealize.ShloMosaic.ValueIdx Cert.Out
open scoped BigOperators

variable (x0 : (⟨S32768x1024, .f32⟩ : BufTy).Contents (Elt Ideal)) (x1 x2 : (⟨S32768x512, .bf16⟩ : BufTy).Contents (Elt Ideal))
  (x3 : (⟨S1024x1024, .f32⟩ : BufTy).Contents (Elt Ideal)) (x4 : (⟨S1024, .f32⟩ : BufTy).Contents (Elt Ideal))
  (x5 : (⟨S1024x5632, .f32⟩ : BufTy).Contents (Elt Ideal)) (x6 : (⟨S2816x1024, .f32⟩ : BufTy).Contents (Elt Ideal))
  (x7 : (⟨S1024, .f32⟩ : BufTy).Contents (Elt Ideal))

theorem zero_word : (FloatOps.ofBits (F := Ideal) .f32 0x00000000#32 : EReal) = 0 := by
  simp [FloatOps.ofBits, Ideal.ofBits, Ideal.ieee]

theorem one_word : (FloatOps.ofBits (F := Ideal) .f32 0x3F800000#32 : EReal) = 1 := by
  simp [FloatOps.ofBits, Ideal.ofBits, Ideal.ieee]
  rw [← EReal.coe_mul, ← EReal.coe_one]
  norm_num

/-- Two indices of two axes with the same coordinates. -/
theorem ext2 {n0 n1 : Nat} (i j : (⟨2, ![n0, n1]⟩ : Shape).Idx) (h0 : (i 0).val = (j 0).val) (h1 : (i 1).val = (j 1).val) : i = j :=
  funext fun a => match a with | ⟨0, _⟩ => Fin.ext h0 | ⟨1, _⟩ => Fin.ext h1

theorem ext1 {n0 : Nat} (i j : (⟨1, ![n0]⟩ : Shape).Idx) (h0 : (i 0).val = (j 0).val) : i = j :=
  funext fun a => match a with | ⟨0, _⟩ => Fin.ext h0

theorem v2_lo (t : Fin 32768) (d : Fin 512) : val_main_v2 (F := Ideal) x1 x2 (ix2 t (lo d)) = x1 (ix2 t d) :=
  concatenate_pair_apply_left (t := S32768x1024) (s₁ := S32768x512) (s₂ := S32768x512) 1 _ _
    concatenates_S32768x512_S32768x512_S32768x1024_d1 (ix2 t (lo d)) rfl (ix2 t d) (fun b => match b with | ⟨0, _⟩ => rfl | ⟨1, _⟩ => rfl)

theorem v2_hi (t : Fin 32768) (d : Fin 512) : val_main_v2 (F := Ideal) x1 x2 (ix2 t (hi d)) = x2 (ix2 t d) :=
  concatenate_pair_apply_right (t := S32768x1024) (s₁ := S32768x512) (s₂ := S32768x512) 1 _ _
    concatenates_S32768x512_S32768x512_S32768x1024_d1 (ix2 t (hi d)) rfl rfl (ix2 t d)
    (fun b => match b with | ⟨0, _⟩ => fun _ => rfl | ⟨1, _⟩ => fun h => absurd rfl h) (Nat.add_comm d.val 512)

theorem sum_halves (f : Fin 1024 → EReal) : ∑ k, f k = (∑ d : Fin 512, f (lo d)) + ∑ d : Fin 512, f (hi d) :=
  (Fin.sum_univ_add (a := 512) (b := 512) f).trans rfl

/-- The two halves of the output projection's weight. -/
abbrev wa : Fin 512 → Fin 1024 → EReal := fun d k => x3 (ix2 (lo d) k)
abbrev wb : Fin 512 → Fin 1024 → EReal := fun d k => x3 (ix2 (hi d) k)

theorem v4_at (t : Fin 32768) (e : Fin 1024) : val_main_v4 (F := Ideal) x0 x1 x2 x3 (ix2 t e)
    = mid (fun k => x0 (ix2 t k)) (fun d => x1 (ix2 t d)) (fun d => x2 (ix2 t d)) (wa x3) (wb x3) e := by
  rw [val_main_v4_apply, val_main_v3_apply, sum_halves]
  unfold mid
  refine (add_assoc (x0 (ix2 t e) : EReal) _ _).symm.trans ?_
  refine congrArg₂ (· + ·) (congrArg (x0 (ix2 t e) + ·) (Finset.sum_congr rfl fun d _ => ?_)) (Finset.sum_congr rfl fun d _ => ?_)
  · exact congrArg₂ (· * ·) ((congrArg _ (ext2 (lidx_main_v3 (ix2 t e) (lo d)) (ix2 t (lo d)) rfl rfl)).trans (v2_lo x1 x2 t d)) (congrArg x3 (ext2 (ridx_main_v3 (ix2 t e) (lo d)) (ix2 (lo d) e) rfl rfl))
  · exact congrArg₂ (· * ·) ((congrArg _ (ext2 (lidx_main_v3 (ix2 t e) (hi d)) (ix2 t (hi d)) rfl rfl)).trans (v2_hi x1 x2 t d)) (congrArg x3 (ext2 (ridx_main_v3 (ix2 t e) (hi d)) (ix2 (hi d) e) rfl rfl))

theorem v12_at (t : Fin 32768) (e : Fin 1024) : val_main_v17 (F := Ideal) x0 x1 x2 x3 x4 (ix2 t e)
    = nrm (fun k => val_main_v4 (F := Ideal) x0 x1 x2 x3 (ix2 t k)) (fun k => x4 (ix1 k)) e := by
  unfold nrm
  rw [val_main_v17_apply, val_main_v14_apply, val_main_v13_apply, val_main_v12_apply, val_main_v11_apply, val_main_v10_apply,
    val_main_v9_apply, val_main_v8_apply, val_main_v7_apply, val_main_v6_apply, val_main_v16_apply, val_main_v15_apply,
    val_main_cst_apply, val_main_cst_0_apply, val_main_cst_1_apply, zero_word, zero_add]
  refine congrArg₂ (· * ·) (congrArg (val_main_v4 (F := Ideal) x0 x1 x2 x3 (ix2 t e) * ·) ?_) (congrArg x4 (ext1 _ (ix1 e) rfl))
  refine congrArg (fun s : EReal => Ideal.rsqrt (Ideal.div s (FloatOps.ofBits (F := Ideal) .f32 0x44800000#32)
    + FloatOps.ofBits (F := Ideal) .f32 0x358637BD#32)) (Finset.sum_congr rfl fun k _ => ?_)
  rw [val_main_v5_apply]
  exact congrArg (fun i => (val_main_v4 (F := Ideal) x0 x1 x2 x3 i * val_main_v4 (F := Ideal) x0 x1 x2 x3 i : EReal)) (ext2 _ (ix2 t k) rfl rfl)

theorem v37_norm (t : Fin 32768) (e : Fin 1024) : val_main_v37 (F := Ideal) x0 x1 x2 x3 x4 x5 x6 x7 (ix2 t e)
    = nrm (fun k => val_main_v24 (F := Ideal) x0 x1 x2 x3 x4 x5 x6 (ix2 t k)) (fun k => x7 (ix1 k)) e := by
  unfold nrm
  rw [val_main_v37_apply, val_main_v34_apply, val_main_v33_apply, val_main_v32_apply, val_main_v31_apply, val_main_v30_apply,
    val_main_v29_apply, val_main_v28_apply, val_main_v27_apply, val_main_v26_apply, val_main_v36_apply, val_main_v35_apply,
    val_main_cst_2_apply, val_main_cst_3_apply, val_main_cst_4_apply, zero_word, zero_add]
  refine congrArg₂ (· * ·) (congrArg (val_main_v24 (F := Ideal) x0 x1 x2 x3 x4 x5 x6 (ix2 t e) * ·) ?_) (congrArg x7 (ext1 _ (ix1 e) rfl))
  refine congrArg (fun s : EReal => Ideal.rsqrt (Ideal.div s (FloatOps.ofBits (F := Ideal) .f32 0x44800000#32)
    + FloatOps.ofBits (F := Ideal) .f32 0x358637BD#32)) (Finset.sum_congr rfl fun k _ => ?_)
  rw [val_main_v25_apply]
  exact congrArg (fun i => (val_main_v24 (F := Ideal) x0 x1 x2 x3 x4 x5 x6 i * val_main_v24 (F := Ideal) x0 x1 x2 x3 x4 x5 x6 i : EReal))
    (ext2 _ (ix2 t k) rfl rfl)

theorem v18_at (t : Fin 32768) (f : Fin 5632) : val_main_v18 (F := Ideal) x0 x1 x2 x3 x4 x5 (ix2 t f)
    = ∑ k : Fin 1024, (val_main_v17 (F := Ideal) x0 x1 x2 x3 x4 (ix2 t k) * x5 (ix2 k f) : EReal) := by
  rw [val_main_v18_apply]
  exact Finset.sum_congr rfl fun k _ => congrArg₂ (fun i j => (val_main_v17 (F := Ideal) x0 x1 x2 x3 x4 i * x5 j : EReal))
    (ext2 _ (ix2 t k) rfl rfl) (ext2 _ (ix2 k f) rfl rfl)

theorem v22_at (t : Fin 32768) (f : Fin 2816) : val_main_v22 (F := Ideal) x0 x1 x2 x3 x4 x5 (ix2 t f)
    = act (fun k => val_main_v17 (F := Ideal) x0 x1 x2 x3 x4 (ix2 t k)) (fun k f => x5 (ix2 k (gc f))) (fun k f => x5 (ix2 k (uc f))) f := by
  have hg : val_main_v19 (F := Ideal) x0 x1 x2 x3 x4 x5 (ix2 t f) = _ :=
    (val_main_v19_apply x0 x1 x2 x3 x4 x5 (ix2 t f)).trans ((congrArg _ (ext2 (idx_main_v19 (ix2 t f)) (ix2 t (gc f)) rfl rfl)).trans (v18_at x0 x1 x2 x3 x4 x5 t (gc f)))
  have hu : val_main_v20 (F := Ideal) x0 x1 x2 x3 x4 x5 (ix2 t f) = _ :=
    (val_main_v20_apply x0 x1 x2 x3 x4 x5 (ix2 t f)).trans ((congrArg _ (ext2 (idx_main_v20 (ix2 t f)) (ix2 t (uc f)) rfl rfl)).trans (v18_at x0 x1 x2 x3 x4 x5 t (uc f)))
  rw [val_main_v22_apply, val_main_v21_apply, val_main_call0_v5_apply, val_main_call0_v4_apply, val_main_call0_cst_0_apply,
    val_main_call0_v3_apply, val_main_call0_v2_apply, val_main_call0_cst_apply, val_main_call0_v1_apply, val_main_call0_v0_apply,
    one_word, hg, hu]
  rfl

/-- The reference's result at token `t`, column `e`. -/
theorem v37_at (t : Fin 32768) (e : Fin 1024) : val_main_v37 (F := Ideal) x0 x1 x2 x3 x4 x5 x6 x7 (ix2 t e)
    = row (fun k => x0 (ix2 t k)) (fun d => x1 (ix2 t d)) (fun d => x2 (ix2 t d)) (fun d k => x3 (ix2 (lo d) k)) (fun d k => x3 (ix2 (hi d) k))
        (fun k => x4 (ix1 k)) (fun k f => x5 (ix2 k (gc f))) (fun k f => x5 (ix2 k (uc f))) (fun f k => x6 (ix2 f k)) (fun k => x7 (ix1 k)) e := by
  rw [v37_norm]
  unfold row
  refine congrArg (fun z => nrm z _ e) (funext fun k => ?_)
  rw [val_main_v24_apply, val_main_v23_apply]
  refine congrArg₂ (· + ·) (v4_at x0 x1 x2 x3 t k) (Finset.sum_congr rfl fun f _ => ?_)
  refine congrArg₂ (· * ·) ((congrArg _ (ext2 (lidx_main_v23 (ix2 t k) f) (ix2 t f) rfl rfl)).trans ((v22_at x0 x1 x2 x3 x4 x5 t f).trans ?_)) (congrArg x6 (ext2 (ridx_main_v23 (ix2 t k) f) (ix2 f k) rfl rfl))
  refine congrArg (fun h => act h _ _ f) (funext fun j => ?_)
  rw [v12_at]
  exact congrArg (fun z => nrm z _ j) (funext fun i => v4_at x0 x1 x2 x3 t i)

end Cert.Reference2Ideal.Read
-- ==== Proof.Out.lean ====
/- The block's output call against the reference: the array the call leaves is the reference's result. -/
module

public import proofs.«01_k».proof.Proof.OutRef
public import proofs.«01_k».proof.Proof.Gen.Kernel2Ideal.Value
public import Idealize.ShloMosaic.Lib.Pipeline.ValueKit.Geometry

@[expose] public section

noncomputable section

namespace Cert.Kernel2Ideal.Value

open Cert.Kernel2Ideal Cert.Kernel2Ideal.Gen Idealize.ShloMosaic Idealize.ShloMosaic.TcCoe Idealize.SL.Sem Idealize.ShloMosaic.ValueIdx
open Idealize.ShloMosaic.Pipeline (Dat)
open Cert.Out
open Cert.Reference2Ideal.Read (ext2 ext1)
open scoped BigOperators

variable (m : (ℓ : Loc nD τ sig) → Buf (Elt Ideal) ℓ) (c : Dev nD)

/-- The result of a token and column from the program's arrays. -/
def res (x : S32768x1024.Idx → EReal) (p y : S32768x512.Idx → EReal) (wo : S1024x1024.Idx → EReal) (g : S1024.Idx → EReal)
    (wgu : S1024x5632.Idx → EReal) (wd : S2816x1024.Idx → EReal) (gf : S1024.Idx → EReal) (t : Fin 32768) (e : Fin 1024) : EReal :=
  row (fun k => x (ix2 t k)) (fun d => p (ix2 t d)) (fun d => y (ix2 t d)) (fun d k => wo (ix2 (lo d) k)) (fun d k => wo (ix2 (hi d) k))
    (fun k => g (ix1 k)) (fun k f => wgu (ix2 k (gc f))) (fun k f => wgu (ix2 k (uc f))) (fun f k => wd (ix2 f k)) (fun k => gf (ix1 k)) e

theorem row_congr {x x' : Fin 1024 → EReal} {p p' y y' : Fin 512 → EReal} {wa wa' wb wb' : Fin 512 → Fin 1024 → EReal} {g g' : Fin 1024 → EReal}
    {wg wg' wu wu' : Fin 1024 → Fin 2816 → EReal} {wd wd' : Fin 2816 → Fin 1024 → EReal} {gf gf' : Fin 1024 → EReal} (e : Fin 1024)
    (hx : ∀ k, x k = x' k) (hp : ∀ k, p k = p' k) (hy : ∀ k, y k = y' k) (ha : ∀ d k, wa d k = wa' d k) (hb : ∀ d k, wb d k = wb' d k)
    (hg : ∀ k, g k = g' k) (h1 : ∀ k f, wg k f = wg' k f) (h2 : ∀ k f, wu k f = wu' k f) (hd : ∀ f k, wd f k = wd' f k) (hf : ∀ k, gf k = gf' k) :
    row x p y wa wb g wg wu wd gf e = row x' p' y' wa' wb' g' wg' wu' wd' gf' e := by
  obtain rfl : x = x' := funext hx
  obtain rfl : p = p' := funext hp
  obtain rfl : y = y' := funext hy
  obtain rfl : wa = wa' := funext fun d => funext (ha d)
  obtain rfl : wb = wb' := funext fun d => funext (hb d)
  obtain rfl : g = g' := funext hg
  obtain rfl : wg = wg' := funext fun d => funext (h1 d)
  obtain rfl : wu = wu' := funext fun d => funext (h2 d)
  obtain rfl : wd = wd' := funext fun d => funext (hd d)
  obtain rfl : gf = gf' := funext hf
  rfl

/-- A load at an offset, read at a place. -/
theorem ld_at {n0 n1 : Nat} {t : EltTy} (X : (⟨2, ![n0, n1]⟩ : Shape).Idx → Elt Ideal t) {o s : Fin 2 → Nat}
    (h : ∀ a, o a + s a ≤ (⟨2, ![n0, n1]⟩ : Shape).size a) (i : (Rect.unit (s := ⟨2, ![n0, n1]⟩) o s h).shape.Idx) (j : (⟨2, ![n0, n1]⟩ : Shape).Idx)
    (h0 : (j 0).val = o 0 + (i 0).val) (h1 : (j 1).val = o 1 + (i 1).val) :
    View.ld X (Rect.unit (s := ⟨2, ![n0, n1]⟩) o s h) i = X j := by
  refine congrArg X (ext2 _ j (Eq.trans ?_ h0.symm) (Eq.trans ?_ h1.symm))
  · exact congrArg (o 0 + ·) (Nat.one_mul (i 0).val)
  · exact congrArg (o 1 + ·) (Nat.one_mul (i 1).val)

/-- What one grid point stores, from its blocks. -/
theorem out_apply (x0 : Vec Ideal S512x1024 .f32) (x1 x2 : Vec Ideal S512x512 .bf16) (x3 : Vec Ideal S1024x1024 .bf16) (x4 : Vec Ideal S1x1024 .f32)
    (x5 : Vec Ideal S1024x5632 .bf16) (x6 : Vec Ideal S2816x1024 .bf16) (x7 : Vec Ideal S1x1024 .f32) (r : Fin 512) (e : Fin 1024) :
    out0_8 (F := Ideal) x0 x1 x2 x3 x4 x5 x6 x7 (ix2 r e)
      = row (fun k => x0 (ix2 r k)) (fun d => x1 (ix2 r d)) (fun d => x2 (ix2 r d)) (fun d k => x3 (ix2 (lo d) k)) (fun d k => x3 (ix2 (hi d) k))
          (fun k => x4 (ix2 0 k)) (fun k f => x5 (ix2 k (gc f))) (fun k f => x5 (ix2 k (uc f))) (fun f k => x6 (ix2 f k)) (fun k => x7 (ix2 0 k)) e := by
  unfold out0_8
  rw [View.canon_unit_zero (by decide)]
  refine (pay_apply _ _ _ _ _ _ _ _ _ _ r e).trans ?_
  refine row_congr e (fun k => ?_) (fun k => ?_) (fun k => ?_) (fun d k => ?_) (fun d k => ?_) (fun k => ?_) (fun k f => ?_) (fun k f => ?_)
    (fun f k => ?_) (fun k => ?_)
  · exact ld_at x0 _ _ (ix2 r k) (Nat.zero_add _).symm (Nat.zero_add _).symm
  · exact ld_at x1 _ _ (ix2 r k) (Nat.zero_add _).symm (Nat.zero_add _).symm
  · exact ld_at x2 _ _ (ix2 r k) (Nat.zero_add _).symm (Nat.zero_add _).symm
  · exact ld_at x3 _ _ (ix2 (lo d) k) (Nat.zero_add _).symm (Nat.zero_add _).symm
  · exact ld_at x3 _ _ (ix2 (hi d) k) rfl (Nat.zero_add _).symm
  · exact ld_at x4 _ _ (ix2 0 k) rfl (Nat.zero_add _).symm
  · exact ld_at x5 _ _ (ix2 k (gc f)) (Nat.zero_add _).symm (Nat.zero_add _).symm
  · exact ld_at x5 _ _ (ix2 k (uc f)) (Nat.zero_add _).symm rfl
  · exact ld_at x6 _ _ (ix2 f k) (Nat.zero_add _).symm (Nat.zero_add _).symm
  · exact ld_at x7 _ _ (ix2 0 k) rfl (Nat.zero_add _).symm

/-- The result array as a function of the program's arguments. -/
def G : S32768x1024.Idx → EReal := fun i =>
  res (m (c, main_arg0)) (m (c, main_arg1)) (m (c, main_arg2)) (m (c, main_arg3)) (m (c, main_arg4)) (m (c, main_arg5)) (m (c, main_arg6))
    (m (c, main_arg7)) (i 0) (i 1)

theorem ix0 : ∀ t : Fin cfg0.N, win0_0.index t = ![(grid0.coords t 0).val, 0] := (by decide +kernel : ∀ t : Fin grid0.N, _)
theorem ix1' : ∀ t : Fin cfg0.N, win0_1.index t = ![(grid0.coords t 0).val, 0] := (by decide +kernel : ∀ t : Fin grid0.N, _)
theorem ix2' : ∀ t : Fin cfg0.N, win0_2.index t = ![(grid0.coords t 0).val, 0] := (by decide +kernel : ∀ t : Fin grid0.N, _)
theorem ix3 : ∀ t : Fin cfg0.N, win0_3.index t = ![0, 0] := (by decide +kernel : ∀ t : Fin grid0.N, _)
theorem ix4 : ∀ t : Fin cfg0.N, win0_4.index t = ![0, 0] := (by decide +kernel : ∀ t : Fin grid0.N, _)
theorem ix5 : ∀ t : Fin cfg0.N, win0_5.index t = ![0, 0] := (by decide +kernel : ∀ t : Fin grid0.N, _)
theorem ix6 : ∀ t : Fin cfg0.N, win0_6.index t = ![0, 0] := (by decide +kernel : ∀ t : Fin grid0.N, _)
theorem ix7 : ∀ t : Fin cfg0.N, win0_7.index t = ![0, 0] := (by decide +kernel : ∀ t : Fin grid0.N, _)
theorem ix8 : ∀ t : Fin cfg0.N, win0_8.index t = ![(grid0.coords t 0).val, 0] := (by decide +kernel : ∀ t : Fin grid0.N, _)

theorem V_v0 : V m c main_v0 = (truncf .bf16 (m (c, main_arg3) : FVec Ideal S1024x1024 .f32) bitsLt_bf16_f32 : FVec Ideal S1024x1024 .bf16) := by
  unfold V
  after_results
  all_goals rfl

theorem V_v1 : V m c main_v1 = (broadcastInDim S1x1024 ![1] bcast_S1024_S1x1024_1 (m (c, main_arg4) : FVec Ideal S1024 .f32) : FVec Ideal S1x1024 .f32) := by
  unfold V
  after_results
  all_goals rfl

theorem V_v2 : V m c main_v2 = (truncf .bf16 (m (c, main_arg5) : FVec Ideal S1024x5632 .f32) bitsLt_bf16_f32 : FVec Ideal S1024x5632 .bf16) := by
  unfold V
  after_results
  all_goals rfl

theorem V_v3 : V m c main_v3 = (truncf .bf16 (m (c, main_arg6) : FVec Ideal S2816x1024 .f32) bitsLt_bf16_f32 : FVec Ideal S2816x1024 .bf16) := by
  unfold V
  after_results
  all_goals rfl

theorem V_v4 : V m c main_v4 = (broadcastInDim S1x1024 ![1] bcast_S1024_S1x1024_1 (m (c, main_arg7) : FVec Ideal S1024 .f32) : FVec Ideal S1x1024 .f32) := by
  unfold V
  after_results
  all_goals rfl

theorem bcast_at (x : FVec Ideal S1024 .f32) (j : S1x1024.Idx) (k : Fin 1024) (h : (j 1).val = k.val) :
    broadcastInDim S1x1024 ![1] bcast_S1024_S1x1024_1 x j = x (ix1 k) :=
  broadcastInDim_apply _ bcast_S1024_S1x1024_1 x j (ix1 k) (fun a => match a with
    | ⟨0, _⟩ => by show k.val = if (1024 : Nat) = 1 then 0 else (j 1).val; rw [if_neg (by decide), h])

theorem out_arr : (dats m 0 c).arrAt 8 cfg0.N = G m c := by
  refine (dats m 0 c).arrAt_eq_of_covers 8 _ (by decide +kernel) fun t hf y => ?_
  show (dats m 0 c).after 8 t y = G m c (((cfg0.win 8).blk t).view.emb y)
  rw [after0_8]
  have ey : y = ix2 (y 0) (y 1) := ext2 y _ rfl rfl
  have hy : out0_8 (iblk m c 0 t) (iblk m c 1 t) (iblk m c 2 t) (iblk m c 3 t) (iblk m c 4 t) (iblk m c 5 t) (iblk m c 6 t) (iblk m c 7 t) y = _ :=
    (congrArg (out0_8 (iblk m c 0 t) (iblk m c 1 t) (iblk m c 2 t) (iblk m c 3 t) (iblk m c 4 t) (iblk m c 5 t) (iblk m c 6 t) (iblk m c 7 t)) ey).trans
     (out_apply _ _ _ _ _ _ _ _ (y 0) (y 1))
  refine hy.trans ?_
  have e1 : ((cfg0.win 8).blk t).view.emb y 1 = y 1 := by
    refine Fin.ext ?_
    blk_simp [ix8]
  have e0 : ((((cfg0.win 8).blk t).view.emb y 0 : Fin 32768) : ℕ) = (grid0.coords t 0).val * 512 + (y 0).val := by
    blk_simp [ix8]
  unfold G res
  rw [e1]
  refine row_congr (y 1) (fun k => ?_) (fun k => ?_) (fun k => ?_) (fun d k => ?_) (fun d k => ?_) (fun k => ?_) (fun k f => ?_) (fun k f => ?_)
    (fun f k => ?_) (fun k => ?_)
  · blk_simp [iblk]
    rw [V_main_arg0]
    refine congrArg (m (c, main_arg0)) (ext2 _ _ (Eq.trans ?_ e0.symm) ?_)
    · blk_simp [ix0]
    · blk_simp [ix0]
  · blk_simp [iblk]
    rw [V_main_arg1]
    refine congrArg (m (c, main_arg1)) (ext2 _ _ (Eq.trans ?_ e0.symm) ?_)
    · blk_simp [ix1']
    · blk_simp [ix1']
  · blk_simp [iblk]
    rw [V_main_arg2]
    refine congrArg (m (c, main_arg2)) (ext2 _ _ (Eq.trans ?_ e0.symm) ?_)
    · blk_simp [ix2']
    · blk_simp [ix2']
  · blk_simp [iblk]
    rw [V_v0]
    refine congrArg (m (c, main_arg3)) (ext2 _ (ix2 (lo d) k) ?_ ?_)
    · blk_simp [ix3]
    · blk_simp [ix3]
  · blk_simp [iblk]
    rw [V_v0]
    refine congrArg (m (c, main_arg3)) (ext2 _ (ix2 (hi d) k) ?_ ?_)
    · blk_simp [ix3]
    · blk_simp [ix3]
  · blk_simp [iblk]
    rw [V_v1]
    refine bcast_at _ _ k ?_
    blk_simp [ix4]
  · blk_simp [iblk]
    rw [V_v2]
    refine congrArg (m (c, main_arg5)) (ext2 _ (ix2 k (gc f)) ?_ ?_)
    · blk_simp [ix5]
    · blk_simp [ix5]
  · blk_simp [iblk]
    rw [V_v2]
    refine congrArg (m (c, main_arg5)) (ext2 _ (ix2 k (uc f)) ?_ ?_)
    · blk_simp [ix5]
    · blk_simp [ix5]
  · blk_simp [iblk]
    rw [V_v3]
    refine congrArg (m (c, main_arg6)) (ext2 _ (ix2 f k) ?_ ?_)
    · blk_simp [ix6]
    · blk_simp [ix6]
  · blk_simp [iblk]
    rw [V_v4]
    refine bcast_at _ _ k ?_
    blk_simp [ix7]

end Cert.Kernel2Ideal.Value
-- ==== Proof.FoxMath.lean ====
/- Facts about sums of extended reals with real weights, and the ratio of weighted sums that a softmax is. -/
module

public import Idealize.ShloMosaic.PureOps.Ideal.Laws

@[expose] public section

noncomputable section

namespace Cert.Fox

open Idealize.ShloMosaic
open scoped BigOperators

/-- A nonnegative real goes into a sum of extended reals. -/
theorem mul_sum {ι : Type} (s : Finset ι) (f : ι → EReal) (c : ℝ) (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum over values that are real or minus infinity, one of them real, is real. -/
theorem fold_max_real {ι : Type} (s : Finset ι) (f : ι → EReal) (hf : ∀ i ∈ s, f i ≠ ⊤) (hr : ∃ i ∈ s, f i ≠ ⊥) :
    ∃ x : ℝ, s.fold max ⊥ f = x := by
  classical
  have ht : s.fold max ⊥ f ≠ ⊤ := by
    have : s.fold max ⊥ f < ⊤ := by
      rw [Finset.fold_max_lt]
      exact ⟨bot_lt_top, fun i hi => lt_top_iff_ne_top.mpr (hf i hi)⟩
    exact this.ne
  have hb : s.fold max ⊥ f ≠ ⊥ := by
    obtain ⟨i, hi, h⟩ := hr
    have : ⊥ < s.fold max ⊥ f := by
      rw [Finset.lt_fold_max]
      exact Or.inr ⟨i, hi, bot_lt_iff_ne_bot.mpr h⟩
    exact this.ne'
  exact ⟨_, (EReal.coe_toReal ht hb).symm⟩

theorem max_real (x : EReal) (hx : x ≠ ⊤) (r : ℝ) : ∃ y : ℝ, max x (r : EReal) = y := by
  rcases le_total x (r : EReal) with h | h
  · exact ⟨r, max_eq_right h⟩
  · rw [max_eq_left h]
    have hb : x ≠ ⊥ := fun e => by rw [e] at h; exact absurd (le_bot_iff.mp h) (EReal.coe_ne_bot r)
    exact ⟨x.toReal, (EReal.coe_toReal hx hb).symm⟩

theorem exp2_sub (a b : ℝ) : Ideal.exp2 ((a : EReal) - (b : EReal)) = ((2 : ℝ) ^ (a - b) : ℝ) := by
  rw [← EReal.coe_sub, Ideal.exp2_coe]; rfl

theorem exp2_bot_sub (b : ℝ) : Ideal.exp2 ((⊥ : EReal) - (b : EReal)) = 0 := by
  rw [EReal.bot_sub]; rfl

theorem exp_sub (a b : ℝ) : Ideal.exp ((a : EReal) - (b : EReal)) = (Real.exp (a - b) : ℝ) := by
  rw [← EReal.coe_sub]; rfl

theorem exp_bot_sub (b : ℝ) : Ideal.exp ((⊥ : EReal) - (b : EReal)) = 0 := by
  rw [EReal.bot_sub]; rfl

theorem div_real (x : EReal) (y : ℝ) (hy : y ≠ 0) : Ideal.div x (y : EReal) = x * ((y⁻¹ : ℝ) : EReal) := by
  unfold Ideal.div
  rw [if_neg (by exact_mod_cast hy), EReal.coe_inv]

/-- The number that turns powers of two into exponentials. -/
def L2 : ℝ := 1 / Real.log 2

theorem log2_pos : 0 < Real.log 2 := Real.log_pos (by norm_num)

/-- A softmax's value is the ratio of the two weighted sums, whatever was subtracted from the scores on either side. -/
theorem ratio {ι : Type} [Fintype ι] (vis : ι → Prop) [DecidablePred vis] (s : ι → ℝ) (v : ι → EReal) (M μ : ℝ) (i₀ : ι) (h₀ : vis i₀)
    (e w : ι → EReal) (he : ∀ i, e i = if vis i then ((Real.exp (s i - M) : ℝ) : EReal) else 0)
    (hw : ∀ i, w i = if vis i then (((2 : ℝ) ^ (L2 * s i - μ) : ℝ) : EReal) else 0) :
    ∑ i, Ideal.div (e i) (∑ j, e j) * v i = Ideal.div (∑ i, v i * w i) (∑ i, 1 * w i) := by
  set E : ι → ℝ := fun i => if vis i then Real.exp (s i - M) else 0 with hE
  set lam : ℝ := Real.exp (M - μ * Real.log 2) with hl
  have lp : 0 < lam := Real.exp_pos _
  have heE : ∀ i, e i = (E i : EReal) := fun i => by rw [he i]; by_cases h : vis i <;> simp [hE, h]
  have E0 : ∀ i, 0 ≤ E i := fun i => by by_cases h : vis i <;> simp [hE, h, (Real.exp_pos _).le]
  have hwE : ∀ i, w i = ((lam * E i : ℝ) : EReal) := fun i => by
    rw [hw i]
    by_cases h : vis i
    · rw [if_pos h]
      refine congrArg _ ?_
      simp only [hE, h, if_true, hl]
      rw [← Real.exp_add, Real.rpow_def_of_pos (by norm_num)]
      refine congrArg _ ?_
      unfold L2
      have := log2_pos.ne'
      field_simp
      ring
    · simp [hE, h]
  have Zp : 0 < ∑ j, E j := by
    refine lt_of_lt_of_le ?_ (Finset.single_le_sum (fun j _ => E0 j) (Finset.mem_univ i₀))
    simp only [hE, h₀, if_true]; exact Real.exp_pos _
  have hZ : ∑ j, e j = ((∑ j, E j : ℝ) : EReal) := by
    rw [coe_sum]; exact Finset.sum_congr rfl fun j _ => heE j
  have hW : ∑ i, 1 * w i = ((lam * ∑ j, E j : ℝ) : EReal) := by
    rw [Finset.mul_sum, coe_sum]; exact Finset.sum_congr rfl fun j _ => by rw [one_mul, hwE j]
  rw [hZ, hW, div_real _ _ (mul_pos lp Zp).ne', mul_comm _ ((((lam * ∑ j, E j)⁻¹ : ℝ)) : EReal),
    mul_sum _ _ _ (inv_nonneg.mpr (mul_pos lp Zp).le)]
  refine Finset.sum_congr rfl fun i _ => ?_
  rw [heE i, div_real _ _ Zp.ne', hwE i, ← EReal.coe_mul, mul_comm (v i), ← mul_assoc, ← EReal.coe_mul]
  refine congrArg (fun x : ℝ => (x : EReal) * v i) ?_
  have := lp.ne'
  have := Zp.ne'
  field_simp

/-- A sum over keys that vanishes outside the tiles from `j0` to `j0 + n` is the sum over those tiles. -/
theorem sum_tiles (f : ℕ → EReal) (j0 n : ℕ) (h : j0 + n < 16) (h0 : ∀ t r, r < 512 → t < 16 → (t < j0 ∨ j0 + n < t) → f (t * 512 + r) = 0) :
    ∑ κ : Fin 8192, f κ.val = ∑ j ∈ Finset.range (n + 1), ∑ r : Fin 512, f ((j0 + j) * 512 + r.val) := by
  have e : ∑ κ : Fin 8192, f κ.val = ∑ t : Fin 16, ∑ r : Fin 512, f (t.val * 512 + r.val) := by
    rw [← Fintype.sum_prod_type' (f := fun (t : Fin 16) (r : Fin 512) => f (t.val * 512 + r.val))]
    refine (Fintype.sum_equiv (finProdFinEquiv (m := 16) (n := 512)) _ _ fun p => ?_).symm
    refine congrArg f ?_
    rw [finProdFinEquiv_apply_val]; omega
  rw [e, ← Finset.sum_range (f := fun t => ∑ r : Fin 512, f (t * 512 + r.val))]
  rw [show (16 : ℕ) = j0 + ((n + 1) + (15 - n - j0)) by omega, Finset.sum_range_add, Finset.sum_range_add]
  rw [Finset.sum_eq_zero (s := Finset.range j0) fun t ht => Finset.sum_eq_zero fun r _ =>
      h0 t r.val r.isLt (by have := Finset.mem_range.mp ht; omega) (Or.inl (Finset.mem_range.mp ht))]
  rw [Finset.sum_eq_zero (s := Finset.range (15 - n - j0)) fun t ht => Finset.sum_eq_zero fun r _ =>
      h0 _ r.val r.isLt (by have := Finset.mem_range.mp ht; omega) (Or.inr (by omega))]
  rw [zero_add, add_zero]

end Cert.Fox
-- ==== Proof.FoxHead.lean ====
/- One head's recurrence over the extended reals: what the running maximum, the weights and the sums of a query column
are after every tile, and what the column's sums are at the end. -/
module

public import proofs.«01_k».proof.Proof.KernelIdealBody
public import proofs.«01_k».proof.Proof.FoxMath
public import Idealize.ShloMosaic.Lib.MatmulPlain
public import Idealize.ShloMosaic.Lib.ValueLayout
public import Idealize.ShloMosaic.Lib.WordCmp
public import Idealize.ShloMosaic.Lib.Pipeline.Value

@[expose] public section

noncomputable section

namespace Cert.KernelIdeal.Gen

open Idealize.ShloMosaic Idealize.ShloMosaic.ValueIdx Idealize.ShloMosaic.WordCmp Cert.Fox
open scoped BigOperators

theorem zero_f32 : (FloatOps.ofBits (F := Ideal) .f32 0x00000000#32 : EReal) = 0 := by
  simp [FloatOps.ofBits, Ideal.ofBits, Ideal.ieee]

theorem bot_f32 : (FloatOps.ofBits (F := Ideal) .f32 0xFF800000#32 : EReal) = ⊥ := by
  simp [FloatOps.ofBits, Ideal.ofBits, Ideal.ieee]

theorem one_f32 : (FloatOps.ofBits (F := Ideal) .f32 0x3F800000#32 : EReal) = 1 := by
  simp [FloatOps.ofBits, Ideal.ofBits, Ideal.ieee]
  rw [← EReal.coe_mul, ← EReal.coe_one]
  norm_num

theorem one_bf16 : (FloatOps.ofBits (F := Ideal) .bf16 0x3F80#16 : EReal) = 1 := by
  simp [FloatOps.ofBits, Ideal.ofBits, Ideal.ieee]
  rw [← EReal.coe_mul, ← EReal.coe_one]
  norm_num

theorem mask_bot : (Named.named (F := Ideal) κ "mask" (φ := .f32) 0xF149F2CA#32 : EReal) = ⊥ := rfl

/-- Row `c` of a value tile with rows of ones below it. -/
def vx (v : Vec Ideal S1x64x512 .bf16) (c : Fin 80) (r : Fin 512) : EReal :=
  if h : c.val < 64 then v (ix3 0 ⟨c.val, h⟩ r) else 1

theorem vext_at (v : Vec Ideal S1x64x512 .bf16) (c : Fin 80) (r : Fin 512) :
    concatenate S80x512 0 [⟨S64x512, shapeCast S64x512 v shapeCasts_S1x64x512_S64x512⟩,
      ⟨S16x512, broadcast S16x512 (Scalar.ofBits (F := Ideal) .bf16 0x3F80#16)⟩] concatenates_S64x512_S16x512_S80x512_d0 (ix2 c r) = vx v c r := by
  unfold vx
  by_cases h : c.val < 64
  · rw [dif_pos h]
    exact (concatenate_pair_apply_left (t := S80x512) (s₁ := S64x512) (s₂ := S16x512) 0 _ _ _ (ix2 c r) rfl (ix2 ⟨c.val, h⟩ r)
      (fun b => match b with | ⟨0, _⟩ => rfl | ⟨1, _⟩ => rfl)).trans (shapeCast_1ab_ab_apply v _ _ _)
  · rw [dif_neg h]
    exact (concatenate_pair_apply_right (t := S80x512) (s₁ := S64x512) (s₂ := S16x512) 0 _ _ _ (ix2 c r) rfl rfl (ix2 ⟨c.val - 64, by omega⟩ r)
      (fun b => match b with | ⟨0, _⟩ => fun h => absurd rfl h | ⟨1, _⟩ => fun _ => rfl) (by show c.val - 64 + 64 = c.val; omega)).trans one_bf16

theorem row80 (x : FVec Ideal S1x512 .f32) (c : Fin 80) (a : Fin 512) :
    broadcastTo S80x512 x broadcasts_S1x512_S80x512 (ix2 c a) = x (ix2 0 a) :=
  broadcastTo_apply x _ _ _ (fun b => match b with
    | ⟨0, _⟩ => by show (0 : Nat) = if (1 : Nat) = 1 then 0 else c.val; rw [if_pos rfl]
    | ⟨1, _⟩ => by show a.val = if (512 : Nat) = 1 then 0 else a.val; rw [if_neg (by decide)])

theorem row512 (x : FVec Ideal S1x512 .f32) (r a : Fin 512) :
    broadcastTo S512x512 x broadcasts_S1x512_S512x512 (ix2 r a) = x (ix2 0 a) :=
  broadcastTo_apply x _ _ _ (fun b => match b with
    | ⟨0, _⟩ => by show (0 : Nat) = if (1 : Nat) = 1 then 0 else r.val; rw [if_pos rfl]
    | ⟨1, _⟩ => by show a.val = if (512 : Nat) = 1 then 0 else a.val; rw [if_neg (by decide)])

theorem upd_at (h : HS Ideal) (v : Vec Ideal S1x64x512 .bf16) (c : Fin 80) (a : Fin 512) :
    (h.upd v).acc (ix2 c a) = h.al (ix2 0 a) * h.acc (ix2 c a) + ∑ r : Fin 512, vx v c r * h.p (ix2 r a) := by
  unfold HS.upd k0_pay3
  simp only [shapeCast_self]
  refine congrArg₂ (· + ·) (congrArg (· * h.acc (ix2 c a)) (row80 h.al c a)) ?_
  refine (Ideal.matmul_plain_apply (M := 80) (K := 512) (N := 512) none _ h.p _ c a).trans
    ((congrArg (· + _) zero_f32).trans ((zero_add _).trans (Finset.sum_congr rfl fun r _ => ?_)))
  exact congrArg (· * h.p (ix2 r a)) (vext_at v c r)

/-- The maximum of a column of scores. -/
def cmax (s : FVec Ideal S512x512 .f32) (a : Fin 512) : EReal := (Finset.univ : Finset (Fin 512)).fold max ⊥ fun r => s (ix2 r a)

theorem colmax (s : FVec Ideal S512x512 .f32) (a : Fin 512) :
    shapeCast S1x512 (multiReduction .maximumf [0] S512 s 0xFF800000#32 reduces_S512x512_S512 (.inl rfl) rfl) shapeCasts_S512_S1x512 (ix2 0 a)
      = cmax s a := by
  refine (shapeCast_a_1a_apply _ _ 0 a).trans ((Ideal.multiReduction_maximumf_single s _ reduces_S512x512_S512 (.inl rfl) rfl (ix1 a)).trans ?_)
  unfold cmax
  refine (congrArg (fun b => Finset.fold max b _ _) bot_f32).trans (congrArg (fun g => Finset.fold max ⊥ g _) (funext fun r => ?_))
  exact congrArg s (funext fun b => match b with | ⟨0, _⟩ => rfl | ⟨1, _⟩ => rfl)

theorem soft_m (h : HS Ideal) (a : Fin 512) : h.soft.m (ix2 0 a) = max (h.m (ix2 0 a)) (h.bm (ix2 0 a)) := by
  unfold HS.soft k0_pay8 k0_pay4
  simp only [shapeCast_self]
  rfl

theorem soft_al (h : HS Ideal) (a : Fin 512) :
    h.soft.al (ix2 0 a) = Ideal.exp2 (h.m (ix2 0 a) - max (h.m (ix2 0 a)) (h.bm (ix2 0 a))) := by
  unfold HS.soft k0_pay5 k0_pay4
  simp only [shapeCast_self]
  rfl

theorem soft_p (h : HS Ideal) (r a : Fin 512) :
    h.soft.p (ix2 r a) = Ideal.exp2 (h.s (ix2 r a) - max (h.m (ix2 0 a)) (h.bm (ix2 0 a))) := by
  unfold HS.soft k0_pay7 k0_pay6 k0_pay4
  simp only [shapeCast_self]
  exact congrArg (fun x => Ideal.exp2 (h.s (ix2 r a) - x)) (row512 _ r a)

/-- The last tile's scores, minus infinity past the query. -/
def msk (s : FVec Ideal S512x512 .f32) (r a : Fin 512) : EReal := if r.val ≤ a.val then s (ix2 r a) else ⊥

theorem msk_at (s : FVec Ideal S512x512 .f32) (r a : Fin 512) : k0_pay113 (F := Ideal) s (ix2 r a) = msk s r a := by
  unfold k0_pay113 msk
  have hc : cmpi .sle (iota .tc S512x512 32 [0] iota_S512x512_d0_w32) (iota .tc S512x512 32 [1] iota_S512x512_d1_w32) (ix2 r a)
      = BitVec.ofBool (decide (r.val ≤ a.val)) := by
    have i0 : iota .tc S512x512 32 [0] iota_S512x512_d0_w32 (ix2 r a) = BitVec.ofNat 32 r.val :=
      congrArg (BitVec.ofNat 32) (by show 0 * 512 + r.val = r.val; omega)
    have i1 : iota .tc S512x512 32 [1] iota_S512x512_d1_w32 (ix2 r a) = BitVec.ofNat 32 a.val :=
      congrArg (BitVec.ofNat 32) (by show 0 * 512 + a.val = a.val; omega)
    refine (congrArg₂ (IntOp.cmpi .sle) i0 i1).trans ?_
    exact cmpi_sle_ofNat (by have := r.isLt; omega) (by have := a.isLt; omega)
  show Scalar.select (cmpi .sle (iota .tc S512x512 32 [0] iota_S512x512_d0_w32) (iota .tc S512x512 32 [1] iota_S512x512_d1_w32) (ix2 r a))
    (s (ix2 r a)) (Named.named (F := Ideal) κ "mask" (φ := .f32) 0xF149F2CA#32) = _
  rw [hc, mask_bot]
  by_cases h : r.val ≤ a.val <;> simp [h, Scalar.select]

/-- The maximum of a column of the last tile. -/
def dmax (s : FVec Ideal S512x512 .f32) (a : Fin 512) : EReal := (Finset.univ : Finset (Fin 512)).fold max ⊥ fun r => msk s r a

theorem diag_m (s : FVec Ideal S512x512 .f32) (m : FVec Ideal S1x512 .f32) (a : Fin 512) :
    k0_pay114 (F := Ideal) s m (ix2 0 a) = max (m (ix2 0 a)) (dmax s a) := by
  unfold k0_pay114
  refine congrArg (max (m (ix2 0 a))) ((colmax _ a).trans ?_)
  unfold cmax dmax
  exact congrArg (fun g => Finset.fold max ⊥ g _) (funext fun r => msk_at s r a)

theorem diag_al (h : HS Ideal) (a : Fin 512) : h.diag.al (ix2 0 a) = Ideal.exp2 (h.m (ix2 0 a) - max (h.m (ix2 0 a)) (dmax h.s a)) := by
  unfold HS.diag k0_pay116 k0_pay115
  simp only [shapeCast_self]
  exact congrArg (fun x => Ideal.exp2 (h.m (ix2 0 a) - x)) (diag_m h.s h.m a)

theorem diag_p (h : HS Ideal) (r a : Fin 512) : h.diag.p (ix2 r a) = Ideal.exp2 (msk h.s r a - max (h.m (ix2 0 a)) (dmax h.s a)) := by
  unfold HS.diag k0_pay117
  simp only [shapeCast_self]
  exact congrArg₂ (fun y x => Ideal.exp2 (y - x)) (msk_at h.s r a) ((row512 _ r a).trans (diag_m h.s h.m a))

theorem score_s (h : HS Ideal) (k f : Vec Ideal S512x128 .bf16) (q : Vec Ideal S256x512 .bf16) : (h.score k f q).s = k0_pay9 k f q := by
  unfold HS.score k0_pay10
  simp only [shapeCast_self]

theorem score_bm (h : HS Ideal) (k f : Vec Ideal S512x128 .bf16) (q : Vec Ideal S256x512 .bf16) (a : Fin 512) :
    (h.score k f q).bm (ix2 0 a) = cmax (k0_pay9 k f q) a := by
  unfold HS.score k0_pay11
  simp only [shapeCast_self]
  exact colmax _ a

/-- The sums of a column over the first `k` tiles, the scores less `μ`. -/
def W (S : ℕ → Fin 512 → Fin 512 → ℝ) (V : ℕ → Fin 80 → Fin 512 → EReal) (a : Fin 512) (c : Fin 80) (k : ℕ) (μ : ℝ) : EReal :=
  ∑ j ∈ Finset.range k, ∑ r : Fin 512, V j c r * (((2 : ℝ) ^ (S j r a - μ) : ℝ) : EReal)

theorem W_shift (S : ℕ → Fin 512 → Fin 512 → ℝ) (V : ℕ → Fin 80 → Fin 512 → EReal) (a : Fin 512) (c : Fin 80) (k : ℕ) (μ μ' : ℝ) :
    (((2 : ℝ) ^ (μ - μ') : ℝ) : EReal) * W S V a c k μ = W S V a c k μ' := by
  have p : (0 : ℝ) ≤ (2 : ℝ) ^ (μ - μ') := (Real.rpow_pos_of_pos (by norm_num) _).le
  unfold W
  rw [mul_sum _ _ _ p]
  refine Finset.sum_congr rfl fun j _ => ?_
  rw [mul_sum _ _ _ p]
  refine Finset.sum_congr rfl fun r _ => ?_
  rw [mul_left_comm, ← EReal.coe_mul, ← Real.rpow_add (by norm_num)]
  ring_nf

/-- What holds of a column before tile `k` of the loop. -/
structure Inv (S : ℕ → Fin 512 → Fin 512 → ℝ) (V : ℕ → Fin 80 → Fin 512 → EReal) (k : ℕ) (h : HS Ideal) : Prop where
  s : ∀ r a, h.s (ix2 r a) = (S k r a : EReal)
  bm : ∀ a, h.bm (ix2 0 a) = cmax h.s a
  m : ∀ a, (k = 0 ∧ h.m (ix2 0 a) = ⊥) ∨ (0 < k ∧ ∃ μ : ℝ, h.m (ix2 0 a) = μ ∧
    ∀ c, h.al (ix2 0 a) * h.acc (ix2 c a) + ∑ r : Fin 512, V (k - 1) c r * h.p (ix2 r a) = W S V a c k μ)

theorem cmax_real (s : FVec Ideal S512x512 .f32) (S : Fin 512 → Fin 512 → ℝ) (hs : ∀ r a, s (ix2 r a) = (S r a : EReal)) (a : Fin 512) :
    ∃ x : ℝ, cmax s a = x :=
  fold_max_real _ _ (fun r _ => by rw [hs]; exact EReal.coe_ne_top _) ⟨0, Finset.mem_univ _, by rw [hs]; exact EReal.coe_ne_bot _⟩

theorem dmax_real (s : FVec Ideal S512x512 .f32) (S : Fin 512 → Fin 512 → ℝ) (hs : ∀ r a, s (ix2 r a) = (S r a : EReal)) (a : Fin 512) :
    ∃ x : ℝ, dmax s a = x :=
  fold_max_real _ _ (fun r _ => by unfold msk; split; · rw [hs]; exact EReal.coe_ne_top _
                                   · exact bot_ne_top)
    ⟨0, Finset.mem_univ _, by
      unfold msk; rw [if_pos (show ((0 : Fin 512)).val ≤ a.val from Nat.zero_le _), hs]; exact EReal.coe_ne_bot _⟩

/-- Rescaling the sums so far to a new maximum. -/
theorem rescale {S : ℕ → Fin 512 → Fin 512 → ℝ} {V : ℕ → Fin 80 → Fin 512 → EReal} {k : ℕ} {m A : EReal} {a : Fin 512} {c : Fin 80} (μ' : ℝ)
    (h : (k = 0 ∧ m = ⊥) ∨ (0 < k ∧ ∃ μ : ℝ, m = μ ∧ A = W S V a c k μ)) : Ideal.exp2 (m - (μ' : EReal)) * A = W S V a c k μ' := by
  rcases h with ⟨rfl, rfl⟩ | ⟨_, μ, rfl, rfl⟩
  · rw [exp2_bot_sub, zero_mul]; simp [W]
  · rw [exp2_sub, W_shift]

theorem Inv.step {S : ℕ → Fin 512 → Fin 512 → ℝ} {V : ℕ → Fin 80 → Fin 512 → EReal} {k : ℕ} {h : HS Ideal} (H : Inv S V k h)
    (v : Vec Ideal S1x64x512 .bf16) (hv : 0 < k → ∀ c r, vx v c r = V (k - 1) c r) (kt ft : Vec Ideal S512x128 .bf16) (q : Vec Ideal S256x512 .bf16)
    (hS : ∀ r a, k0_pay9 (F := Ideal) kt ft q (ix2 r a) = (S (k + 1) r a : EReal)) : Inv S V (k + 1) (h.trip v kt ft q) where
  s r a := by unfold HS.trip; rw [score_s]; exact hS r a
  bm a := by unfold HS.trip; rw [score_bm, score_s]
  m a := by
    refine Or.inr ⟨Nat.succ_pos _, ?_⟩
    obtain ⟨x, hx⟩ := cmax_real h.s (S k) H.s a
    have ht : h.m (ix2 0 a) ≠ ⊤ := by
      rcases H.m a with ⟨_, e⟩ | ⟨_, μ, e, _⟩
      · rw [e]; exact bot_ne_top
      · rw [e]; exact EReal.coe_ne_top _
    obtain ⟨μ', hμ⟩ := max_real (h.m (ix2 0 a)) ht x
    have hmax : max (h.m (ix2 0 a)) (h.bm (ix2 0 a)) = (μ' : EReal) := by rw [H.bm a, hx, hμ]
    refine ⟨μ', ?_, fun c => ?_⟩
    · show (h.upd v).soft.m (ix2 0 a) = _
      rw [soft_m]; exact hmax
    · show (h.upd v).soft.al (ix2 0 a) * (h.upd v).acc (ix2 c a) + ∑ r : Fin 512, V k c r * (h.upd v).soft.p (ix2 r a) = _
      have e1 : (h.upd v).soft.al (ix2 0 a) = Ideal.exp2 (h.m (ix2 0 a) - (μ' : EReal)) := by
        rw [soft_al]; exact congrArg (fun z => Ideal.exp2 (h.m (ix2 0 a) - z)) hmax
      have e2 : ∀ r, (h.upd v).soft.p (ix2 r a) = (((2 : ℝ) ^ (S k r a - μ') : ℝ) : EReal) := fun r => by
        rw [soft_p, ← exp2_sub, ← H.s r a]; exact congrArg (fun z => Ideal.exp2 (h.s (ix2 r a) - z)) hmax
      have e3 : Ideal.exp2 (h.m (ix2 0 a) - (μ' : EReal)) * (h.upd v).acc (ix2 c a) = W S V a c k μ' := by
        refine rescale μ' ?_
        rcases H.m a with e | ⟨hk, μ, e, hA⟩
        · exact Or.inl e
        · refine Or.inr ⟨hk, μ, e, ?_⟩
          rw [upd_at, ← hA c]
          exact congrArg _ (Finset.sum_congr rfl fun r _ => by rw [hv hk c r])
      rw [e1, e3]
      unfold W
      rw [Finset.sum_range_succ]
      exact congrArg _ (Finset.sum_congr rfl fun r _ => by rw [e2 r])

theorem Inv.start {S : ℕ → Fin 512 → Fin 512 → ℝ} {V : ℕ → Fin 80 → Fin 512 → EReal} (p : Vec Ideal S512x512 .bf16) (kt ft : Vec Ideal S512x128 .bf16)
    (q : Vec Ideal S256x512 .bf16) (hS : ∀ r a, k0_pay9 (F := Ideal) kt ft q (ix2 r a) = (S 0 r a : EReal)) : Inv S V 0 (HS.start p kt ft q) where
  s r a := by
    rw [← hS r a]; unfold HS.start k0_pay79
    simp only [shapeCast_self]; rfl
  bm a := by
    unfold HS.start k0_pay80 k0_pay79
    simp only [shapeCast_self]
    exact colmax _ a
  m a := Or.inl ⟨rfl, by unfold HS.start k0_pay92; simp only [shapeCast_self]; rfl⟩

theorem Inv.iter {S : ℕ → Fin 512 → Fin 512 → ℝ} {V : ℕ → Fin 80 → Fin 512 → EReal} {n : ℕ}
    (g : Fin n → Vec Ideal S1x64x512 .bf16 × Vec Ideal S512x128 .bf16 × Vec Ideal S512x128 .bf16) (q : Vec Ideal S256x512 .bf16) (h : HS Ideal)
    (H : Inv S V 0 h) (hv : ∀ k : Fin n, 0 < k.val → ∀ c r, vx (g k).1 c r = V (k.val - 1) c r)
    (hS : ∀ k : Fin n, ∀ r a, k0_pay9 (F := Ideal) (g k).2.1 (g k).2.2 q (ix2 r a) = (S (k.val + 1) r a : EReal)) :
    ∀ k, k ≤ n → Inv S V k (HS.iter q g h k)
  | 0, _ => H
  | k + 1, hk => by
    have := HS.iter_succ q g h ⟨k, hk⟩
    rw [show HS.iter q g h (k + 1) = _ from this]
    exact (Inv.iter g q h H hv hS k (by omega)).step _ (hv ⟨k, hk⟩) _ _ _ (hS ⟨k, hk⟩)

/-- A column's sums at the end: over the tiles before the last, and over the last up to the query. -/
theorem Inv.fin {S : ℕ → Fin 512 → Fin 512 → ℝ} {V : ℕ → Fin 80 → Fin 512 → EReal} {n : ℕ} {h : HS Ideal} (H : Inv S V n h)
    (v v' : Vec Ideal S1x64x512 .bf16) (hv : 0 < n → ∀ c r, vx v c r = V (n - 1) c r) (hv' : ∀ c r, vx v' c r = V n c r) (a : Fin 512) :
    ∃ μ : ℝ, ∀ c, (h.fin v v').acc (ix2 c a)
      = ∑ j ∈ Finset.range (n + 1), ∑ r : Fin 512, V j c r * (if j < n ∨ r.val ≤ a.val then (((2 : ℝ) ^ (S j r a - μ) : ℝ) : EReal) else 0) := by
  obtain ⟨x, hx⟩ := dmax_real h.s (S n) H.s a
  have ht : h.m (ix2 0 a) ≠ ⊤ := by
    rcases H.m a with ⟨_, e⟩ | ⟨_, μ, e, _⟩
    · rw [e]; exact bot_ne_top
    · rw [e]; exact EReal.coe_ne_top _
  obtain ⟨μ', hμ⟩ := max_real (h.m (ix2 0 a)) ht x
  have hmax : max (h.m (ix2 0 a)) (dmax h.s a) = (μ' : EReal) := by rw [hx, hμ]
  refine ⟨μ', fun c => ?_⟩
  unfold HS.fin
  rw [upd_at]
  have e1 : (h.upd v).diag.al (ix2 0 a) = Ideal.exp2 (h.m (ix2 0 a) - (μ' : EReal)) := by
    rw [diag_al]; exact congrArg (fun z => Ideal.exp2 (h.m (ix2 0 a) - z)) hmax
  have e2 : ∀ r, (h.upd v).diag.p (ix2 r a) = if n < n ∨ r.val ≤ a.val then (((2 : ℝ) ^ (S n r a - μ') : ℝ) : EReal) else 0 := fun r => by
    rw [diag_p]
    refine (congrArg (fun z => Ideal.exp2 (msk h.s r a - z)) hmax).trans ?_
    unfold msk
    by_cases hr : r.val ≤ a.val
    · rw [if_pos hr, if_pos (Or.inr hr), H.s r a, exp2_sub]
    · rw [if_neg hr, if_neg (by omega), exp2_bot_sub]
  have e3 : Ideal.exp2 (h.m (ix2 0 a) - (μ' : EReal)) * (h.upd v).acc (ix2 c a) = W S V a c n μ' := by
    refine rescale μ' ?_
    rcases H.m a with e | ⟨hk, μ, e, hA⟩
    · exact Or.inl e
    · refine Or.inr ⟨hk, μ, e, ?_⟩
      rw [upd_at, ← hA c]
      exact congrArg _ (Finset.sum_congr rfl fun r _ => by rw [hv hk c r])
  rw [Finset.sum_range_succ]
  refine congrArg₂ (· + ·) ((congrArg (· * _) e1).trans (e3.trans ?_)) (Finset.sum_congr rfl fun r _ => by rw [e2 r, hv' c r])
  unfold W
  exact Finset.sum_congr rfl fun j hj => Finset.sum_congr rfl fun r _ => by rw [if_pos (Or.inl (Finset.mem_range.mp hj))]

end Cert.KernelIdeal.Gen
-- ==== Proof.FoxScore.lean ====
/- A tile's scores over the extended reals: a query's own half of the queries and its own eight slots, against the keys' and theirs. -/
module

public import proofs.«01_k».proof.Proof.FoxHead

@[expose] public section

noncomputable section

namespace Cert.KernelIdeal.Gen

open Idealize.ShloMosaic Idealize.ShloMosaic.ValueIdx Cert.Fox
open scoped BigOperators

/-- Whether a row of the joined queries is the head's own, in words. -/
def ownW (x lo hi w : BitVec 32) : BitVec 1 :=
  IntOp.ori (IntOp.andi (IntOp.cmpi .sge x lo) (IntOp.cmpi .slt x hi))
    (IntOp.andi (IntOp.cmpi .sge x (IntOp.addi 128#32 (IntOp.muli w 8#32))) (IntOp.cmpi .slt x (IntOp.addi (IntOp.addi 128#32 (IntOp.muli w 8#32)) 8#32)))

/-- Whether a row of the joined queries is the head's own. -/
def Own (sub b e : ℕ) : Prop := (64 * sub ≤ e ∧ e < 64 * sub + 64) ∨ (128 + 8 * b ≤ e ∧ e < 128 + 8 * b + 8)

instance (sub b e : ℕ) : Decidable (Own sub b e) := by unfold Own; infer_instance

/-- A head's word. -/
def headW (g : Fin 2) (c s : BitVec 32) : BitVec 32 := IntOp.addi (IntOp.addi (IntOp.muli (BitVec.ofNat 32 g.val) 4#32) c) s

theorem own0 : ∀ (g : Fin 2) (e : Fin 256), ownW (BitVec.ofNat 32 (0 * 256 + e.val)) 0#32 64#32 (headW g 0#32 0#32)
    = BitVec.ofBool (decide (Own 0 (4 * g.val) e.val)) := by decide +kernel
theorem own1 : ∀ (g : Fin 2) (e : Fin 256), ownW (BitVec.ofNat 32 (0 * 256 + e.val)) 64#32 128#32 (headW g 0#32 1#32)
    = BitVec.ofBool (decide (Own 1 (4 * g.val + 1) e.val)) := by decide +kernel
theorem own2 : ∀ (g : Fin 2) (e : Fin 256), ownW (BitVec.ofNat 32 (0 * 256 + e.val)) 0#32 64#32 (headW g 2#32 0#32)
    = BitVec.ofBool (decide (Own 0 (4 * g.val + 2) e.val)) := by decide +kernel
theorem own3 : ∀ (g : Fin 2) (e : Fin 256), ownW (BitVec.ofNat 32 (0 * 256 + e.val)) 64#32 128#32 (headW g 2#32 1#32)
    = BitVec.ofBool (decide (Own 1 (4 * g.val + 3) e.val)) := by decide +kernel

/-- A row of two tiles side by side. -/
def two (x y : Vec Ideal S512x128 .bf16) (t : Fin 512) (e : Fin 256) : EReal :=
  if h : e.val < 128 then x (ix2 t ⟨e.val, h⟩) else y (ix2 t ⟨e.val - 128, by have := e.isLt; omega⟩)

theorem two_at (x y : Vec Ideal S512x128 .bf16) (t : Fin 512) (e : Fin 256) :
    concatenate S512x256 1 [⟨S512x128, shapeCast S512x128 x shapeCasts_S512x128_S512x128⟩, ⟨S512x128, shapeCast S512x128 y shapeCasts_S512x128_S512x128⟩]
      concatenates_S512x128_S512x128_S512x256_d1 (ix2 t e) = two x y t e := by
  unfold two
  by_cases h : e.val < 128
  · rw [dif_pos h]
    exact (concatenate_pair_apply_left (t := S512x256) (s₁ := S512x128) (s₂ := S512x128) 1 _ _ _ (ix2 t e) rfl (ix2 t ⟨e.val, h⟩)
      (fun b => match b with | ⟨0, _⟩ => rfl | ⟨1, _⟩ => rfl)).trans (congrFun (shapeCast_self x _) _)
  · rw [dif_neg h]
    exact (concatenate_pair_apply_right (t := S512x256) (s₁ := S512x128) (s₂ := S512x128) 1 _ _ _ (ix2 t e) rfl rfl (ix2 t ⟨e.val - 128, by have := e.isLt; omega⟩)
      (fun b => match b with | ⟨0, _⟩ => fun _ => rfl | ⟨1, _⟩ => fun h => absurd rfl h) (by show e.val - 128 + 128 = e.val; omega)).trans
      (congrFun (shapeCast_self y _) _)

theorem trans_at (x : FVec Ideal S512x256 .f32) (e : Fin 256) (t : Fin 512) :
    transpose S256x512 [1, 0] x transposes_S512x256_p1_0_S256x512 (ix2 e t) = x (ix2 t e) :=
  transpose_apply _ x _ _ _ (fun b => match b with | ⟨0, _⟩ => rfl | ⟨1, _⟩ => rfl)

theorem pay69_at (x y : Vec Ideal S512x128 .bf16) (e : Fin 256) (t : Fin 512) : k0_pay69 (F := Ideal) x y (ix2 e t) = two x y t e := by
  unfold k0_pay69
  exact (trans_at _ e t).trans (two_at x y t e)

theorem pay74_at (x y : Vec Ideal S512x128 .bf16) (e : Fin 256) (t : Fin 512) : k0_pay74 (F := Ideal) x y (ix2 e t) = two x y t e := by
  unfold k0_pay74
  exact (trans_at _ e t).trans (two_at x y t e)

theorem col256 (x : IVec S256x1 1) (e : Fin 256) (t : Fin 512) : broadcastTo S256x512 x broadcasts_S256x1_S256x512 (ix2 e t) = x (ix2 e 0) :=
  broadcastTo_apply x _ _ _ (fun b => match b with
    | ⟨0, _⟩ => by show e.val = if (256 : Nat) = 1 then 0 else e.val; rw [if_neg (by decide)]
    | ⟨1, _⟩ => by show (0 : Nat) = if (1 : Nat) = 1 then 0 else t.val; rw [if_pos rfl])

theorem select_ofBool {p : Prop} [Decidable p] (a : EReal) {c : BitVec 1} (hc : c = BitVec.ofBool (decide p)) :
    Scalar.select c a (FloatOps.ofBits (F := Ideal) .f32 0x00000000#32 : EReal) = if p then a else 0 := by
  rw [hc, zero_f32]
  by_cases h : p <;> simp [h, Scalar.select]

/-- Head queries: the joined rows where they are the head's own, zero elsewhere. -/
def QH (q : Vec Ideal S256x512 .bf16) (x y : Vec Ideal S512x128 .bf16) (sub b : ℕ) : Prop :=
  ∀ (e : Fin 256) (t : Fin 512), q (ix2 e t) = if Own sub b e.val then two x y t e else 0

theorem qh0_at (i : grid0.Coords) (x4 : Vec Ideal S512x256 .bf16) (x5 : Vec Ideal S512x128 .bf16) : QH (qh0 i x4 x5)
    (View.ld x4 (Rect.unit (s := S512x256) ![0, 0] S512x128.size inb_S512x256_S512x128_0_0))
    (View.ld x5 (Rect.unit (s := S512x128) ![0, 0] S512x128.size inb_S512x128_S512x128_0_0)) 0 (4 * (i 1).val) := fun e t => by
  refine Eq.trans ?_ (select_ofBool _ (own0 (i 1) e))
  unfold qh0 k0_pay72
  simp only [shapeCast_self]
  exact congrArg₂ (fun c a => Scalar.select c a (FloatOps.ofBits (F := Ideal) .f32 0x00000000#32 : EReal)) (col256 _ e t) (pay69_at _ _ e t)

theorem qh1_at (i : grid0.Coords) (x4 : Vec Ideal S512x256 .bf16) (x5 : Vec Ideal S512x128 .bf16) : QH (qh1 i x4 x5)
    (View.ld x4 (Rect.unit (s := S512x256) ![0, 0] S512x128.size inb_S512x256_S512x128_0_0))
    (View.ld x5 (Rect.unit (s := S512x128) ![0, 0] S512x128.size inb_S512x128_S512x128_0_0)) 1 (4 * (i 1).val + 1) := fun e t => by
  refine Eq.trans ?_ (select_ofBool _ (own1 (i 1) e))
  unfold qh1 k0_pay73
  simp only [shapeCast_self]
  exact congrArg₂ (fun c a => Scalar.select c a (FloatOps.ofBits (F := Ideal) .f32 0x00000000#32 : EReal)) (col256 _ e t) (pay69_at _ _ e t)

theorem qh2_at (i : grid0.Coords) (x4 : Vec Ideal S512x256 .bf16) (x5 : Vec Ideal S512x128 .bf16) : QH (qh2 i x4 x5)
    (View.ld x4 (Rect.unit (s := S512x256) ![0, 128] S512x128.size inb_S512x256_S512x128_0_128))
    (View.ld x5 (Rect.unit (s := S512x128) ![0, 0] S512x128.size inb_S512x128_S512x128_0_0)) 0 (4 * (i 1).val + 2) := fun e t => by
  refine Eq.trans ?_ (select_ofBool _ (own2 (i 1) e))
  unfold qh2 k0_pay75
  simp only [shapeCast_self]
  exact congrArg₂ (fun c a => Scalar.select c a (FloatOps.ofBits (F := Ideal) .f32 0x00000000#32 : EReal)) (col256 _ e t) (pay74_at _ _ e t)

theorem qh3_at (i : grid0.Coords) (x4 : Vec Ideal S512x256 .bf16) (x5 : Vec Ideal S512x128 .bf16) : QH (qh3 i x4 x5)
    (View.ld x4 (Rect.unit (s := S512x256) ![0, 128] S512x128.size inb_S512x256_S512x128_0_128))
    (View.ld x5 (Rect.unit (s := S512x128) ![0, 0] S512x128.size inb_S512x128_S512x128_0_0)) 1 (4 * (i 1).val + 3) := fun e t => by
  refine Eq.trans ?_ (select_ofBool _ (own3 (i 1) e))
  unfold qh3 k0_pay77 k0_pay76
  simp only [shapeCast_self]
  exact congrArg₂ (fun c a => Scalar.select c a (FloatOps.ofBits (F := Ideal) .f32 0x00000000#32 : EReal)) (col256 _ e t) (pay74_at _ _ e t)

theorem own_sum (sub b : ℕ) (hs : sub < 2) (hb : b < 16) (F : ℕ → EReal) :
    ∑ e : Fin 256, (if Own sub b e.val then F e.val else 0) = ∑ d : Fin 64, F (64 * sub + d.val) + ∑ s : Fin 8, F (128 + 8 * b + s.val) := by
  rw [Fin.sum_univ_eq_sum_range (fun e => if Own sub b e then F e else 0) 256, Fin.sum_univ_eq_sum_range (fun d => F (64 * sub + d)) 64,
    Fin.sum_univ_eq_sum_range (fun d => F (128 + 8 * b + d)) 8, ← Finset.sum_filter]
  have e1 := Finset.sum_Ico_eq_sum_range F (64 * sub) (64 * sub + 64)
  have e2 := Finset.sum_Ico_eq_sum_range F (128 + 8 * b) (128 + 8 * b + 8)
  rw [show 64 * sub + 64 - 64 * sub = 64 by omega] at e1
  rw [show 128 + 8 * b + 8 - (128 + 8 * b) = 8 by omega] at e2
  rw [← e1, ← e2, ← Finset.sum_union]
  · refine Finset.sum_congr (Finset.ext fun e => ?_) fun _ _ => rfl
    rw [Finset.mem_filter, Finset.mem_union, Finset.mem_Ico, Finset.mem_Ico, Finset.mem_range]
    unfold Own
    constructor
    · exact fun h => h.2
    · intro h
      refine ⟨?_, h⟩
      rcases h with h | h <;> omega
  · rw [Finset.disjoint_left]
    intro e
    simp only [Finset.mem_Ico]
    intro h h'
    omega

theorem lt_d {sub : ℕ} (hs : sub < 2) (d : Fin 64) : 64 * sub + d.val < 128 := by omega
theorem lt_s {b : ℕ} (hb : b < 16) (s : Fin 8) : 8 * b + s.val < 128 := by have := s.isLt; omega

theorem score_at {q : Vec Ideal S256x512 .bf16} {x y : Vec Ideal S512x128 .bf16} {sub b : ℕ} (hq : QH q x y sub b) (hs : sub < 2) (hb : b < 16)
    (kt ft : Vec Ideal S512x128 .bf16) (r a : Fin 512) :
    k0_pay9 (F := Ideal) kt ft q (ix2 r a)
      = ∑ d : Fin 64, kt (ix2 r ⟨64 * sub + d.val, lt_d hs d⟩) * x (ix2 a ⟨64 * sub + d.val, lt_d hs d⟩)
        + ∑ s : Fin 8, ft (ix2 r ⟨8 * b + s.val, lt_s hb s⟩) * y (ix2 a ⟨8 * b + s.val, lt_s hb s⟩) := by
  unfold k0_pay9
  refine (Ideal.matmul_plain_apply (M := 512) (K := 256) (N := 512) none _ q _ r a).trans
    ((congrArg (· + _) zero_f32).trans ((zero_add _).trans ?_))
  refine (Finset.sum_congr rfl fun e _ => ?_).trans
    ((own_sum sub b hs hb (fun e => if h : e < 256 then two kt ft r ⟨e, h⟩ * two x y a ⟨e, h⟩ else 0)).trans
      (congrArg₂ (· + ·) (Finset.sum_congr rfl fun d _ => ?_) (Finset.sum_congr rfl fun s _ => ?_)))
  · refine (congrArg₂ (· * ·) (two_at kt ft r e) (hq e a)).trans ?_
    by_cases h : Own sub b e.val
    · rw [if_pos h, if_pos h, dif_pos e.isLt]
    · rw [if_neg h, if_neg h, mul_zero]
  · have := d.isLt
    rw [dif_pos (by omega)]
    unfold two
    rw [dif_pos (show 64 * sub + d.val < 128 by omega), dif_pos (show 64 * sub + d.val < 128 by omega)]
  · have := s.isLt
    rw [dif_pos (by omega)]
    unfold two
    rw [dif_neg (show ¬ 128 + 8 * b + s.val < 128 by omega), dif_neg (show ¬ 128 + 8 * b + s.val < 128 by omega)]
    have e : 128 + 8 * b + s.val - 128 = 8 * b + s.val := by omega
    simp only [e]

end Cert.KernelIdeal.Gen
-- ==== Proof.FoxTile.lean ====
/- A grid point's block over the extended reals: every head's column is the softmax's weighted sum over the keys the mask keeps. -/
module

public import proofs.«01_k».proof.Proof.FoxScore
public import proofs.«01_k».proof.Proof.KernelIdealTable

@[expose] public section

noncomputable section

namespace Cert.KernelIdeal.Gen

open Idealize.ShloMosaic Idealize.ShloMosaic.ValueIdx Cert.Fox
open scoped BigOperators

theorem lt_c (c : Fin 64) : c.val < 80 := by omega
theorem lt_e {c : Fin 128} (h : c.val < 64) : c.val < 80 := by omega
theorem lt_f (c : Fin 128) : c.val - 64 < 80 := by omega
theorem lt_h (h : Fin 4) (c : Fin 64) : 64 * h.val + c.val < 256 := by omega

/-- The number of trips at a query tile `a` from a first tile `b`. -/
theorem trips_at : ∀ a b : Fin 16, b.val ≤ a.val → (k0_t1_loop (qpt a) (BitVec.ofNat 32 b.val)).trips = a.val - b.val := by decide +kernel

/-- The first tile's offsets. -/
theorem off_first : ∀ b : Fin 16, k0_off2 (BitVec.ofNat 32 b.val) 0 = b.val * 512 ∧ k0_off3 (BitVec.ofNat 32 b.val) 0 = b.val * 512
    ∧ k0_off4 (BitVec.ofNat 32 b.val) 0 = b.val * 512 := by decide +kernel

set_option maxHeartbeats 4000000 in
/-- A trip's offsets among the keys. -/
theorem off_keys : ∀ a b : Fin 16, b.val ≤ a.val → ∀ k : Fin (k0_t1_loop (qpt a) (BitVec.ofNat 32 b.val)).trips,
    k0_off6 (qpt a) (BitVec.ofNat 32 b.val) k 0 = (b.val + (k.val + 1)) * 512 ∧ k0_off7 (qpt a) (BitVec.ofNat 32 b.val) k 0 = (b.val + (k.val + 1)) * 512
    ∧ k0_off10 (qpt a) (BitVec.ofNat 32 b.val) k 0 = (b.val + (k.val + 1)) * 512 := by decide +kernel

set_option maxHeartbeats 4000000 in
/-- A trip's offsets among the values, one tile behind. -/
theorem off_vals : ∀ a b : Fin 16, b.val ≤ a.val → ∀ k : Fin (k0_t1_loop (qpt a) (BitVec.ofNat 32 b.val)).trips, 0 < k.val →
    k0_off5 (qpt a) (BitVec.ofNat 32 b.val) k 2 = (b.val + (k.val - 1)) * 512 ∧ k0_off8 (qpt a) (BitVec.ofNat 32 b.val) k 2 = (b.val + (k.val - 1)) * 512
    ∧ k0_off9 (qpt a) (BitVec.ofNat 32 b.val) k 2 = (b.val + (k.val - 1)) * 512 ∧ k0_off11 (qpt a) (BitVec.ofNat 32 b.val) k 2 = (b.val + (k.val - 1)) * 512 := by
  decide +kernel

set_option maxHeartbeats 4000000 in
/-- The last two value tiles' offsets. -/
theorem off_last : ∀ a b : Fin 16, b.val < a.val →
    k0_off19 (qpt a) (BitVec.ofNat 32 b.val) 2 = (a.val - 1) * 512 ∧ k0_off20 (qpt a) (BitVec.ofNat 32 b.val) 2 = (a.val - 1) * 512
    ∧ k0_off21 (qpt a) (BitVec.ofNat 32 b.val) 2 = (a.val - 1) * 512 ∧ k0_off22 (qpt a) (BitVec.ofNat 32 b.val) 2 = (a.val - 1) * 512 := by decide +kernel

theorem off_diag : ∀ a : Fin 16, k0_off23 (qpt a) 2 = a.val * 512 ∧ k0_off24 (qpt a) 2 = a.val * 512
    ∧ k0_off25 (qpt a) 2 = a.val * 512 ∧ k0_off26 (qpt a) 2 = a.val * 512 := by decide +kernel

theorem eq2 {n0 n1 : Nat} (i j : (⟨2, ![n0, n1]⟩ : Shape).Idx) (h0 : (i 0).val = (j 0).val) (h1 : (i 1).val = (j 1).val) : i = j :=
  funext fun a => match a with | ⟨0, _⟩ => Fin.ext h0 | ⟨1, _⟩ => Fin.ext h1

theorem eq3 {n0 n1 n2 : Nat} (i j : (⟨3, ![n0, n1, n2]⟩ : Shape).Idx) (h0 : (i 0).val = (j 0).val) (h1 : (i 1).val = (j 1).val)
    (h2 : (i 2).val = (j 2).val) : i = j :=
  funext fun a => match a with | ⟨0, _⟩ => Fin.ext h0 | ⟨1, _⟩ => Fin.ext h1 | ⟨2, _⟩ => Fin.ext h2

/-- A load at an offset, of an array known by its places. -/
theorem ld2 {n0 n1 : Nat} {t : EltTy} {X : (⟨2, ![n0, n1]⟩ : Shape).Idx → Elt Ideal t} {f : ℕ → ℕ → Elt Ideal t} (hX : ∀ i j, X (ix2 i j) = f i.val j.val)
    {o s : Fin 2 → Nat} (h : ∀ a, o a + s a ≤ (⟨2, ![n0, n1]⟩ : Shape).size a) (i : (Rect.unit (s := ⟨2, ![n0, n1]⟩) o s h).shape.Idx) :
    View.ld X (Rect.unit (s := ⟨2, ![n0, n1]⟩) o s h) i = f (o 0 + (i 0).val) (o 1 + (i 1).val) := by
  have e : ∀ J, X J = f (J 0).val (J 1).val := fun J => (congrArg X (eq2 J (ix2 (J 0) (J 1)) rfl rfl)).trans (hX _ _)
  refine Eq.trans (e _) (congrArg₂ f ?_ ?_)
  · exact congrArg (o 0 + ·) (Nat.one_mul (i 0).val)
  · exact congrArg (o 1 + ·) (Nat.one_mul (i 1).val)

theorem ld3 {n0 n1 n2 : Nat} {t : EltTy} {X : (⟨3, ![n0, n1, n2]⟩ : Shape).Idx → Elt Ideal t} {f : ℕ → ℕ → Elt Ideal t}
    (hX : ∀ l i j, X (ix3 l i j) = f j.val i.val)
    {o s : Fin 3 → Nat} (h : ∀ a, o a + s a ≤ (⟨3, ![n0, n1, n2]⟩ : Shape).size a) (i : (Rect.unit (s := ⟨3, ![n0, n1, n2]⟩) o s h).shape.Idx) :
    View.ld X (Rect.unit (s := ⟨3, ![n0, n1, n2]⟩) o s h) i = f (o 2 + (i 2).val) (o 1 + (i 1).val) := by
  have e : ∀ J, X J = f (J 2).val (J 1).val := fun J => (congrArg X (eq3 J (ix3 (J 0) (J 1) (J 2)) rfl rfl rfl)).trans (hX _ _ _)
  refine Eq.trans (e _) (congrArg₂ f ?_ ?_)
  · exact congrArg (o 2 + ·) (Nat.one_mul (i 2).val)
  · exact congrArg (o 1 + ·) (Nat.one_mul (i 1).val)

/-- A gate's eight slots at the query, and at the key. -/
def slq (f : ℝ) (s : ℕ) : EReal := if s = 0 then f else if s = 3 ∨ s = 4 ∨ s = 5 then 1 else 0
def slk (f : ℝ) (s : ℕ) : EReal := if s = 3 then -(f : EReal) else if s = 0 ∨ s = 1 ∨ s = 2 then 1 else 0

theorem slots (f g : ℝ) : ∑ s : Fin 8, slk g s.val * slq f s.val = ((f - g : ℝ) : EReal) := by
  simp [Fin.sum_univ_eight, slk, slq]
  rw [← EReal.coe_neg, ← EReal.coe_add]
  rfl

/-- A head's score, in base two. -/
def sc (Q : ℕ → ℕ → ℝ) (Fq : ℕ → ℝ) (K : ℕ → ℕ → ℝ) (Fk : ℕ → ℝ) (κ a : ℕ) : ℝ := ∑ d : Fin 64, K κ d.val * Q a d.val + (Fq a - Fk κ)

/-- A value with ones below it. -/
def vone (V : ℕ → ℕ → EReal) (κ c : ℕ) : EReal := if c < 64 then V κ c else 1

/-- Whether the mask keeps a key. -/
def vis (j0 T κ : ℕ) : Prop := j0 * 512 ≤ κ ∧ κ ≤ T
instance (j0 T : ℕ) : DecidablePred (vis j0 T) := fun κ => by unfold vis; infer_instance

/-- The key tile `j`, its gates, and the value tile `j`. -/
def KT (sub : ℕ) (hs : sub < 2) (K : ℕ → ℕ → ℝ) (kt : Vec Ideal S512x128 .bf16) (j : ℕ) : Prop :=
  ∀ (r : Fin 512) (d : Fin 64), kt (ix2 r ⟨64 * sub + d.val, lt_d hs d⟩) = ((K (j * 512 + r.val) d.val : ℝ) : EReal)
def FT (b : ℕ) (hb : b < 16) (Fk : ℕ → ℝ) (ft : Vec Ideal S512x128 .bf16) (j : ℕ) : Prop :=
  ∀ (r : Fin 512) (s : Fin 8), ft (ix2 r ⟨8 * b + s.val, lt_s hb s⟩) = slk (Fk (j * 512 + r.val)) s.val
def VT (V : ℕ → ℕ → EReal) (v : Vec Ideal S1x64x512 .bf16) (j : ℕ) : Prop :=
  ∀ (c : Fin 64) (r : Fin 512), v (ix3 0 c r) = V (j * 512 + r.val) c.val

theorem VT.vx {V : ℕ → ℕ → EReal} {v : Vec Ideal S1x64x512 .bf16} {j : ℕ} (h : VT V v j) (c : Fin 80) (r : Fin 512) :
    vx v c r = vone V (j * 512 + r.val) c.val := by
  unfold Gen.vx vone
  by_cases hc : c.val < 64
  · rw [dif_pos hc, if_pos hc]; exact h ⟨c.val, hc⟩ r
  · rw [dif_neg hc, if_neg hc]

section
variable {q : Vec Ideal S256x512 .bf16} {x y : Vec Ideal S512x128 .bf16} {sub b : ℕ} (hq : QH q x y sub b) (hs : sub < 2) (hb : b < 16)
  {Q : ℕ → ℕ → ℝ} {Fq : ℕ → ℝ} {K : ℕ → ℕ → ℝ} {Fk : ℕ → ℝ} {V : ℕ → ℕ → EReal}
  (hx : ∀ (a : Fin 512) (d : Fin 64), x (ix2 a ⟨64 * sub + d.val, lt_d hs d⟩) = ((Q a.val d.val : ℝ) : EReal))
  (hy : ∀ (a : Fin 512) (s : Fin 8), y (ix2 a ⟨8 * b + s.val, lt_s hb s⟩) = slq (Fq a.val) s.val)

include hq hx hy in
theorem sc_at {kt ft : Vec Ideal S512x128 .bf16} {j : ℕ} (hk : KT sub hs K kt j) (hf : FT b hb Fk ft j) (r a : Fin 512) :
    k0_pay9 (F := Ideal) kt ft q (ix2 r a) = (sc Q Fq K Fk (j * 512 + r.val) a.val : EReal) := by
  rw [score_at hq hs hb]
  unfold sc
  rw [EReal.coe_add, ← slots, coe_sum]
  refine congrArg₂ (· + ·) (Finset.sum_congr rfl fun d _ => ?_) (Finset.sum_congr rfl fun s _ => ?_)
  · rw [hk r d, hx a d, EReal.coe_mul]
  · rw [hf r s, hy a s]

include hq hx hy in
/-- A head's sums at the end, over all keys. -/
theorem head_sum (j0 n : ℕ) (hn : j0 + n < 16) (p : Vec Ideal S512x512 .bf16) (kt0 ft0 : Vec Ideal S512x128 .bf16)
    (g : Fin n → Vec Ideal S1x64x512 .bf16 × Vec Ideal S512x128 .bf16 × Vec Ideal S512x128 .bf16) (v v' : Vec Ideal S1x64x512 .bf16)
    (hk0 : KT sub hs K kt0 j0) (hf0 : FT b hb Fk ft0 j0)
    (hk : ∀ k : Fin n, KT sub hs K (g k).2.1 (j0 + (k.val + 1))) (hf : ∀ k : Fin n, FT b hb Fk (g k).2.2 (j0 + (k.val + 1)))
    (hvk : ∀ k : Fin n, 0 < k.val → VT V (g k).1 (j0 + (k.val - 1))) (hv : 0 < n → VT V v (j0 + (n - 1))) (hv' : VT V v' (j0 + n)) (a : Fin 512) :
    ∃ μ : ℝ, ∀ c : Fin 80, ((HS.iter q g (HS.start p kt0 ft0 q) n).fin v v').acc (ix2 c a)
      = ∑ κ : Fin 8192, vone V κ.val c.val * (if vis j0 ((j0 + n) * 512 + a.val) κ.val then (((2 : ℝ) ^ (sc Q Fq K Fk κ.val a.val - μ) : ℝ) : EReal) else 0) := by
  have H0 : Inv (fun j r a => sc Q Fq K Fk ((j0 + j) * 512 + r.val) a.val) (fun j c r => vone V ((j0 + j) * 512 + r.val) c.val) 0 (HS.start p kt0 ft0 q) :=
    Inv.start p kt0 ft0 q fun r a => sc_at hq hs hb hx hy hk0 hf0 r a
  have H := Inv.iter g q _ H0 (fun k h c r => (hvk k h).vx c r) (fun k r a => sc_at hq hs hb hx hy (hk k) (hf k) r a) n le_rfl
  obtain ⟨μ, hμ⟩ := H.fin v v' (fun h c r => (hv h).vx c r) (fun c r => hv'.vx c r) a
  refine ⟨μ, fun c => (hμ c).trans ?_⟩
  refine Eq.trans ?_ (sum_tiles (fun κ => vone V κ c.val * (if vis j0 ((j0 + n) * 512 + a.val) κ then (((2 : ℝ) ^ (sc Q Fq K Fk κ a.val - μ) : ℝ) : EReal) else 0))
    j0 n hn ?_).symm
  · refine Finset.sum_congr rfl fun j hj => Finset.sum_congr rfl fun r _ => congrArg (_ * ·) (if_congr ?_ rfl rfl)
    have := Finset.mem_range.mp hj
    have := r.isLt
    have := a.isLt
    unfold vis
    constructor
    · rintro (h | h)
      · exact ⟨by omega, by omega⟩
      · exact ⟨by omega, by omega⟩
    · rintro ⟨_, h⟩
      by_cases hj' : j < n
      · exact Or.inl hj'
      · obtain rfl : j = n := by omega
        exact Or.inr (by omega)
  · intro t r hr ht h
    have := a.isLt
    rw [if_neg, mul_zero]
    unfold vis
    rintro ⟨h1, h2⟩
    omega

include hq hx hy in
/-- A head's column: the softmax's weighted sum of the values. -/
theorem head_out (j0 n : ℕ) (hn : j0 + n < 16) (p : Vec Ideal S512x512 .bf16) (kt0 ft0 : Vec Ideal S512x128 .bf16)
    (g : Fin n → Vec Ideal S1x64x512 .bf16 × Vec Ideal S512x128 .bf16 × Vec Ideal S512x128 .bf16) (v v' : Vec Ideal S1x64x512 .bf16)
    (hk0 : KT sub hs K kt0 j0) (hf0 : FT b hb Fk ft0 j0)
    (hk : ∀ k : Fin n, KT sub hs K (g k).2.1 (j0 + (k.val + 1))) (hf : ∀ k : Fin n, FT b hb Fk (g k).2.2 (j0 + (k.val + 1)))
    (hvk : ∀ k : Fin n, 0 < k.val → VT V (g k).1 (j0 + (k.val - 1))) (hv : 0 < n → VT V v (j0 + (n - 1))) (hv' : VT V v' (j0 + n)) (a : Fin 512)
    (s : ℕ → ℝ) (hsc : ∀ κ, sc Q Fq K Fk κ a.val = L2 * s κ) (M : ℝ) (c : Fin 64) :
    Ideal.div (((HS.iter q g (HS.start p kt0 ft0 q) n).fin v v').acc (ix2 ⟨c.val, lt_c c⟩ a))
        (((HS.iter q g (HS.start p kt0 ft0 q) n).fin v v').acc (ix2 64 a))
      = ∑ κ : Fin 8192, Ideal.div (if vis j0 ((j0 + n) * 512 + a.val) κ.val then ((Real.exp (s κ.val - M) : ℝ) : EReal) else 0)
          (∑ κ : Fin 8192, if vis j0 ((j0 + n) * 512 + a.val) κ.val then ((Real.exp (s κ.val - M) : ℝ) : EReal) else 0) * V κ.val c.val := by
  obtain ⟨μ, hμ⟩ := head_sum hq hs hb hx hy j0 n hn p kt0 ft0 g v v' hk0 hf0 hk hf hvk hv hv' a
  rw [hμ, hμ]
  have hl := a.isLt
  refine Eq.trans (congrArg₂ Ideal.div (Finset.sum_congr rfl fun κ _ => ?_) (Finset.sum_congr rfl fun κ _ => ?_))
    (ratio (ι := Fin 8192) (fun κ => vis j0 ((j0 + n) * 512 + a.val) κ.val) (fun κ => s κ.val) (fun κ => V κ.val c.val) M μ ⟨(j0 + n) * 512 + a.val, by omega⟩
      (by show j0 * 512 ≤ _ ∧ _ ≤ _; constructor
          · show j0 * 512 ≤ (j0 + n) * 512 + a.val; omega
          · exact le_rfl) _
      (fun κ => if vis j0 ((j0 + n) * 512 + a.val) κ.val then (((2 : ℝ) ^ (L2 * s κ.val - μ) : ℝ) : EReal) else 0) (fun _ => rfl) (fun _ => rfl)).symm
  · show vone V κ.val c.val * _ = _
    unfold vone
    rw [if_pos c.isLt, hsc]
  · show vone V κ.val 64 * _ = _
    unfold vone
    rw [if_neg (by decide), hsc]

end

theorem trans128 (X : FVec Ideal S128x512 .f32) (a : Fin 512) (c : Fin 128) :
    (truncf .bf16 (transpose S512x128 [1, 0] X transposes_S128x512_p1_0_S512x128 : FVec Ideal S512x128 .f32) bitsLt_bf16_f32 : FVec Ideal S512x128 .bf16) (colIdx a c) = X (ix2 c a) :=
  transpose_apply [1, 0] X transposes_S128x512_p1_0_S512x128 (colIdx a c) (ix2 c a) (fun b => match b with | ⟨0, _⟩ => rfl | ⟨1, _⟩ => rfl)

/-- One head's column of a stored half block. -/
theorem half_at (A B : FVec Ideal S80x512 .f32) (a : Fin 512) (c : Fin 128) :
    k0_pay1 (F := Ideal) A B (colIdx a c) = if h : c.val < 64 then Ideal.div (A (ix2 ⟨c.val, lt_e h⟩ a)) (A (ix2 64 a))
      else Ideal.div (B (ix2 ⟨c.val - 64, lt_f c⟩ a)) (B (ix2 64 a)) := by
  have top : ∀ (X : FVec Ideal S80x512 .f32) (d : Fin 64), divf (F := Ideal) (φ := .f32) (extractStridedSlice S64x512 ![0, 0] X slices_S80x512_o0_0_S64x512)
      (broadcastTo S64x512 (extractStridedSlice S1x512 ![64, 0] X slices_S80x512_o64_0_S1x512) broadcasts_S1x512_S64x512) (ix2 d a)
        = Ideal.div (X (ix2 ⟨d.val, lt_c d⟩ a)) (X (ix2 64 a)) := fun X d => by
    refine congrArg₂ Ideal.div ?_ ?_
    · exact extractStridedSlice_apply ![0, 0] X slices_S80x512_o0_0_S64x512 (ix2 d a) _
        (fun b => match b with | ⟨0, _⟩ => (Nat.zero_add d.val).symm | ⟨1, _⟩ => (Nat.zero_add a.val).symm)
    · refine (broadcastTo_apply (extractStridedSlice S1x512 ![64, 0] X slices_S80x512_o64_0_S1x512) broadcasts_S1x512_S64x512 (ix2 d a) (ix2 0 a) (fun b => match b with
        | ⟨0, _⟩ => by show (0 : Nat) = if (1 : Nat) = 1 then 0 else d.val; rw [if_pos rfl]
        | ⟨1, _⟩ => by show a.val = if (512 : Nat) = 1 then 0 else a.val; rw [if_neg (by decide)])).trans ?_
      exact extractStridedSlice_apply ![64, 0] X slices_S80x512_o64_0_S1x512 (ix2 0 a) _
        (fun b => match b with | ⟨0, _⟩ => rfl | ⟨1, _⟩ => (Nat.zero_add a.val).symm)
  unfold k0_pay1
  refine Eq.trans (trans128 _ a c) ?_
  by_cases h : c.val < 64
  · rw [dif_pos h]
    exact (concatenate_pair_apply_left (t := S128x512) (s₁ := S64x512) (s₂ := S64x512) 0 _ _ _ (ix2 c a) rfl (ix2 ⟨c.val, h⟩ a)
      (fun b => match b with | ⟨0, _⟩ => rfl | ⟨1, _⟩ => rfl)).trans (top A ⟨c.val, h⟩)
  · rw [dif_neg h]
    exact (concatenate_pair_apply_right (t := S128x512) (s₁ := S64x512) (s₂ := S64x512) 0 _ _ _ (ix2 c a) rfl rfl (ix2 ⟨c.val - 64, by omega⟩ a)
      (fun b => match b with | ⟨0, _⟩ => fun h => absurd rfl h | ⟨1, _⟩ => fun _ => rfl) (by show c.val - 64 + 64 = c.val; omega)).trans (top B ⟨c.val - 64, by omega⟩)

end Cert.KernelIdeal.Gen
-- ==== Proof.FoxBlock.lean ====
/- A grid point's block over the extended reals, head by head, from what its arrays' blocks hold. -/
module

public import proofs.«01_k».proof.Proof.FoxTile

@[expose] public section

noncomputable section

namespace Cert.KernelIdeal.Gen

open Idealize.ShloMosaic Idealize.ShloMosaic.ValueIdx Cert.Fox
open scoped BigOperators

/-- The reference's weighted sum over the keys from tile `j0` to the query `T`. -/
def wsum (s : ℕ → ℝ) (M : ℝ) (V : ℕ → EReal) (j0 T : ℕ) : EReal :=
  ∑ κ : Fin 8192, Ideal.div (if vis j0 T κ.val then ((Real.exp (s κ.val - M) : ℝ) : EReal) else 0)
    (∑ κ : Fin 8192, if vis j0 T κ.val then ((Real.exp (s κ.val - M) : ℝ) : EReal) else 0) * V κ.val

/-- What a grid point's blocks hold: scaled queries, keys, values, and the gates in slots. -/
structure Inp (Q : ℕ → ℕ → ℝ) (Fq : ℕ → ℕ → ℝ) (K : ℕ → ℕ → ℝ) (Fk : ℕ → ℕ → ℝ) (V : ℕ → ℕ → EReal)
    (x4 : Vec Ideal S512x256 .bf16) (x5 : Vec Ideal S512x128 .bf16) (x6 : Vec Ideal S8192x256 .bf16) (x7 : Vec Ideal S8192x128 .bf16)
    (x8 : Vec Ideal S1x256x8192 .bf16) : Prop where
  h4 : ∀ i j, x4 (ix2 i j) = ((Q i.val j.val : ℝ) : EReal)
  h5 : ∀ i (j : Fin 128), j.val < 64 → x5 (ix2 i j) = slq (Fq i.val (j.val / 8)) (j.val % 8)
  h6 : ∀ i j, x6 (ix2 i j) = ((K i.val j.val : ℝ) : EReal)
  h7 : ∀ i (j : Fin 128), j.val < 64 → x7 (ix2 i j) = slk (Fk i.val (j.val / 8)) (j.val % 8)
  h8 : ∀ l i j, x8 (ix3 l i j) = V j.val i.val

/-- A load at an offset, read at a place. -/
theorem ld2' {n0 n1 : Nat} {t : EltTy} (X : (⟨2, ![n0, n1]⟩ : Shape).Idx → Elt Ideal t)
    {o s : Fin 2 → Nat} (h : ∀ a, o a + s a ≤ (⟨2, ![n0, n1]⟩ : Shape).size a) (i : (Rect.unit (s := ⟨2, ![n0, n1]⟩) o s h).shape.Idx) (r : Fin n0) (c : Fin n1)
    (hr : r.val = o 0 + (i 0).val) (hc : c.val = o 1 + (i 1).val) :
    View.ld X (Rect.unit (s := ⟨2, ![n0, n1]⟩) o s h) i = X (ix2 r c) := by
  refine congrArg X (eq2 _ _ (Eq.trans ?_ hr.symm) (Eq.trans ?_ hc.symm))
  · exact congrArg (o 0 + ·) (Nat.one_mul (i 0).val)
  · exact congrArg (o 1 + ·) (Nat.one_mul (i 1).val)

section
variable {Q : ℕ → ℕ → ℝ} {Fq : ℕ → ℕ → ℝ} {K : ℕ → ℕ → ℝ} {Fk : ℕ → ℕ → ℝ} {V : ℕ → ℕ → EReal}
  {x4 : Vec Ideal S512x256 .bf16} {x5 : Vec Ideal S512x128 .bf16} {x6 : Vec Ideal S8192x256 .bf16} {x7 : Vec Ideal S8192x128 .bf16}
  {x8 : Vec Ideal S1x256x8192 .bf16} (I : Inp Q Fq K Fk V x4 x5 x6 x7 x8)

include I

theorem Inp.kt (o : Fin 2 → Nat) (h : ∀ a, o a + S512x128.size a ≤ S8192x256.size a) (j sub c : ℕ) (hs : sub < 2) (ho : o 0 = j * 512) (hc : o 1 + 64 * sub = c) :
    KT sub hs (fun κ d => K κ (c + d)) (View.ld x6 (Rect.unit (s := S8192x256) o S512x128.size h)) j := fun r d => by
  refine (ld2 (f := fun κ c => ((K κ c : ℝ) : EReal)) I.h6 h _).trans ?_
  show ((K (o 0 + r.val) (o 1 + (64 * sub + d.val)) : ℝ) : EReal) = _
  rw [ho, ← hc, ← Nat.add_assoc]

theorem Inp.ft (o : Fin 2 → Nat) (h : ∀ a, o a + S512x128.size a ≤ S8192x128.size a) (j b : ℕ) (hb : b < 16) (hb8 : b < 8) (ho : o 0 = j * 512) (hc : o 1 = 0) :
    FT b hb (fun κ => Fk κ b) (View.ld x7 (Rect.unit (s := S8192x128) o S512x128.size h)) j := fun r s => by
  have h0 : o 0 + 512 ≤ 8192 := h 0
  have := r.isLt
  have := s.isLt
  refine (ld2' x7 h _ ⟨o 0 + r.val, by omega⟩ ⟨8 * b + s.val, lt_s hb s⟩ rfl (by rw [hc]; exact (Nat.zero_add _).symm)).trans ((I.h7 _ _ (by show 8 * b + s.val < 64; omega)).trans ?_)
  show slk (Fk (o 0 + r.val) ((8 * b + s.val) / 8)) ((8 * b + s.val) % 8) = _
  rw [ho, show (8 * b + s.val) / 8 = b by omega, show (8 * b + s.val) % 8 = s.val by omega]

theorem Inp.vt (o : Fin 3 → Nat) (h : ∀ a, o a + S1x64x512.size a ≤ S1x256x8192.size a) (j c : ℕ) (ho : o 2 = j * 512) (hc : o 1 = c) :
    VT (fun κ d => V κ (c + d)) (View.ld x8 (Rect.unit (s := S1x256x8192) o S1x64x512.size h)) j := fun d r => by
  refine (ld3 (f := V) I.h8 h _).trans ?_
  show V (o 2 + r.val) (o 1 + d.val) = _
  rw [ho, hc]

theorem Inp.x (o : Fin 2 → Nat) (h : ∀ a, o a + S512x128.size a ≤ S512x256.size a) (sub c : ℕ) (hs : sub < 2) (ho : o 0 = 0) (hc : o 1 + 64 * sub = c)
    (a : Fin 512) (d : Fin 64) :
    View.ld x4 (Rect.unit (s := S512x256) o S512x128.size h) (ix2 a ⟨64 * sub + d.val, lt_d hs d⟩) = ((Q a.val (c + d.val) : ℝ) : EReal) := by
  refine (ld2 (f := fun κ c => ((Q κ c : ℝ) : EReal)) I.h4 h _).trans ?_
  show ((Q (o 0 + a.val) (o 1 + (64 * sub + d.val)) : ℝ) : EReal) = _
  rw [ho, ← hc, Nat.zero_add, ← Nat.add_assoc]

theorem Inp.y (o : Fin 2 → Nat) (h : ∀ a, o a + S512x128.size a ≤ S512x128.size a) (b : ℕ) (hb : b < 16) (hb8 : b < 8) (ho : o 0 = 0) (hc : o 1 = 0) (a : Fin 512) (s : Fin 8) :
    View.ld x5 (Rect.unit (s := S512x128) o S512x128.size h) (ix2 a ⟨8 * b + s.val, lt_s hb s⟩) = slq (Fq a.val b) s.val := by
  have := s.isLt
  refine (ld2' x5 h _ a ⟨8 * b + s.val, lt_s hb s⟩ (by rw [ho]; exact (Nat.zero_add _).symm) (by rw [hc]; exact (Nat.zero_add _).symm)).trans
    ((I.h5 _ _ (by show 8 * b + s.val < 64; omega)).trans ?_)
  show slq (Fq a.val ((8 * b + s.val) / 8)) ((8 * b + s.val) % 8) = _
  rw [show (8 * b + s.val) / 8 = b by omega, show (8 * b + s.val) % 8 = s.val by omega]

/-- Head 0's column. -/
theorem Inp.head0 (i : grid0.Coords) (b : Fin 16) (hb : b.val ≤ (i 2).val) (hw : k0_chk1 i (BitVec.ofNat 32 b.val)) (p : Vec Ideal S512x512 .bf16) (a : Fin 512)
    (s : ℕ → ℝ) (hsc : ∀ κ, sc (fun a d => Q a (0 + d)) (fun a => Fq a (4 * (i 1).val + 0)) (fun κ d => K κ (0 + d)) (fun κ => Fk κ (4 * (i 1).val + 0)) κ a.val = L2 * s κ)
    (M : ℝ) (c : Fin 64) :
    Ideal.div ((fin0 i (BitVec.ofNat 32 b.val) hw x4 x5 x6 x7 x8 p).acc (ix2 ⟨c.val, lt_c c⟩ a)) ((fin0 i (BitVec.ofNat 32 b.val) hw x4 x5 x6 x7 x8 p).acc (ix2 64 a))
      = wsum s M (fun κ => V κ (0 + c.val)) b.val ((i 2).val * 512 + a.val) := by
  have hi : (i 2).val < 16 := (i 2).isLt
  have hg : (i 1).val < 2 := (i 1).isLt
  have ht : (k0_t1_loop i (BitVec.ofNat 32 b.val)).trips = (i 2).val - b.val := trips_at (i 2) b hb
  have hn : b.val + (k0_t1_loop i (BitVec.ofNat 32 b.val)).trips = (i 2).val := by omega
  have hL := fun k => off_keys (i 2) b hb k
  have hV := fun k hk => off_vals (i 2) b hb k hk
  have := head_out (qh0_at i x4 x5) (hs := by decide) (hb := by omega) (Q := fun a d => Q a (0 + d)) (Fq := fun a => Fq a (4 * (i 1).val + 0))
    (K := fun κ d => K κ (0 + d)) (Fk := fun κ => Fk κ (4 * (i 1).val + 0)) (V := fun κ d => V κ (0 + d))
    (I.x _ _ _ _ (by decide) rfl rfl) (I.y _ _ _ (by omega) (by omega) rfl rfl) b.val (k0_t1_loop i (BitVec.ofNat 32 b.val)).trips (by omega) p
    _ _ (g0 i (BitVec.ofNat 32 b.val) hw x6 x7 x8) _ _
    (I.kt _ (k0_off2_inb _ _ hw) _ _ _ (by decide) (off_first b).1 rfl)
    (I.ft _ (k0_off3_inb _ _ hw) _ _ (by omega) (by omega) (off_first b).2.1 rfl)
    (fun k => I.kt _ (k0_off6_inb _ _ hw k) _ _ _ (by decide) (hL k).1 rfl)
    (fun k => I.ft _ (k0_off7_inb _ _ hw k) _ _ (by omega) (by omega) (hL k).2.1 rfl)
    (fun k hk => I.vt _ (k0_off5_inb _ _ hw k) _ _ (hV k hk).1 rfl)
    (fun h0 => I.vt _ (k0_off19_inb _ _ hw) _ _ (((off_last (i 2) b (by omega)).1).trans
      (congrArg (· * 512) (by omega : (i 2).val - 1 = b.val + ((k0_t1_loop i (BitVec.ofNat 32 b.val)).trips - 1)))) rfl)
    (I.vt _ (k0_off23_inb _) _ _ (((off_diag (i 2)).1).trans (congrArg (· * 512) hn.symm)) rfl) a s hsc M c
  rw [hn] at this
  exact this

/-- Head 1's column. -/
theorem Inp.head1 (i : grid0.Coords) (b : Fin 16) (hb : b.val ≤ (i 2).val) (hw : k0_chk1 i (BitVec.ofNat 32 b.val)) (p : Vec Ideal S512x512 .bf16) (a : Fin 512)
    (s : ℕ → ℝ) (hsc : ∀ κ, sc (fun a d => Q a (64 + d)) (fun a => Fq a (4 * (i 1).val + 1)) (fun κ d => K κ (64 + d)) (fun κ => Fk κ (4 * (i 1).val + 1)) κ a.val = L2 * s κ)
    (M : ℝ) (c : Fin 64) :
    Ideal.div ((fin1 i (BitVec.ofNat 32 b.val) hw x4 x5 x6 x7 x8 p).acc (ix2 ⟨c.val, lt_c c⟩ a)) ((fin1 i (BitVec.ofNat 32 b.val) hw x4 x5 x6 x7 x8 p).acc (ix2 64 a))
      = wsum s M (fun κ => V κ (64 + c.val)) b.val ((i 2).val * 512 + a.val) := by
  have hi : (i 2).val < 16 := (i 2).isLt
  have hg : (i 1).val < 2 := (i 1).isLt
  have ht : (k0_t1_loop i (BitVec.ofNat 32 b.val)).trips = (i 2).val - b.val := trips_at (i 2) b hb
  have hn : b.val + (k0_t1_loop i (BitVec.ofNat 32 b.val)).trips = (i 2).val := by omega
  have hL := fun k => off_keys (i 2) b hb k
  have hV := fun k hk => off_vals (i 2) b hb k hk
  have := head_out (qh1_at i x4 x5) (hs := by decide) (hb := by omega) (Q := fun a d => Q a (64 + d)) (Fq := fun a => Fq a (4 * (i 1).val + 1))
    (K := fun κ d => K κ (64 + d)) (Fk := fun κ => Fk κ (4 * (i 1).val + 1)) (V := fun κ d => V κ (64 + d))
    (I.x _ _ _ _ (by decide) rfl rfl) (I.y _ _ _ (by omega) (by omega) rfl rfl) b.val (k0_t1_loop i (BitVec.ofNat 32 b.val)).trips (by omega) p
    _ _ (g1 i (BitVec.ofNat 32 b.val) hw x6 x7 x8) _ _
    (I.kt _ (k0_off2_inb _ _ hw) _ _ _ (by decide) (off_first b).1 rfl)
    (I.ft _ (k0_off3_inb _ _ hw) _ _ (by omega) (by omega) (off_first b).2.1 rfl)
    (fun k => I.kt _ (k0_off6_inb _ _ hw k) _ _ _ (by decide) (hL k).1 rfl)
    (fun k => I.ft _ (k0_off7_inb _ _ hw k) _ _ (by omega) (by omega) (hL k).2.1 rfl)
    (fun k hk => I.vt _ (k0_off8_inb _ _ hw k) _ _ (hV k hk).2.1 rfl)
    (fun h0 => I.vt _ (k0_off20_inb _ _ hw) _ _ (((off_last (i 2) b (by omega)).2.1).trans
      (congrArg (· * 512) (by omega : (i 2).val - 1 = b.val + ((k0_t1_loop i (BitVec.ofNat 32 b.val)).trips - 1)))) rfl)
    (I.vt _ (k0_off24_inb _) _ _ (((off_diag (i 2)).2.1).trans (congrArg (· * 512) hn.symm)) rfl) a s hsc M c
  rw [hn] at this
  exact this

/-- Head 2's column. -/
theorem Inp.head2 (i : grid0.Coords) (b : Fin 16) (hb : b.val ≤ (i 2).val) (hw : k0_chk1 i (BitVec.ofNat 32 b.val)) (p : Vec Ideal S512x512 .bf16) (a : Fin 512)
    (s : ℕ → ℝ) (hsc : ∀ κ, sc (fun a d => Q a (128 + d)) (fun a => Fq a (4 * (i 1).val + 2)) (fun κ d => K κ (128 + d)) (fun κ => Fk κ (4 * (i 1).val + 2)) κ a.val = L2 * s κ)
    (M : ℝ) (c : Fin 64) :
    Ideal.div ((fin2 i (BitVec.ofNat 32 b.val) hw x4 x5 x6 x7 x8 p).acc (ix2 ⟨c.val, lt_c c⟩ a)) ((fin2 i (BitVec.ofNat 32 b.val) hw x4 x5 x6 x7 x8 p).acc (ix2 64 a))
      = wsum s M (fun κ => V κ (128 + c.val)) b.val ((i 2).val * 512 + a.val) := by
  have hi : (i 2).val < 16 := (i 2).isLt
  have hg : (i 1).val < 2 := (i 1).isLt
  have ht : (k0_t1_loop i (BitVec.ofNat 32 b.val)).trips = (i 2).val - b.val := trips_at (i 2) b hb
  have hn : b.val + (k0_t1_loop i (BitVec.ofNat 32 b.val)).trips = (i 2).val := by omega
  have hL := fun k => off_keys (i 2) b hb k
  have hV := fun k hk => off_vals (i 2) b hb k hk
  have := head_out (qh2_at i x4 x5) (hs := by decide) (hb := by omega) (Q := fun a d => Q a (128 + d)) (Fq := fun a => Fq a (4 * (i 1).val + 2))
    (K := fun κ d => K κ (128 + d)) (Fk := fun κ => Fk κ (4 * (i 1).val + 2)) (V := fun κ d => V κ (128 + d))
    (I.x _ _ _ _ (by decide) rfl rfl) (I.y _ _ _ (by omega) (by omega) rfl rfl) b.val (k0_t1_loop i (BitVec.ofNat 32 b.val)).trips (by omega) p
    _ _ (g2 i (BitVec.ofNat 32 b.val) hw x6 x7 x8) _ _
    (I.kt _ (k0_off4_inb _ _ hw) _ _ _ (by decide) (off_first b).2.2 rfl)
    (I.ft _ (k0_off3_inb _ _ hw) _ _ (by omega) (by omega) (off_first b).2.1 rfl)
    (fun k => I.kt _ (k0_off10_inb _ _ hw k) _ _ _ (by decide) (hL k).2.2 rfl)
    (fun k => I.ft _ (k0_off7_inb _ _ hw k) _ _ (by omega) (by omega) (hL k).2.1 rfl)
    (fun k hk => I.vt _ (k0_off9_inb _ _ hw k) _ _ (hV k hk).2.2.1 rfl)
    (fun h0 => I.vt _ (k0_off21_inb _ _ hw) _ _ (((off_last (i 2) b (by omega)).2.2.1).trans
      (congrArg (· * 512) (by omega : (i 2).val - 1 = b.val + ((k0_t1_loop i (BitVec.ofNat 32 b.val)).trips - 1)))) rfl)
    (I.vt _ (k0_off25_inb _) _ _ (((off_diag (i 2)).2.2.1).trans (congrArg (· * 512) hn.symm)) rfl) a s hsc M c
  rw [hn] at this
  exact this

/-- Head 3's column. -/
theorem Inp.head3 (i : grid0.Coords) (b : Fin 16) (hb : b.val ≤ (i 2).val) (hw : k0_chk1 i (BitVec.ofNat 32 b.val)) (p : Vec Ideal S512x512 .bf16) (a : Fin 512)
    (s : ℕ → ℝ) (hsc : ∀ κ, sc (fun a d => Q a (192 + d)) (fun a => Fq a (4 * (i 1).val + 3)) (fun κ d => K κ (192 + d)) (fun κ => Fk κ (4 * (i 1).val + 3)) κ a.val = L2 * s κ)
    (M : ℝ) (c : Fin 64) :
    Ideal.div ((fin3 i (BitVec.ofNat 32 b.val) hw x4 x5 x6 x7 x8 p).acc (ix2 ⟨c.val, lt_c c⟩ a)) ((fin3 i (BitVec.ofNat 32 b.val) hw x4 x5 x6 x7 x8 p).acc (ix2 64 a))
      = wsum s M (fun κ => V κ (192 + c.val)) b.val ((i 2).val * 512 + a.val) := by
  have hi : (i 2).val < 16 := (i 2).isLt
  have hg : (i 1).val < 2 := (i 1).isLt
  have ht : (k0_t1_loop i (BitVec.ofNat 32 b.val)).trips = (i 2).val - b.val := trips_at (i 2) b hb
  have hn : b.val + (k0_t1_loop i (BitVec.ofNat 32 b.val)).trips = (i 2).val := by omega
  have hL := fun k => off_keys (i 2) b hb k
  have hV := fun k hk => off_vals (i 2) b hb k hk
  have := head_out (qh3_at i x4 x5) (hs := by decide) (hb := by omega) (Q := fun a d => Q a (192 + d)) (Fq := fun a => Fq a (4 * (i 1).val + 3))
    (K := fun κ d => K κ (192 + d)) (Fk := fun κ => Fk κ (4 * (i 1).val + 3)) (V := fun κ d => V κ (192 + d))
    (I.x _ _ _ _ (by decide) rfl rfl) (I.y _ _ _ (by omega) (by omega) rfl rfl) b.val (k0_t1_loop i (BitVec.ofNat 32 b.val)).trips (by omega) p
    _ _ (g3 i (BitVec.ofNat 32 b.val) hw x6 x7 x8) _ _
    (I.kt _ (k0_off4_inb _ _ hw) _ _ _ (by decide) (off_first b).2.2 rfl)
    (I.ft _ (k0_off3_inb _ _ hw) _ _ (by omega) (by omega) (off_first b).2.1 rfl)
    (fun k => I.kt _ (k0_off10_inb _ _ hw k) _ _ _ (by decide) (hL k).2.2 rfl)
    (fun k => I.ft _ (k0_off7_inb _ _ hw k) _ _ (by omega) (by omega) (hL k).2.1 rfl)
    (fun k hk => I.vt _ (k0_off11_inb _ _ hw k) _ _ (hV k hk).2.2.2 rfl)
    (fun h0 => I.vt _ (k0_off22_inb _ _ hw) _ _ (((off_last (i 2) b (by omega)).2.2.2).trans
      (congrArg (· * 512) (by omega : (i 2).val - 1 = b.val + ((k0_t1_loop i (BitVec.ofNat 32 b.val)).trips - 1)))) rfl)
    (I.vt _ (k0_off26_inb _) _ _ (((off_diag (i 2)).2.2.2).trans (congrArg (· * 512) hn.symm)) rfl) a s hsc M c
  rw [hn] at this
  exact this

/-- The block's column of head `h`. -/
theorem Inp.out (i : grid0.Coords) (b : Fin 16) (hb : b.val ≤ (i 2).val) (v5 : BitVec 32) (h5 : v5 = BitVec.ofNat 32 b.val) (hw : k0_chk1 i v5)
    (p0 p1 p2 p3 : Vec Ideal S512x512 .bf16) (a : Fin 512) (h : Fin 4) (c : Fin 64)
    (s : ℕ → ℝ) (hsc : ∀ κ, sc (fun a d => Q a (64 * h.val + d)) (fun a => Fq a (4 * (i 1).val + h.val)) (fun κ d => K κ (64 * h.val + d)) (fun κ => Fk κ (4 * (i 1).val + h.val)) κ a.val = L2 * s κ)
    (M : ℝ) :
    outBlk (F := Ideal) i v5 hw x4 x5 x6 x7 x8 p0 p1 p2 p3 (ix2 a ⟨64 * h.val + c.val, lt_h h c⟩)
      = wsum s M (fun κ => V κ (64 * h.val + c.val)) b.val ((i 2).val * 512 + a.val) := by
  subst h5
  have := c.isLt
  unfold outBlk
  match h, hsc with
  | ⟨0, _⟩, hsc =>
    refine Eq.trans ?_ (I.head0 i b hb hw p0 a s hsc M c)
    refine (dif_pos (show 0 + c.val < 128 by omega)).trans ((half_at _ _ a ⟨0 + c.val, by omega⟩).trans ?_)
    refine (dif_pos (show 0 + c.val < 64 by omega)).trans ?_
    have e : (⟨0 + c.val, by omega⟩ : Fin 80) = ⟨c.val, lt_c c⟩ := Fin.ext (show 0 + c.val = c.val by omega)
    exact congrArg (fun z => Ideal.div ((fin0 i (BitVec.ofNat 32 b.val) hw x4 x5 x6 x7 x8 p0).acc (ix2 z a)) _) e
  | ⟨1, _⟩, hsc =>
    refine Eq.trans ?_ (I.head1 i b hb hw p1 a s hsc M c)
    refine (dif_pos (show 64 + c.val < 128 by omega)).trans ((half_at _ _ a ⟨64 + c.val, by omega⟩).trans ?_)
    refine (dif_neg (show ¬ 64 + c.val < 64 by omega)).trans ?_
    have e : (⟨64 + c.val - 64, by omega⟩ : Fin 80) = ⟨c.val, lt_c c⟩ := Fin.ext (show 64 + c.val - 64 = c.val by omega)
    exact congrArg (fun z => Ideal.div ((fin1 i (BitVec.ofNat 32 b.val) hw x4 x5 x6 x7 x8 p1).acc (ix2 z a)) _) e
  | ⟨2, _⟩, hsc =>
    refine Eq.trans ?_ (I.head2 i b hb hw p2 a s hsc M c)
    refine (dif_neg (show ¬ 128 + c.val < 128 by omega)).trans ((half_at _ _ a ⟨128 + c.val - 128, by omega⟩).trans ?_)
    refine (dif_pos (show 128 + c.val - 128 < 64 by omega)).trans ?_
    have e : (⟨128 + c.val - 128, by omega⟩ : Fin 80) = ⟨c.val, lt_c c⟩ := Fin.ext (show 128 + c.val - 128 = c.val by omega)
    exact congrArg (fun z => Ideal.div ((fin2 i (BitVec.ofNat 32 b.val) hw x4 x5 x6 x7 x8 p2).acc (ix2 z a)) _) e
  | ⟨3, _⟩, hsc =>
    refine Eq.trans ?_ (I.head3 i b hb hw p3 a s hsc M c)
    refine (dif_neg (show ¬ 192 + c.val < 128 by omega)).trans ((half_at _ _ a ⟨192 + c.val - 128, by omega⟩).trans ?_)
    refine (dif_neg (show ¬ 192 + c.val - 128 < 64 by omega)).trans ?_
    have e : (⟨192 + c.val - 128 - 64, by omega⟩ : Fin 80) = ⟨c.val, lt_c c⟩ := Fin.ext (show 192 + c.val - 128 - 64 = c.val by omega)
    exact congrArg (fun z => Ideal.div ((fin3 i (BitVec.ofNat 32 b.val) hw x4 x5 x6 x7 x8 p3).acc (ix2 z a)) _) e

end

end Cert.KernelIdeal.Gen
-- ==== Proof.FoxPre.lean ====
/- The arrays the launch finds, from the arguments: scaled queries, keys, transposed values, and the gates in slots. -/
module

public import proofs.«01_k».proof.Proof.FoxBlock
public import proofs.«01_k».proof.Proof.KernelIdealRun
public import Idealize.ShloMosaic.Lib.Pipeline.ValueKit.Geometry
public import Idealize.ShloMosaic.Lib.KernelVsHost

@[expose] public section

noncomputable section

namespace Cert.KernelIdeal.Gen

open Idealize.ShloMosaic Idealize.ShloMosaic.TcCoe Idealize.SL.Sem Idealize.ShloMosaic.ValueIdx Cert.Fox
open scoped BigOperators

/-- One over the logarithm of two, as the host computes it. -/
abbrev L1 : FVec Ideal S_ .f32 := Host.divf (constant S_ .f32 0x3F800000#32 : FVec Ideal S_ .f32) (Host.log (constant S_ .f32 0x40000000#32 : FVec Ideal S_ .f32))

variable (m : (ℓ : Loc nD τ sig) → Buf (Elt Ideal) ℓ) (c : Dev nD)

abbrev a1 : FVec Ideal S4x8192x512 .f32 := m (c, main_arg1)
abbrev a2 : FVec Ideal S4x8192x512 .f32 := m (c, main_arg2)
abbrev a3 : FVec Ideal S4x8192x512 .f32 := m (c, main_arg3)
abbrev a4 : FVec Ideal S4x8192x8 .f32 := m (c, main_arg4)

theorem V_v6 : V m c main_v6 = (shapeCast S32768x512 (truncf .bf16 (mulf (a1 m c) (broadcastInDim S4x8192x512 ![] bcast_S_S4x8192x512
    (mulf (constant S_ .f32 0x3E000000#32 : FVec Ideal S_ .f32) L1))) bitsLt_bf16_f32) shapeCasts_S4x8192x512_S32768x512 : FVec Ideal S32768x512 .bf16) := by
  simp only [V, pre, hostOps0, hostOps0_1, hostOps0_2, hostOps0_3, hostOps0_4, List.flatten_cons, List.flatten_nil, List.append_nil, List.cons_append, List.nil_append]
  after_results
  all_goals rfl

theorem V_v8 : V m c main_v8 = (shapeCast S32768x512 (truncf .bf16 (a2 m c) bitsLt_bf16_f32) shapeCasts_S4x8192x512_S32768x512 : FVec Ideal S32768x512 .bf16) := by
  simp only [V, pre, hostOps0, hostOps0_1, hostOps0_2, hostOps0_3, hostOps0_4, List.flatten_cons, List.flatten_nil, List.append_nil, List.cons_append, List.nil_append]
  after_results
  all_goals rfl

theorem V_v10 : V m c main_v10 = (transpose S4x512x8192 [0, 2, 1] (truncf .bf16 (a3 m c) bitsLt_bf16_f32) transposes_S4x8192x512_S4x512x8192_0_2_1 : FVec Ideal S4x512x8192 .bf16) := by
  simp only [V, pre, hostOps0, hostOps0_1, hostOps0_2, hostOps0_3, hostOps0_4, List.flatten_cons, List.flatten_nil, List.append_nil, List.cons_append, List.nil_append]
  after_results
  all_goals rfl

/-- The gates in base two, and their three parts. -/
def gate (x : FVec Ideal S4x8192x8 .f32) : FVec Ideal S32768x8 .f32 :=
  shapeCast S32768x8 (mulf x (broadcastInDim S4x8192x8 ![] bcast_S_S4x8192x8 L1)) shapeCasts_S4x8192x8_S32768x8
def ghi (x : FVec Ideal S4x8192x8 .f32) : FVec Ideal S32768x8 .bf16 := truncf .bf16 (gate x) bitsLt_bf16_f32
def grest (x : FVec Ideal S4x8192x8 .f32) : FVec Ideal S32768x8 .f32 := subf (gate x) (extf .f32 (ghi x) bitsLt_bf16_f32)
def gmid (x : FVec Ideal S4x8192x8 .f32) : FVec Ideal S32768x8 .bf16 := truncf .bf16 (grest x) bitsLt_bf16_f32
def glo (x : FVec Ideal S4x8192x8 .f32) : FVec Ideal S32768x8 .bf16 := truncf .bf16 (subf (grest x) (extf .f32 (gmid x) bitsLt_bf16_f32)) bitsLt_bf16_f32
def gone : FVec Ideal S32768x8 .bf16 := broadcastInDim S32768x8 ![] bcast_S_S32768x8 (constant S_ .bf16 0x3F80#16 : FVec Ideal S_ .bf16)
def gzero : FVec Ideal S32768x8 .bf16 := broadcastInDim S32768x8 ![] bcast_S_S32768x8 (constant S_ .bf16 0x0000#16 : FVec Ideal S_ .bf16)
def up (y : FVec Ideal S32768x8 .bf16) : FVec Ideal S32768x8x1 .bf16 := broadcastInDim S32768x8x1 ![0, 1] bcast_S32768x8_S32768x8x1_0_1 y
/-- Eight arrays as the eight slots of every gate. -/
def eight (y0 y1 y2 y3 y4 y5 y6 y7 : FVec Ideal S32768x8 .bf16) : FVec Ideal S32768x8x8 .bf16 :=
  concatenate S32768x8x8 2 [⟨S32768x8x1, up y0⟩, ⟨S32768x8x1, up y1⟩, ⟨S32768x8x1, up y2⟩, ⟨S32768x8x1, up y3⟩, ⟨S32768x8x1, up y4⟩, ⟨S32768x8x1, up y5⟩,
    ⟨S32768x8x1, up y6⟩, ⟨S32768x8x1, up y7⟩] concatenates_S32768x8x1_S32768x8x1_S32768x8x1_S32768x8x1_S32768x8x1_S32768x8x1_S32768x8x1_S32768x8x1_S32768x8x8_d2
def padz (y : FVec Ideal S32768x8x8 .bf16) : FVec Ideal S32768x128 .bf16 :=
  pad S32768x128 ![0, 0] ![0, 64] ![0, 0] (shapeCast S32768x64 y shapeCasts_S32768x8x8_S32768x64) (sitofp .bf16 (constantI S_ 32 0#32) : FVec Ideal S_ .bf16)
    pads_S32768x64_S32768x128_000_0640 h_S_

set_option maxHeartbeats 4000000 in
theorem V_v48 : V m c main_v48 = (concatenate S32768x256 1
    [⟨S32768x128, padz (eight (ghi (a4 m c)) (gmid (a4 m c)) (glo (a4 m c)) gone gone gone gzero gzero)⟩,
     ⟨S32768x128, padz (eight gone gone gone (Host.negf (ghi (a4 m c))) (Host.negf (gmid (a4 m c))) (Host.negf (glo (a4 m c))) gzero gzero)⟩]
    concatenates_S32768x128_S32768x128_S32768x256_d1 : FVec Ideal S32768x256 .bf16) := by
  simp only [V, pre, hostOps0, hostOps0_1, hostOps0_2, hostOps0_3, hostOps0_4, List.flatten_cons, List.flatten_nil, List.append_nil, List.cons_append, List.nil_append]
  after_results
  all_goals rfl

end Cert.KernelIdeal.Gen
-- ==== Proof.FoxIn.lean ====
/- The launch's arrays entry by entry: real queries and keys, and the gates' slots. -/
module

public import proofs.«01_k».proof.Proof.FoxPre

@[expose] public section

noncomputable section

namespace Cert.KernelIdeal.Gen

open Idealize.ShloMosaic Idealize.ShloMosaic.TcCoe Idealize.SL.Sem Idealize.ShloMosaic.ValueIdx Cert.Fox
open scoped BigOperators

theorem two_f32 : (FloatOps.ofBits (F := Ideal) .f32 0x40000000#32 : EReal) = ((2 : ℝ) : EReal) := by
  simp [FloatOps.ofBits, Ideal.ofBits, Ideal.ieee]
  rw [← EReal.coe_mul]
  norm_num

theorem eighth_f32 : (FloatOps.ofBits (F := Ideal) .f32 0x3E000000#32 : EReal) = ((1 / 8 : ℝ) : EReal) := by
  simp [FloatOps.ofBits, Ideal.ofBits, Ideal.ieee]
  rw [← EReal.coe_mul]
  norm_num

theorem zero_bf16 : (FloatOps.ofBits (F := Ideal) .bf16 0x0000#16 : EReal) = 0 := by
  simp [FloatOps.ofBits, Ideal.ofBits, Ideal.ieee]

theorem L1_at (j : S_.Idx) : L1 j = ((L2 : ℝ) : EReal) := by
  show Ideal.div (FloatOps.ofBits (F := Ideal) .f32 0x3F800000#32) (Ideal.log (FloatOps.ofBits (F := Ideal) .f32 0x40000000#32)) = _
  rw [one_f32, two_f32]
  have e : Ideal.log ((2 : ℝ) : EReal) = ((Real.log 2 : ℝ) : EReal) := by
    show (if (2 : ℝ) ≤ 0 then (⊥ : EReal) else (Real.log 2 : EReal)) = _
    rw [if_neg (by norm_num)]
  rw [e, div_real _ _ log2_pos.ne', one_mul, L2, one_div]

/-- The flat row of a batch entry and position. -/
theorem flat {n0 : ℕ} (x : (⟨3, ![4, 8192, n0]⟩ : Shape).Idx → EReal) (h : Shape.ShapeCasts ⟨3, ![4, 8192, n0]⟩ ⟨2, ![32768, n0]⟩)
    (n : Fin 32768) (b : Fin 4) (T : Fin 8192) (hn : n.val = b.val * 8192 + T.val) (e : Fin n0) :
    shapeCast ⟨2, ![32768, n0]⟩ x h (ix2 n e) = x (ix3 b T e) :=
  shapeCast_apply x h _ _ (by
    rw [Shape.rowMajor_val_two, Shape.rowMajor_val_three]
    show (b.val * 8192 + T.val) * n0 + e.val = n.val * n0 + e.val
    rw [hn])

section
variable (n : Fin 32768) (b : Fin 4) (T : Fin 8192) (hn : n.val = b.val * 8192 + T.val)
include hn

theorem in_q (x : FVec Ideal S4x8192x512 .f32) (hx : ∀ j, (x j : EReal) ≠ ⊥ ∧ (x j : EReal) ≠ ⊤) (e : Fin 512) :
    (shapeCast S32768x512 (truncf .bf16 (mulf x (broadcastInDim S4x8192x512 ![] bcast_S_S4x8192x512
      (mulf (constant S_ .f32 0x3E000000#32 : FVec Ideal S_ .f32) L1))) bitsLt_bf16_f32) shapeCasts_S4x8192x512_S32768x512 : FVec Ideal S32768x512 .bf16) (ix2 n e)
      = (((x (ix3 b T e) : EReal).toReal * (1 / 8 * L2) : ℝ) : EReal) := by
  refine (flat _ _ n b T hn e).trans ?_
  show (x (ix3 b T e) : EReal) * (broadcastInDim S4x8192x512 ![] bcast_S_S4x8192x512 (mulf (constant S_ .f32 0x3E000000#32 : FVec Ideal S_ .f32) L1) (ix3 b T e)) = _
  rw [broadcastInDim_apply _ bcast_S_S4x8192x512 _ (ix3 b T e) (fun a => a.elim0) (fun a => a.elim0)]
  show (x (ix3 b T e) : EReal) * ((FloatOps.ofBits (F := Ideal) .f32 0x3E000000#32 : EReal) * L1 _) = _
  rw [eighth_f32, L1_at, EReal.coe_mul, EReal.coe_mul, EReal.coe_toReal (hx _).2 (hx _).1]

theorem in_k (x : FVec Ideal S4x8192x512 .f32) (hx : ∀ j, (x j : EReal) ≠ ⊥ ∧ (x j : EReal) ≠ ⊤) (e : Fin 512) :
    (shapeCast S32768x512 (truncf .bf16 x bitsLt_bf16_f32) shapeCasts_S4x8192x512_S32768x512 : FVec Ideal S32768x512 .bf16) (ix2 n e)
      = (((x (ix3 b T e) : EReal).toReal : ℝ) : EReal) :=
  (flat _ _ n b T hn e).trans (EReal.coe_toReal (hx _).2 (hx _).1).symm

theorem gate_at (x : FVec Ideal S4x8192x8 .f32) (hx : ∀ j, (x j : EReal) ≠ ⊥ ∧ (x j : EReal) ≠ ⊤) (H : Fin 8) :
    gate x (ix2 n H) = ((L2 * (x (ix3 b T H) : EReal).toReal : ℝ) : EReal) := by
  refine (flat _ _ n b T hn H).trans ?_
  show (x (ix3 b T H) : EReal) * (broadcastInDim S4x8192x8 ![] bcast_S_S4x8192x8 L1 (ix3 b T H)) = _
  rw [broadcastInDim_apply _ bcast_S_S4x8192x8 _ (ix3 b T H) (fun a => a.elim0) (fun a => a.elim0), L1_at, EReal.coe_mul, EReal.coe_toReal (hx _).2 (hx _).1, mul_comm]

theorem ghi_at (x : FVec Ideal S4x8192x8 .f32) (hx : ∀ j, (x j : EReal) ≠ ⊥ ∧ (x j : EReal) ≠ ⊤) (H : Fin 8) :
    ghi x (ix2 n H) = ((L2 * (x (ix3 b T H) : EReal).toReal : ℝ) : EReal) := gate_at n b T hn x hx H

theorem grest_at (x : FVec Ideal S4x8192x8 .f32) (hx : ∀ j, (x j : EReal) ≠ ⊥ ∧ (x j : EReal) ≠ ⊤) (H : Fin 8) : grest x (ix2 n H) = (0 : EReal) := by
  show (gate x (ix2 n H) : EReal) - (ghi x (ix2 n H) : EReal) = 0
  rw [gate_at n b T hn x hx H, ghi_at n b T hn x hx H, ← EReal.coe_sub, sub_self, EReal.coe_zero]

theorem gmid_at (x : FVec Ideal S4x8192x8 .f32) (hx : ∀ j, (x j : EReal) ≠ ⊥ ∧ (x j : EReal) ≠ ⊤) (H : Fin 8) : gmid x (ix2 n H) = (0 : EReal) :=
  grest_at n b T hn x hx H

theorem glo_at (x : FVec Ideal S4x8192x8 .f32) (hx : ∀ j, (x j : EReal) ≠ ⊥ ∧ (x j : EReal) ≠ ⊤) (H : Fin 8) : glo x (ix2 n H) = (0 : EReal) := by
  show (grest x (ix2 n H) : EReal) - (gmid x (ix2 n H) : EReal) = 0
  rw [grest_at n b T hn x hx H, gmid_at n b T hn x hx H, sub_zero]

end

theorem gone_at (n : Fin 32768) (H : Fin 8) : gone (ix2 n H) = (1 : EReal) := by
  unfold gone
  rw [broadcastInDim_apply _ bcast_S_S32768x8 _ (ix2 n H) (fun a => a.elim0) (fun a => a.elim0)]
  exact one_bf16

theorem gzero_at (n : Fin 32768) (H : Fin 8) : gzero (ix2 n H) = (0 : EReal) := by
  unfold gzero
  rw [broadcastInDim_apply _ bcast_S_S32768x8 _ (ix2 n H) (fun a => a.elim0) (fun a => a.elim0)]
  exact zero_bf16

theorem neg_at (y : FVec Ideal S32768x8 .bf16) (n : Fin 32768) (H : Fin 8) : Host.negf y (ix2 n H) = -(y (ix2 n H) : EReal) := rfl

theorem up_at (y : FVec Ideal S32768x8 .bf16) (n : Fin 32768) (H : Fin 8) : up y (ix3 n H 0) = y (ix2 n H) :=
  broadcastInDim_apply _ bcast_S32768x8_S32768x8x1_0_1 y _ _ (fun a => match a with
    | ⟨0, _⟩ => by show n.val = if (32768 : Nat) = 1 then 0 else n.val; rw [if_neg (by decide)]
    | ⟨1, _⟩ => by show H.val = if (8 : Nat) = 1 then 0 else H.val; rw [if_neg (by decide)])

theorem eight_at (y0 y1 y2 y3 y4 y5 y6 y7 : FVec Ideal S32768x8 .bf16) (n : Fin 32768) (H : Fin 8) (s : Fin 8) :
    eight y0 y1 y2 y3 y4 y5 y6 y7 (ix3 n H s) = (![y0, y1, y2, y3, y4, y5, y6, y7] s : FVec Ideal S32768x8 .bf16) (ix2 n H) := by
  have hi : ∀ (s : Fin 8) (b : Fin S32768x8x1.rank), b.cast (rfl : S32768x8x1.rank = S32768x8x8.rank) ≠ 2 →
      ((ix3 n H (0 : Fin 1) : S32768x8x1.Idx) b).val = ((ix3 n H s : S32768x8x8.Idx) (b.cast rfl)).val := fun s b => match b with
    | ⟨0, _⟩ => fun _ => rfl
    | ⟨1, _⟩ => fun _ => rfl
    | ⟨2, _⟩ => fun h => absurd rfl h
  unfold eight
  match s with
  | ⟨0, _⟩ => exact Eq.trans (concatenate_apply_piece (2 : Fin S32768x8x8.rank) _ _ _ 0 (by show 0 < 8; decide) S32768x8x1 (up y0) rfl rfl 0 rfl (ix3 n H 0) (hi _) rfl) (up_at y0 n H)
  | ⟨1, _⟩ => exact Eq.trans (concatenate_apply_piece (2 : Fin S32768x8x8.rank) _ _ _ 1 (by show 1 < 8; decide) S32768x8x1 (up y1) rfl rfl 1 rfl (ix3 n H 0) (hi _) rfl) (up_at y1 n H)
  | ⟨2, _⟩ => exact Eq.trans (concatenate_apply_piece (2 : Fin S32768x8x8.rank) _ _ _ 2 (by show 2 < 8; decide) S32768x8x1 (up y2) rfl rfl 2 rfl (ix3 n H 0) (hi _) rfl) (up_at y2 n H)
  | ⟨3, _⟩ => exact Eq.trans (concatenate_apply_piece (2 : Fin S32768x8x8.rank) _ _ _ 3 (by show 3 < 8; decide) S32768x8x1 (up y3) rfl rfl 3 rfl (ix3 n H 0) (hi _) rfl) (up_at y3 n H)
  | ⟨4, _⟩ => exact Eq.trans (concatenate_apply_piece (2 : Fin S32768x8x8.rank) _ _ _ 4 (by show 4 < 8; decide) S32768x8x1 (up y4) rfl rfl 4 rfl (ix3 n H 0) (hi _) rfl) (up_at y4 n H)
  | ⟨5, _⟩ => exact Eq.trans (concatenate_apply_piece (2 : Fin S32768x8x8.rank) _ _ _ 5 (by show 5 < 8; decide) S32768x8x1 (up y5) rfl rfl 5 rfl (ix3 n H 0) (hi _) rfl) (up_at y5 n H)
  | ⟨6, _⟩ => exact Eq.trans (concatenate_apply_piece (2 : Fin S32768x8x8.rank) _ _ _ 6 (by show 6 < 8; decide) S32768x8x1 (up y6) rfl rfl 6 rfl (ix3 n H 0) (hi _) rfl) (up_at y6 n H)
  | ⟨7, _⟩ => exact Eq.trans (concatenate_apply_piece (2 : Fin S32768x8x8.rank) _ _ _ 7 (by show 7 < 8; decide) S32768x8x1 (up y7) rfl rfl 7 rfl (ix3 n H 0) (hi _) rfl) (up_at y7 n H)

theorem lt_8 (j : Fin 128) (hj : j.val < 64) : j.val / 8 < 8 := by omega
theorem lt_m (j : Fin 128) : j.val % 8 < 8 := by omega

theorem padz_at (y : FVec Ideal S32768x8x8 .bf16) (n : Fin 32768) (j : Fin 128) (hj : j.val < 64) :
    padz y (ix2 n j) = y (ix3 n ⟨j.val / 8, lt_8 j hj⟩ ⟨j.val % 8, lt_m j⟩) := by
  unfold padz
  refine (pad_apply_of_inside _ _ _ _ _ _ _ (ix2 n j) (ix2 n ⟨j.val, hj⟩) (fun a => match a with
    | ⟨0, _⟩ => by show n.val = 0 + n.val * (0 + 1); omega
    | ⟨1, _⟩ => by show j.val = 0 + j.val * (0 + 1); omega)).trans ?_
  refine shapeCast_apply y _ _ _ ?_
  rw [Shape.rowMajor_val_two, Shape.rowMajor_val_three]
  show (n.val * 8 + j.val / 8) * 8 + j.val % 8 = n.val * 64 + j.val
  omega

section
variable (n : Fin 32768) (b : Fin 4) (T : Fin 8192) (hn : n.val = b.val * 8192 + T.val)
  (x : FVec Ideal S4x8192x8 .f32) (hx : ∀ j, (x j : EReal) ≠ ⊥ ∧ (x j : EReal) ≠ ⊤)
include hn hx

theorem in_fq (H s : Fin 8) : eight (ghi x) (gmid x) (glo x) gone gone gone gzero gzero (ix3 n H s) = slq (L2 * (x (ix3 b T H) : EReal).toReal) s.val := by
  rw [eight_at]
  match s with
  | ⟨0, _⟩ => exact ghi_at n b T hn x hx H
  | ⟨1, _⟩ => exact gmid_at n b T hn x hx H
  | ⟨2, _⟩ => exact glo_at n b T hn x hx H
  | ⟨3, _⟩ => exact gone_at n H
  | ⟨4, _⟩ => exact gone_at n H
  | ⟨5, _⟩ => exact gone_at n H
  | ⟨6, _⟩ => exact gzero_at n H
  | ⟨7, _⟩ => exact gzero_at n H

theorem in_fk (H s : Fin 8) : eight gone gone gone (Host.negf (ghi x)) (Host.negf (gmid x)) (Host.negf (glo x)) gzero gzero (ix3 n H s)
    = slk (L2 * (x (ix3 b T H) : EReal).toReal) s.val := by
  rw [eight_at]
  match s with
  | ⟨0, _⟩ => exact gone_at n H
  | ⟨1, _⟩ => exact gone_at n H
  | ⟨2, _⟩ => exact gone_at n H
  | ⟨3, _⟩ => exact congrArg (fun e : EReal => -e) (ghi_at n b T hn x hx H)
  | ⟨4, _⟩ => exact (congrArg (fun e : EReal => -e) (gmid_at n b T hn x hx H)).trans neg_zero
  | ⟨5, _⟩ => exact (congrArg (fun e : EReal => -e) (glo_at n b T hn x hx H)).trans neg_zero
  | ⟨6, _⟩ => exact gzero_at n H
  | ⟨7, _⟩ => exact gzero_at n H

end

section
variable (m : (ℓ : Loc nD τ sig) → Buf (Elt Ideal) ℓ) (c : Dev nD)
  (n : Fin 32768) (b : Fin 4) (T : Fin 8192) (hn : n.val = b.val * 8192 + T.val)

theorem v6_at (hn : n.val = b.val * 8192 + T.val) (hx : ∀ j, (a1 m c j : EReal) ≠ ⊥ ∧ (a1 m c j : EReal) ≠ ⊤) (e : Fin 512) :
    (V m c main_v6 : FVec Ideal S32768x512 .bf16) (ix2 n e) = (((a1 m c (ix3 b T e) : EReal).toReal * (1 / 8 * L2) : ℝ) : EReal) := by
  rw [V_v6]; exact in_q n b T hn _ hx e

theorem v8_at (hn : n.val = b.val * 8192 + T.val) (hx : ∀ j, (a2 m c j : EReal) ≠ ⊥ ∧ (a2 m c j : EReal) ≠ ⊤) (e : Fin 512) :
    (V m c main_v8 : FVec Ideal S32768x512 .bf16) (ix2 n e) = (((a2 m c (ix3 b T e) : EReal).toReal : ℝ) : EReal) := by
  rw [V_v8]; exact in_k n b T hn _ hx e

theorem v10_at (e : Fin 512) : (V m c main_v10 : FVec Ideal S4x512x8192 .bf16) (ix3 b e T) = (a3 m c (ix3 b T e) : EReal) := by
  rw [V_v10]
  exact transpose_apply [0, 2, 1] _ transposes_S4x8192x512_S4x512x8192_0_2_1 _ _ (fun b => match b with
    | ⟨0, _⟩ => rfl
    | ⟨1, _⟩ => rfl
    | ⟨2, _⟩ => rfl)

theorem v48_left (hn : n.val = b.val * 8192 + T.val) (hx : ∀ j, (a4 m c j : EReal) ≠ ⊥ ∧ (a4 m c j : EReal) ≠ ⊤) (e : Fin 256) (j : Fin 128) (he : e.val = j.val) (hj : j.val < 64) :
    (V m c main_v48 : FVec Ideal S32768x256 .bf16) (ix2 n e) = slq (L2 * (a4 m c (ix3 b T ⟨j.val / 8, lt_8 j hj⟩) : EReal).toReal) (j.val % 8) := by
  rw [V_v48]
  refine Eq.trans (concatenate_apply_piece (1 : Fin S32768x256.rank) _ _ (ix2 n e) 0 (by show 0 < 2; decide) S32768x128 _ rfl rfl 0 rfl (ix2 n j : S32768x128.Idx) (fun b => match b with
    | ⟨0, _⟩ => fun _ => rfl
    | ⟨1, _⟩ => fun h => absurd rfl h) ((Nat.zero_add _).trans he.symm)) ((padz_at _ n j hj).trans (in_fq n b T hn _ hx _ _))

theorem v48_right (hn : n.val = b.val * 8192 + T.val) (hx : ∀ j, (a4 m c j : EReal) ≠ ⊥ ∧ (a4 m c j : EReal) ≠ ⊤) (e : Fin 256) (j : Fin 128) (he : e.val = 128 + j.val) (hj : j.val < 64) :
    (V m c main_v48 : FVec Ideal S32768x256 .bf16) (ix2 n e) = slk (L2 * (a4 m c (ix3 b T ⟨j.val / 8, lt_8 j hj⟩) : EReal).toReal) (j.val % 8) := by
  rw [V_v48]
  refine Eq.trans (concatenate_apply_piece (1 : Fin S32768x256.rank) _ _ (ix2 n e) 1 (by show 1 < 2; decide) S32768x128 _ rfl rfl 128 rfl (ix2 n j : S32768x128.Idx) (fun b => match b with
    | ⟨0, _⟩ => fun _ => rfl
    | ⟨1, _⟩ => fun h => absurd rfl h) he.symm) ((padz_at _ n j hj).trans (in_fk n b T hn _ hx _ _))

end

end Cert.KernelIdeal.Gen
-- ==== Proof.FoxGeom.lean ====
/- Where the call's blocks lie in their arrays. -/
module

public import proofs.«01_k».proof.Proof.FoxIn
public import Idealize.ShloMosaic.Lib.Pipeline.ValueKit.Geometry

@[expose] public section

noncomputable section

set_option maxHeartbeats 4000000

namespace Cert.KernelIdeal.Gen

open Idealize.ShloMosaic Idealize.ShloMosaic.TcCoe Idealize.SL.Sem Idealize.ShloMosaic.ValueIdx Cert.Fox
open Idealize.ShloMosaic.Pipeline (Dat)

theorem tr0 : ∀ i : grid0.Coords, cc0_transform_0 i = ![(i 0).val * 16 + (i 2).val, (i 1).val] := by decide +kernel
theorem tr1 : ∀ i : grid0.Coords, cc0_transform_1 i = ![(i 0).val * 16 + (i 2).val, 0] := by decide +kernel
theorem tr2 : ∀ i : grid0.Coords, cc0_transform_2 i = ![(i 0).val, (i 1).val] := by decide +kernel
theorem tr3 : ∀ i : grid0.Coords, cc0_transform_3 i = ![(i 0).val, 1] := by decide +kernel
theorem tr4 : ∀ i : grid0.Coords, cc0_transform_4 i = ![(i 0).val, (i 1).val, 0] := by decide +kernel
theorem tr5 : ∀ i : grid0.Coords, cc0_transform_5 i = ![(i 0).val * 16 + (i 2).val, (i 1).val] := by decide +kernel

variable (m : (ℓ : Loc nD τ sig) → Buf (Elt Ideal) ℓ) (c : Dev nD) (t : Fin (cfgM m).N)

/-- The grid point. -/
abbrev pt : grid0.Coords := grid0.coords t

theorem blk0_at (y : S512x256.Idx) : ∃ z : S32768x512.Idx, (iblk m c 0 t : S512x256.Idx → EReal) y = (V m c main_v6 : FVec Ideal S32768x512 .bf16) z
    ∧ (z 0).val = ((pt m t 0).val * 16 + (pt m t 2).val) * 512 + (y 0).val ∧ (z 1).val = (pt m t 1).val * 256 + (y 1).val := by
  refine ⟨(((cfgM m).win 0).blk t).view.emb y, rfl, ?_, ?_⟩
  · exact (Pipeline.Window.rect_emb_val ((cfgM m).win 0) t y (0 : Fin 2) rfl).trans (congrArg (fun e => e * 512 + (y 0).val) (congrFun (tr0 (pt m t)) 0))
  · exact (Pipeline.Window.rect_emb_val ((cfgM m).win 0) t y (1 : Fin 2) rfl).trans (congrArg (fun e => e * 256 + (y 1).val) (congrFun (tr0 (pt m t)) 1))

theorem blk1_at (y : S512x128.Idx) : ∃ z : S32768x256.Idx, (iblk m c 1 t : S512x128.Idx → EReal) y = (V m c main_v48 : FVec Ideal S32768x256 .bf16) z
    ∧ (z 0).val = ((pt m t 0).val * 16 + (pt m t 2).val) * 512 + (y 0).val ∧ (z 1).val = (y 1).val := by
  refine ⟨(((cfgM m).win 1).blk t).view.emb y, rfl, ?_, ?_⟩
  · exact (Pipeline.Window.rect_emb_val ((cfgM m).win 1) t y (0 : Fin 2) rfl).trans (congrArg (fun e => e * 512 + (y 0).val) (congrFun (tr1 (pt m t)) 0))
  · exact ((Pipeline.Window.rect_emb_val ((cfgM m).win 1) t y (1 : Fin 2) rfl).trans (congrArg (fun e => e * 128 + (y 1).val) (congrFun (tr1 (pt m t)) 1))).trans
      (by show 0 * 128 + (y 1).val = (y 1).val; omega)

theorem blk2_at (y : S8192x256.Idx) : ∃ z : S32768x512.Idx, (iblk m c 2 t : S8192x256.Idx → EReal) y = (V m c main_v8 : FVec Ideal S32768x512 .bf16) z
    ∧ (z 0).val = (pt m t 0).val * 8192 + (y 0).val ∧ (z 1).val = (pt m t 1).val * 256 + (y 1).val := by
  refine ⟨(((cfgM m).win 2).blk t).view.emb y, rfl, ?_, ?_⟩
  · exact (Pipeline.Window.rect_emb_val ((cfgM m).win 2) t y (0 : Fin 2) rfl).trans (congrArg (fun e => e * 8192 + (y 0).val) (congrFun (tr2 (pt m t)) 0))
  · exact (Pipeline.Window.rect_emb_val ((cfgM m).win 2) t y (1 : Fin 2) rfl).trans (congrArg (fun e => e * 256 + (y 1).val) (congrFun (tr2 (pt m t)) 1))

theorem blk3_at (y : S8192x128.Idx) : ∃ z : S32768x256.Idx, (iblk m c 3 t : S8192x128.Idx → EReal) y = (V m c main_v48 : FVec Ideal S32768x256 .bf16) z
    ∧ (z 0).val = (pt m t 0).val * 8192 + (y 0).val ∧ (z 1).val = 128 + (y 1).val := by
  refine ⟨(((cfgM m).win 3).blk t).view.emb y, rfl, ?_, ?_⟩
  · exact (Pipeline.Window.rect_emb_val ((cfgM m).win 3) t y (0 : Fin 2) rfl).trans (congrArg (fun e => e * 8192 + (y 0).val) (congrFun (tr3 (pt m t)) 0))
  · exact ((Pipeline.Window.rect_emb_val ((cfgM m).win 3) t y (1 : Fin 2) rfl).trans (congrArg (fun e => e * 128 + (y 1).val) (congrFun (tr3 (pt m t)) 1))).trans
      (by show 1 * 128 + (y 1).val = 128 + (y 1).val; omega)

theorem blk4_at (y : S1x256x8192.Idx) : ∃ z : S4x512x8192.Idx, (iblk m c 4 t : S1x256x8192.Idx → EReal) y = (V m c main_v10 : FVec Ideal S4x512x8192 .bf16) z
    ∧ (z 0).val = (pt m t 0).val ∧ (z 1).val = (pt m t 1).val * 256 + (y 1).val ∧ (z 2).val = (y 2).val := by
  refine ⟨(((cfgM m).win 4).blk t).view.emb y, rfl, ?_, ?_, ?_⟩
  · exact ((Pipeline.Window.rect_emb_val ((cfgM m).win 4) t y (0 : Fin 3) rfl).trans (congrArg (fun e => e * 1 + (y 0).val) (congrFun (tr4 (pt m t)) 0))).trans
      (by have h : (y 0).val < 1 := (y 0).isLt
          show (pt m t 0).val * 1 + (y 0).val = (pt m t 0).val; omega)
  · exact (Pipeline.Window.rect_emb_val ((cfgM m).win 4) t y (1 : Fin 3) rfl).trans (congrArg (fun e => e * 256 + (y 1).val) (congrFun (tr4 (pt m t)) 1))
  · exact ((Pipeline.Window.rect_emb_val ((cfgM m).win 4) t y (2 : Fin 3) rfl).trans (congrArg (fun e => e * 8192 + (y 2).val) (congrFun (tr4 (pt m t)) 2))).trans
      (by show 0 * 8192 + (y 2).val = (y 2).val; omega)

/-- Where the output block's entry lies. -/
abbrev oemb (y : S512x256.Idx) : S32768x512.Idx := (((cfgM m).win 5).blk t).view.emb y

theorem oemb_0 (y : S512x256.Idx) : (oemb m t y 0).val = ((pt m t 0).val * 16 + (pt m t 2).val) * 512 + (y 0).val :=
  (Pipeline.Window.rect_emb_val ((cfgM m).win 5) t y (0 : Fin 2) rfl).trans (congrArg (fun e => e * 512 + (y 0).val) (congrFun (tr5 (pt m t)) 0))

theorem oemb_1 (y : S512x256.Idx) : (oemb m t y 1).val = (pt m t 1).val * 256 + (y 1).val :=
  (Pipeline.Window.rect_emb_val ((cfgM m).win 5) t y (1 : Fin 2) rfl).trans (congrArg (fun e => e * 256 + (y 1).val) (congrFun (tr5 (pt m t)) 1))

/-- Every point writes its block back. -/
theorem flush_all : ∀ t : Fin grid0.N, (decide (t.val + 1 = grid0.N) || decide (∃ h : t.val + 1 < grid0.N, cc0_transform_5 (grid0.coords ⟨t.val + 1, h⟩) ≠ cc0_transform_5 (grid0.coords t))) = true := by
  decide +kernel

theorem flush_at : ((cfgM m).win 5).flush t = true := flush_all t

theorem onto : ∀ (r : Fin 64) (g : Fin 2), ∃ t : Fin grid0.N, (grid0.coords t 0).val * 16 + (grid0.coords t 2).val = r.val ∧ (grid0.coords t 1).val = g.val := by
  decide +kernel

theorem cover (i : S32768x512.Idx) : ∃ t : Fin (cfgM m).N, ((cfgM m).win 5).flush t = true ∧ (i : (((cfgM m).win 5).arr.view.loc (c.tc : Thread nD τ)).2.ty.Idx) ∈ (((cfgM m).win 5).blk t).view.set := by
  have h0 : (i 0).val < 32768 := (i 0).isLt
  have h1 : (i 1).val < 512 := (i 1).isLt
  obtain ⟨t, e0, e1⟩ := onto ⟨(i 0).val / 512, by omega⟩ ⟨(i 1).val / 256, by omega⟩
  refine ⟨t, flush_at m t, ?_⟩
  have e : oemb m t (ix2 ⟨(i 0).val % 512, by omega⟩ ⟨(i 1).val % 256, by omega⟩) = i := by
    funext a
    match a with
    | ⟨0, _⟩ => exact Fin.ext ((oemb_0 m t _).trans (by
        show ((grid0.coords t 0).val * 16 + (grid0.coords t 2).val) * 512 + (i 0).val % 512 = (i 0).val
        rw [e0]; show (i 0).val / 512 * 512 + (i 0).val % 512 = (i 0).val; omega))
    | ⟨1, _⟩ => exact Fin.ext ((oemb_1 m t _).trans (by
        show (grid0.coords t 1).val * 256 + (i 1).val % 256 = (i 1).val
        rw [e1]; show (i 1).val / 256 * 256 + (i 1).val % 256 = (i 1).val; omega))
  rw [← e]
  exact View.emb_mem_set _ _

end Cert.KernelIdeal.Gen
-- ==== Proof.FoxRef.lean ====
/- The reference's attention entry by entry: a softmax-weighted sum over the visible keys. -/
module

public import proofs.«01_k».proof.Proof.FoxBlock
public import proofs.«01_k».proof.Proof.Gen.ReferenceIdeal.Read
public import Idealize.ShloMosaic.Lib.KernelVsHost
public import Idealize.ShloMosaic.Lib.WordCmp

@[expose] public section

noncomputable section

namespace Cert.Fox

open Idealize.ShloMosaic Idealize.ShloMosaic.ValueIdx
open scoped BigOperators

/-- An entry of a token's features as a real. -/
def rd (x : (⟨3, ![4, 8192, 512]⟩ : Shape).Idx → EReal) (b : Fin 4) (T e : ℕ) : ℝ :=
  if h : T < 8192 ∧ e < 512 then (x (ix3 b ⟨T, h.1⟩ ⟨e, h.2⟩)).toReal else 0

/-- The gate of a token and head as a real. -/
def rf (x : (⟨3, ![4, 8192, 8]⟩ : Shape).Idx → EReal) (b : Fin 4) (T e : ℕ) : ℝ :=
  if h : T < 8192 ∧ e < 8 then (x (ix3 b ⟨T, h.1⟩ ⟨e, h.2⟩)).toReal else 0

/-- An entry of a token's values. -/
def vv (x : (⟨3, ![4, 8192, 512]⟩ : Shape).Idx → EReal) (b : Fin 4) (T e : ℕ) : EReal :=
  if h : T < 8192 ∧ e < 512 then x (ix3 b ⟨T, h.1⟩ ⟨e, h.2⟩) else 0

theorem rd_of (x : (⟨3, ![4, 8192, 512]⟩ : Shape).Idx → EReal) (b : Fin 4) (T e : ℕ) (hT : T < 8192) (he : e < 512) : rd x b T e = (x (ix3 b ⟨T, hT⟩ ⟨e, he⟩)).toReal :=
  dif_pos ⟨hT, he⟩

theorem rf_of (x : (⟨3, ![4, 8192, 8]⟩ : Shape).Idx → EReal) (b : Fin 4) (T e : ℕ) (hT : T < 8192) (he : e < 8) : rf x b T e = (x (ix3 b ⟨T, hT⟩ ⟨e, he⟩)).toReal :=
  dif_pos ⟨hT, he⟩

theorem vv_of (x : (⟨3, ![4, 8192, 512]⟩ : Shape).Idx → EReal) (b : Fin 4) (T e : ℕ) (hT : T < 8192) (he : e < 512) : vv x b T e = x (ix3 b ⟨T, hT⟩ ⟨e, he⟩) :=
  dif_pos ⟨hT, he⟩

/-- The score of a query and a key. -/
def rsc (q k : (⟨3, ![4, 8192, 512]⟩ : Shape).Idx → EReal) (f : (⟨3, ![4, 8192, 8]⟩ : Shape).Idx → EReal) (b : Fin 4) (H T κ : ℕ) : ℝ :=
  (∑ d : Fin 64, rd q b T (64 * H + d.val) * (1 / 8) * rd k b κ (64 * H + d.val)) + rf f b T H - rf f b κ H

theorem lt_tab (b : Fin 4) (H : Fin 8) (T : Fin 8192) : (b.val * 2 + H.val / 4) * 16 + T.val / 512 < 128 := by
  have := b.isLt; have := H.isLt; have := T.isLt; omega

/-- The first visible key tile of a query, from the table. -/
def lo (x0 : (⟨1, ![128]⟩ : Shape).Idx → BitVec 32) (b : Fin 4) (H : Fin 8) (T : Fin 8192) : ℕ :=
  (x0 (ix1 ⟨(b.val * 2 + H.val / 4) * 16 + T.val / 512, lt_tab b H T⟩)).toNat

end Cert.Fox

namespace Cert.ReferenceIdeal.Read

open Cert.ReferenceIdeal Cert.ReferenceIdeal.Gen Idealize.ShloMosaic Idealize.ShloMosaic.ValueIdx Cert.Fox
open Idealize.ShloMosaic.WordCmp
open Cert.KernelIdeal.Gen (wsum vis)
open scoped BigOperators

theorem lt_hd (H : Fin 8) (d : Fin 64) : 64 * H.val + d.val < 512 := by
  have := H.isLt; have := d.isLt; omega

theorem fb (j : S4x8x8192x64.Idx) : (j 0).val < 4 ∧ (j 1).val < 8 ∧ (j 2).val < 8192 ∧ (j 3).val < 64 := ⟨(j 0).isLt, (j 1).isLt, (j 2).isLt, (j 3).isLt⟩

theorem headidx (j : S4x8x8192x64.Idx) : idx_main_v0 (idx_main_v1 j) = ix3 (j 0) (j 2) ⟨64 * (j 1).val + (j 3).val, lt_hd (j 1) (j 3)⟩ := by
  obtain ⟨h0, h1, h2, h3⟩ := fb j
  funext a
  match a with
  | ⟨0, _⟩ => exact Fin.ext (by show ((((j 0).val * 8192 + (j 2).val) * 8 + (j 1).val) * 64 + (j 3).val) / 4194304 = (j 0).val; omega)
  | ⟨1, _⟩ => exact Fin.ext (by show ((((j 0).val * 8192 + (j 2).val) * 8 + (j 1).val) * 64 + (j 3).val) / 512 % 8192 = (j 2).val; omega)
  | ⟨2, _⟩ => exact Fin.ext (by show ((((j 0).val * 8192 + (j 2).val) * 8 + (j 1).val) * 64 + (j 3).val) % 512 = 64 * (j 1).val + (j 3).val; omega)

theorem eighth : (FloatOps.ofBits (F := Ideal) .f32 0x3E000000#32 : EReal) = ((1 / 8 : ℝ) : EReal) := by
  simp [FloatOps.ofBits, Ideal.ofBits, Ideal.ieee]
  rw [← EReal.coe_mul]
  norm_num

theorem bot : (FloatOps.ofBits (F := Ideal) .f32 0xFF800000#32 : EReal) = ⊥ := by
  simp [FloatOps.ofBits, Ideal.ofBits, Ideal.ieee]

theorem zro : (FloatOps.ofBits (F := Ideal) .f32 0x00000000#32 : EReal) = 0 := by
  simp [FloatOps.ofBits, Ideal.ofBits, Ideal.ieee]

theorem v3_at (x : FVec Ideal S4x8192x512 .f32) (hx : ∀ j, (x j : EReal) ≠ ⊥ ∧ (x j : EReal) ≠ ⊤) (j : S4x8x8192x64.Idx) :
    val_main_v3 (F := Ideal) x j = ((rd x (j 0) (j 2).val (64 * (j 1).val + (j 3).val) * (1 / 8) : ℝ) : EReal) := by
  rw [val_main_v3_apply, val_main_v1_apply, val_main_v0_apply, val_main_v2_apply, val_main_cst_apply, headidx]
  refine Eq.trans (congrArg (fun e : EReal => (x _ : EReal) * e) eighth) ?_
  refine Eq.trans ?_ (congrArg (fun r : ℝ => ((r * (1 / 8) : ℝ) : EReal)) (rd_of x (j 0) _ _ (fb j).2.2.1 (lt_hd (j 1) (j 3))).symm)
  rw [EReal.coe_mul, EReal.coe_toReal (hx _).2 (hx _).1]
  rfl

theorem v5_at (x : FVec Ideal S4x8192x512 .f32) (hx : ∀ j, (x j : EReal) ≠ ⊥ ∧ (x j : EReal) ≠ ⊤) (j : S4x8x8192x64.Idx) :
    val_main_v5 (F := Ideal) x j = ((rd x (j 0) (j 2).val (64 * (j 1).val + (j 3).val) : ℝ) : EReal) := by
  rw [val_main_v5_apply, val_main_v4_apply]
  refine (congrArg x (headidx j)).trans ?_
  exact Eq.trans (EReal.coe_toReal (hx _).2 (hx _).1).symm (congrArg (fun r : ℝ => (r : EReal)) (rd_of x (j 0) _ _ (fb j).2.2.1 (lt_hd (j 1) (j 3))).symm)

theorem v7_at (x : FVec Ideal S4x8192x512 .f32) (j : S4x8x8192x64.Idx) :
    val_main_v7 (F := Ideal) x j = vv x (j 0) (j 2).val (64 * (j 1).val + (j 3).val) := by
  rw [val_main_v7_apply, val_main_v6_apply]
  refine (congrArg x (headidx j)).trans ?_
  exact (vv_of x (j 0) _ _ (fb j).2.2.1 (lt_hd (j 1) (j 3))).symm

theorem v8_at (x : FVec Ideal S4x8192x8 .f32) (hx : ∀ j, (x j : EReal) ≠ ⊥ ∧ (x j : EReal) ≠ ⊤) (j : S4x8x8192.Idx) :
    val_main_v8 (F := Ideal) x j = ((rf x (j 0) (j 2).val (j 1).val : ℝ) : EReal) := by
  rw [val_main_v8_apply]
  refine Eq.trans (congrArg x (?_ : idx_main_v8 j = ix3 (j 0) (j 2) (j 1))) (Eq.trans (EReal.coe_toReal (hx _).2 (hx _).1).symm
    (congrArg (fun r : ℝ => (r : EReal)) (rf_of x (j 0) _ _ (j 2).isLt (j 1).isLt).symm))
  funext a
  match a with
  | ⟨0, _⟩ => rfl
  | ⟨1, _⟩ => rfl
  | ⟨2, _⟩ => rfl

section
variable (x0 : IVec S128 32) (x1 x2 x3 : FVec Ideal S4x8192x512 .f32) (x4 : FVec Ideal S4x8192x8 .f32)
  (h1 : ∀ j, (x1 j : EReal) ≠ ⊥ ∧ (x1 j : EReal) ≠ ⊤) (h2 : ∀ j, (x2 j : EReal) ≠ ⊥ ∧ (x2 j : EReal) ≠ ⊤) (h4 : ∀ j, (x4 j : EReal) ≠ ⊥ ∧ (x4 j : EReal) ≠ ⊤)
include h1 h2 h4

theorem v15_at (i : S4x8x8192x8192.Idx) : val_main_v15 (F := Ideal) x1 x2 x4 i = ((rsc x1 x2 x4 (i 0) (i 1).val (i 2).val (i 3).val : ℝ) : EReal) := by
  rw [val_main_v15_apply, val_main_v12_apply, val_main_v9_apply, val_main_v11_apply, val_main_v10_apply, val_main_v14_apply, val_main_v13_apply, v8_at x4 h4, v8_at x4 h4]
  rw [Finset.sum_congr rfl fun k _ => congrArg₂ (· * ·) (v3_at x1 h1 (lidx_main_v9 i k)) (v5_at x2 h2 (ridx_main_v9 i k))]
  unfold rsc
  rw [EReal.coe_sub, EReal.coe_add, coe_sum]
  refine congrArg₂ (fun a b : EReal => a - b) (congrArg₂ (fun a b : EReal => a + b) (Finset.sum_congr rfl fun k _ => ?_) rfl) rfl
  rw [EReal.coe_mul]
  rfl

end

section
variable (x0 : IVec S128 32) (hw : ∀ n : Fin 128, (x0 (ix1 n)).toNat ≤ n.val % 16)

theorem gb (i : S4x8x8192.Idx) : (i 0).val < 4 ∧ (i 1).val < 8 ∧ (i 2).val < 8192 := ⟨(i 0).isLt, (i 1).isLt, (i 2).isLt⟩

theorem v21_at (i : S4x8x8192.Idx) : val_main_v21 (F := Ideal) x0 i = x0 (ix1 ⟨((i 0).val * 2 + (i 1).val / 4) * 16 + (i 2).val / 512, lt_tab (i 0) (i 1) (i 2)⟩) := by
  obtain ⟨h0, h1, h2⟩ := gb i
  rw [val_main_v21_apply, val_main_v20_apply, val_main_v19_apply, val_main_v18_apply, val_main_v17_apply]
  refine congrArg x0 (funext fun a => ?_)
  match a with
  | ⟨0, _⟩ =>
    refine Fin.ext ?_
    generalize hA : (((i 0).val * 8 + (i 1).val) * 8192 + (i 2).val) / 65536 = A
    generalize hB : (((i 0).val * 8 + (i 1).val) * 8192 + (i 2).val) / 8192 % 8 = B
    generalize hC : (((i 0).val * 8 + (i 1).val) * 8192 + (i 2).val) / 512 % 16 = C
    have eA : A = (i 0).val := by omega
    have eB : B = (i 1).val := by omega
    have eC : C = (i 2).val / 512 := by omega
    show (((((((i 0).val * 8 + (i 1).val) * 8192 + (i 2).val) / 65536) * 8 + (((i 0).val * 8 + (i 1).val) * 8192 + (i 2).val) / 8192 % 8) * 16 + (((i 0).val * 8 + (i 1).val) * 8192 + (i 2).val) / 512 % 16) / 128 * 2
      + ((((((i 0).val * 8 + (i 1).val) * 8192 + (i 2).val) / 65536) * 8 + (((i 0).val * 8 + (i 1).val) * 8192 + (i 2).val) / 8192 % 8) * 16 + (((i 0).val * 8 + (i 1).val) * 8192 + (i 2).val) / 512 % 16) / 64 % 2) * 16
      + ((((((i 0).val * 8 + (i 1).val) * 8192 + (i 2).val) / 65536) * 8 + (((i 0).val * 8 + (i 1).val) * 8192 + (i 2).val) / 8192 % 8) * 16 + (((i 0).val * 8 + (i 1).val) * 8192 + (i 2).val) / 512 % 16) % 16
      = ((i 0).val * 2 + (i 1).val / 4) * 16 + (i 2).val / 512
    rw [hA, hB, hC, eA, eB, eC]
    omega

include hw

theorem lo_le (b : Fin 4) (H : Fin 8) (T : Fin 8192) : lo x0 b H T ≤ T.val / 512 := by
  have h : (x0 (ix1 ⟨(b.val * 2 + H.val / 4) * 16 + T.val / 512, lt_tab b H T⟩)).toNat ≤ ((b.val * 2 + H.val / 4) * 16 + T.val / 512) % 16 :=
    hw ⟨(b.val * 2 + H.val / 4) * 16 + T.val / 512, lt_tab b H T⟩
  have := T.isLt
  unfold lo
  omega

theorem v23_at (i : S4x8x8192.Idx) : val_main_v23 (F := Ideal) x0 i = BitVec.ofNat 32 (lo x0 (i 0) (i 1) (i 2) * 512) := by
  rw [val_main_v23_apply, v21_at, val_main_v22_apply, val_main_c_apply]
  apply BitVec.eq_of_toNat_eq
  have h := lo_le x0 hw (i 0) (i 1) (i 2)
  have := (gb i).2.2
  show (_ * 512#32 : BitVec 32).toNat = _
  rw [BitVec.toNat_mul, BitVec.toNat_ofNat]
  rfl

theorem v36_at (i : S4x8x8192x8192.Idx) :
    val_main_v36 (F := Ideal) x0 i = BitVec.ofBool (decide (vis (lo x0 (i 0) (i 1) (i 2)) (i 2).val (i 3).val)) := by
  have h := lo_le x0 hw (i 0) (i 1) (i 2)
  have a2 : (i 2).val < 8192 := (i 2).isLt
  have a3 : (i 3).val < 8192 := (i 3).isLt
  rw [val_main_v36_apply, val_main_v35_apply, val_main_v34_apply, val_main_v28_apply, val_main_v26_apply, val_main_v24_apply, val_main_v16_apply,
    val_main_v27_apply, val_main_v25_apply, val_main_v16_apply, val_main_v33_apply, val_main_v31_apply, val_main_v30_apply, val_main_v16_apply,
    val_main_v32_apply, val_main_v29_apply, v23_at x0 hw]
  show IntOp.andi (IntOp.cmpi .sle (BitVec.ofNat 32 (i 3).val) (BitVec.ofNat 32 (i 2).val)) (IntOp.cmpi .sge (BitVec.ofNat 32 (i 3).val) (BitVec.ofNat 32 (lo x0 (i 0) (i 1) (i 2) * 512))) = _
  have h' : lo x0 (i 0) (i 1) (i 2) ≤ (i 2).val / 512 := h
  rw [cmpi_sle_ofNat (by omega) (by omega), cmpi_sge_ofNat (by omega) (by omega), andi_ofBool, ← Bool.decide_and]
  refine congrArg BitVec.ofBool (decide_eq_decide.2 ?_)
  unfold vis
  exact and_comm

end

section
variable (x0 : IVec S128 32) (x1 x2 x3 : FVec Ideal S4x8192x512 .f32) (x4 : FVec Ideal S4x8192x8 .f32)
  (hw : ∀ n : Fin 128, (x0 (ix1 n)).toNat ≤ n.val % 16)
  (h1 : ∀ j, (x1 j : EReal) ≠ ⊥ ∧ (x1 j : EReal) ≠ ⊤) (h2 : ∀ j, (x2 j : EReal) ≠ ⊥ ∧ (x2 j : EReal) ≠ ⊤) (h4 : ∀ j, (x4 j : EReal) ≠ ⊥ ∧ (x4 j : EReal) ≠ ⊤)
include hw h1 h2 h4

theorem v37_at (i : S4x8x8192x8192.Idx) : val_main_v37 (F := Ideal) x0 x1 x2 x4 i
    = if vis (lo x0 (i 0) (i 1) (i 2)) (i 2).val (i 3).val then ((rsc x1 x2 x4 (i 0) (i 1).val (i 2).val (i 3).val : ℝ) : EReal) else ⊥ := by
  rw [val_main_v37_apply, v36_at x0 hw, v15_at x1 x2 x4 h1 h2 h4, val_main_call0_v1_apply, val_main_call0_v0_apply, val_main_cst_0_apply]
  by_cases h : vis (lo x0 (i 0) (i 1) (i 2)) (i 2).val (i 3).val
  · rw [if_pos h, decide_eq_true h]; rfl
  · rw [if_neg h, decide_eq_false h]; exact bot

/-- The largest visible score is a real. -/
theorem v40_at (i : S4x8x8192.Idx) : ∃ M : ℝ, val_main_v40 (F := Ideal) x0 x1 x2 x4 i = (M : EReal) := by
  rw [val_main_v40_apply, val_main_v39_apply, val_main_cst_2_apply]
  have e : val_main_v38 (F := Ideal) x0 x1 x2 x4 i = (Finset.univ : Finset (Fin 8192)).fold max ⊥ fun κ => val_main_v37 (F := Ideal) x0 x1 x2 x4 (idx_main_v45 i κ) := by
    unfold val_main_v38 val_main_cst_1
    generalize (val_main_v37 (F := Ideal) x0 x1 x2 x4 : FVec Ideal S4x8x8192x8192 .f32) = y
    have hr : S4x8x8192x8192.Reduces [3] S4x8x8192 := by decide
    refine (congrFun (hostReduce_maximumf_eq_multiReduction (F := Ideal) (φ := .f32) y 0xFF800000#32 reducesTo_S4x8x8192x8192_S4x8x8192_d3 h_S_ hr (.inl rfl) rfl) i).trans ?_
    refine (Ideal.multiReduction_maximumf_single y _ hr (.inl rfl) rfl i).trans ?_
    refine (congrArg (fun b => Finset.fold max b _ _) bot).trans (congrArg (fun g => Finset.fold max ⊥ g _) (funext fun κ => ?_))
    exact congrArg y (funext fun b => match b with | ⟨0, _⟩ => rfl | ⟨1, _⟩ => rfl | ⟨2, _⟩ => rfl | ⟨3, _⟩ => rfl)
  have g : ∃ M : ℝ, val_main_v38 (F := Ideal) x0 x1 x2 x4 i = (M : EReal) := by
    rw [e]
    refine fold_max_real _ _ (fun κ _ => ?_) ⟨(i 2), Finset.mem_univ _, ?_⟩
    · rw [v37_at x0 x1 x2 x4 hw h1 h2 h4]
      split
      · exact EReal.coe_ne_top _
      · exact bot_ne_top
    · rw [v37_at x0 x1 x2 x4 hw h1 h2 h4, if_pos]
      · exact EReal.coe_ne_bot _
      · have h := lo_le x0 hw (i 0) (i 1) (i 2)
        have h' : lo x0 (i 0) (i 1) (i 2) ≤ (i 2).val / 512 := h
        show lo x0 (i 0) (i 1) (i 2) * 512 ≤ (i 2).val ∧ (i 2).val ≤ (i 2).val
        omega
  obtain ⟨M, hM⟩ := g
  refine ⟨M, ?_⟩
  rw [hM, bot]
  exact max_eq_right bot_le

theorem v44_at (i : S4x8x8192x8192.Idx) (M : ℝ) (hM : val_main_v40 (F := Ideal) x0 x1 x2 x4 (idx_main_v41 (idx_main_v42 i)) = (M : EReal)) :
    val_main_v44 (F := Ideal) x0 x1 x2 x4 i
    = if vis (lo x0 (i 0) (i 1) (i 2)) (i 2).val (i 3).val then ((Real.exp (rsc x1 x2 x4 (i 0) (i 1).val (i 2).val (i 3).val - M) : ℝ) : EReal) else 0 := by
  rw [val_main_v44_apply, val_main_v43_apply, val_main_v42_apply, val_main_v41_apply, hM, v37_at x0 x1 x2 x4 hw h1 h2 h4]
  split
  · exact exp_sub _ _
  · exact exp_bot_sub M

/-- The attention's result at a batch entry, head, query and value column. -/
theorem v49_at (j : S4x8x8192x64.Idx) : ∃ M : ℝ, val_main_v49 (F := Ideal) x0 x1 x2 x3 x4 j
    = wsum (rsc x1 x2 x4 (j 0) (j 1).val (j 2).val) M (fun κ => vv x3 (j 0) κ (64 * (j 1).val + (j 3).val)) (lo x0 (j 0) (j 1) (j 2)) (j 2).val := by
  obtain ⟨M, hM⟩ := v40_at x0 x1 x2 x4 hw h1 h2 h4 (ix3 (j 0) (j 1) (j 2))
  refine ⟨M, ?_⟩
  rw [val_main_v49_apply]
  unfold wsum
  refine Finset.sum_congr rfl fun κ _ => congrArg₂ (fun a b : EReal => a * b) ?_ ?_
  · have hM' : ∀ i : S4x8x8192.Idx, i 0 = j 0 → i 1 = j 1 → i 2 = j 2 → val_main_v40 (F := Ideal) x0 x1 x2 x4 i = (M : EReal) := fun i e0 e1 e2 =>
      (congrArg (val_main_v40 (F := Ideal) x0 x1 x2 x4) (funext fun a => match a with
        | ⟨0, _⟩ => e0
        | ⟨1, _⟩ => e1
        | ⟨2, _⟩ => e2)).trans hM
    rw [val_main_v48_apply, val_main_v47_apply, val_main_v46_apply, val_main_v45_apply, v44_at x0 x1 x2 x4 hw h1 h2 h4 _ M (hM' _ rfl rfl rfl)]
    rw [Finset.sum_congr rfl fun κ' _ => v44_at x0 x1 x2 x4 hw h1 h2 h4 _ M (hM' _ rfl rfl rfl), val_main_cst_3_apply, zro, zero_add]
    rfl
  · exact v7_at x3 _

theorem v52_at (n : Fin 32768) (e : Fin 512) (b : Fin 4) (H : Fin 8) (T : Fin 8192) (c : Fin 64) (hn : n.val = b.val * 8192 + T.val) (he : e.val = 64 * H.val + c.val) :
    ∃ M : ℝ, val_main_v52 (F := Ideal) x0 x1 x2 x3 x4 (ix2 n e)
      = wsum (rsc x1 x2 x4 b H.val T.val) M (fun κ => vv x3 b κ (64 * H.val + c.val)) (lo x0 b H T) T.val := by
  obtain ⟨M, hM⟩ := v49_at x0 x1 x2 x3 x4 hw h1 h2 h4 (ix4 b H T c)
  refine ⟨M, ?_⟩
  rw [val_main_v52_apply]
  show val_main_v51 (F := Ideal) x0 x1 x2 x3 x4 (ix2 n e) = _
  rw [val_main_v51_apply, val_main_v50_apply]
  refine Eq.trans (congrArg (val_main_v49 (F := Ideal) x0 x1 x2 x3 x4) (?_ : _ = ix4 b H T c)) hM
  have := b.isLt; have := H.isLt; have := T.isLt; have := c.isLt
  funext a
  match a with
  | ⟨0, _⟩ => exact Fin.ext (by show (n.val * 512 + e.val) / 4194304 = b.val; omega)
  | ⟨1, _⟩ => exact Fin.ext (by show (n.val * 512 + e.val) / 64 % 8 = H.val; omega)
  | ⟨2, _⟩ => exact Fin.ext (by show (n.val * 512 + e.val) / 512 % 8192 = T.val; omega)
  | ⟨3, _⟩ => exact Fin.ext (by show (n.val * 512 + e.val) % 64 = c.val; omega)

end

end Cert.ReferenceIdeal.Read
-- ==== Proof.Fox.lean ====
/- The attention call's result: every entry is the reference's. -/
module

public import proofs.«01_k».proof.Proof.FoxGeom
public import proofs.«01_k».proof.Proof.FoxRef
public import proofs.«01_k».proof.Proof.KernelIdealTable
public import proofs.«01_k».proof.Proof.Pre

@[expose] public section

noncomputable section

set_option maxHeartbeats 4000000

namespace Cert.KernelIdeal.Gen

open Idealize.ShloMosaic Idealize.ShloMosaic.TcCoe Idealize.SL.Sem Idealize.ShloMosaic.ValueIdx Cert.Fox
open Idealize.ShloMosaic.Pipeline (Dat)
open scoped BigOperators

theorem lt_tok (q : Fin 16) (a : Fin 512) : q.val * 512 + a.val < 8192 := by omega
theorem lt_row (b : Fin 4) (T : Fin 8192) : b.val * 8192 + T.val < 32768 := by omega
theorem lt_col (g : Fin 2) (j : Fin 256) : 256 * g.val + j.val < 512 := by omega
theorem lt_head (g : Fin 2) (h : Fin 4) : 4 * g.val + h.val < 8 := by omega
theorem lt_j8 (j : Fin 128) : j.val < 256 := by omega
theorem lt_j9 (j : Fin 128) : 128 + j.val < 256 := by omega
theorem lt_d4 (e : Fin 256) : e.val / 64 < 4 := by omega
theorem lt_m64 (e : Fin 256) : e.val % 64 < 64 := by omega

variable (m : (ℓ : Loc nD τ sig) → Buf (Elt Ideal) ℓ) (c : Dev nD) (t : Fin (cfgM m).N)

/-- The sequence, the head group, and the query tile of a point. -/
abbrev pb : Fin 4 := pt m t 0
abbrev pg : Fin 2 := pt m t 1
abbrev pq : Fin 16 := pt m t 2

abbrev fQ (i j : ℕ) : ℝ := rd (a1 m c) (pb m t) ((pq m t).val * 512 + i) (256 * (pg m t).val + j) * (1 / 8 * L2)
abbrev fFq (i H : ℕ) : ℝ := L2 * rf (a4 m c) (pb m t) ((pq m t).val * 512 + i) H
abbrev fK (κ j : ℕ) : ℝ := rd (a2 m c) (pb m t) κ (256 * (pg m t).val + j)
abbrev fFk (κ H : ℕ) : ℝ := L2 * rf (a4 m c) (pb m t) κ H
abbrev fV (κ j : ℕ) : EReal := vv (a3 m c) (pb m t) κ (256 * (pg m t).val + j)

theorem in4 (hx : ∀ j, (a1 m c j : EReal) ≠ ⊥ ∧ (a1 m c j : EReal) ≠ ⊤) (i : Fin 512) (j : Fin 256) :
    (iblk m c 0 t : S512x256.Idx → EReal) (ix2 i j) = ((fQ m c t i.val j.val : ℝ) : EReal) := by
  obtain ⟨z, hz, z0, z1⟩ := blk0_at m c t (ix2 i j)
  have ez : z = ix2 ⟨(pb m t).val * 8192 + ((pq m t).val * 512 + i.val), lt_row (pb m t) ⟨_, lt_tok (pq m t) i⟩⟩ ⟨256 * (pg m t).val + j.val, lt_col (pg m t) j⟩ :=
    eq2 z _ (z0.trans (by show ((pb m t).val * 16 + (pq m t).val) * 512 + i.val = (pb m t).val * 8192 + ((pq m t).val * 512 + i.val); omega))
      (z1.trans (by show (pg m t).val * 256 + j.val = 256 * (pg m t).val + j.val; omega))
  rw [hz, ez]
  refine (v6_at m c _ (pb m t) ⟨_, lt_tok (pq m t) i⟩ rfl hx _).trans ?_
  unfold fQ
  rw [rd_of (a1 m c) (pb m t) _ _ (lt_tok (pq m t) i) (lt_col (pg m t) j)]

theorem in6 (hx : ∀ j, (a2 m c j : EReal) ≠ ⊥ ∧ (a2 m c j : EReal) ≠ ⊤) (κ : Fin 8192) (j : Fin 256) :
    (iblk m c 2 t : S8192x256.Idx → EReal) (ix2 κ j) = ((fK m c t κ.val j.val : ℝ) : EReal) := by
  obtain ⟨z, hz, z0, z1⟩ := blk2_at m c t (ix2 κ j)
  have ez : z = ix2 ⟨(pb m t).val * 8192 + κ.val, lt_row (pb m t) κ⟩ ⟨256 * (pg m t).val + j.val, lt_col (pg m t) j⟩ :=
    eq2 z _ z0 (z1.trans (by show (pg m t).val * 256 + j.val = 256 * (pg m t).val + j.val; omega))
  rw [hz, ez]
  refine (v8_at m c _ (pb m t) κ rfl hx _).trans ?_
  unfold fK
  rw [rd_of (a2 m c) (pb m t) _ _ κ.isLt (lt_col (pg m t) j)]

theorem in8 (l : Fin 1) (j : Fin 256) (κ : Fin 8192) :
    (iblk m c 4 t : S1x256x8192.Idx → EReal) (ix3 l j κ) = fV m c t κ.val j.val := by
  obtain ⟨z, hz, z0, z1, z2⟩ := blk4_at m c t (ix3 l j κ)
  have ez : z = ix3 (pb m t) ⟨256 * (pg m t).val + j.val, lt_col (pg m t) j⟩ κ :=
    eq3 z _ z0 (z1.trans (by show (pg m t).val * 256 + j.val = 256 * (pg m t).val + j.val; omega)) z2
  rw [hz, ez]
  refine (v10_at m c (pb m t) κ _).trans ?_
  unfold fV
  rw [vv_of (a3 m c) (pb m t) _ _ κ.isLt (lt_col (pg m t) j)]

theorem in5 (hx : ∀ j, (a4 m c j : EReal) ≠ ⊥ ∧ (a4 m c j : EReal) ≠ ⊤) (i : Fin 512) (j : Fin 128) (hj : j.val < 64) :
    (iblk m c 1 t : S512x128.Idx → EReal) (ix2 i j) = slq (fFq m c t i.val (j.val / 8)) (j.val % 8) := by
  obtain ⟨z, hz, z0, z1⟩ := blk1_at m c t (ix2 i j)
  have ez : z = ix2 ⟨(pb m t).val * 8192 + ((pq m t).val * 512 + i.val), lt_row (pb m t) ⟨_, lt_tok (pq m t) i⟩⟩ ⟨j.val, lt_j8 j⟩ :=
    eq2 z _ (z0.trans (by show ((pb m t).val * 16 + (pq m t).val) * 512 + i.val = (pb m t).val * 8192 + ((pq m t).val * 512 + i.val); omega)) z1
  rw [hz, ez]
  refine (v48_left m c _ (pb m t) ⟨_, lt_tok (pq m t) i⟩ rfl hx _ j rfl hj).trans ?_
  unfold fFq
  rw [rf_of (a4 m c) (pb m t) _ _ (lt_tok (pq m t) i) (lt_8 j hj)]

theorem in7 (hx : ∀ j, (a4 m c j : EReal) ≠ ⊥ ∧ (a4 m c j : EReal) ≠ ⊤) (κ : Fin 8192) (j : Fin 128) (hj : j.val < 64) :
    (iblk m c 3 t : S8192x128.Idx → EReal) (ix2 κ j) = slk (fFk m c t κ.val (j.val / 8)) (j.val % 8) := by
  obtain ⟨z, hz, z0, z1⟩ := blk3_at m c t (ix2 κ j)
  have ez : z = ix2 ⟨(pb m t).val * 8192 + κ.val, lt_row (pb m t) κ⟩ ⟨128 + j.val, lt_j9 j⟩ := eq2 z _ z0 z1
  rw [hz, ez]
  refine (v48_right m c _ (pb m t) κ rfl hx _ j rfl hj).trans ?_
  unfold fFk
  rw [rf_of (a4 m c) (pb m t) _ _ κ.isLt (lt_8 j hj)]

/-- What the arguments are taken to be. -/
structure Fine : Prop where
  hw : ∀ n : Fin 128, ((m (c, main_arg0) : IVec S128 32) (ix1 n)).toNat ≤ n.val % 16
  h1 : ∀ j, (a1 m c j : EReal) ≠ ⊥ ∧ (a1 m c j : EReal) ≠ ⊤
  h2 : ∀ j, (a2 m c j : EReal) ≠ ⊥ ∧ (a2 m c j : EReal) ≠ ⊤
  h4 : ∀ j, (a4 m c j : EReal) ≠ ⊥ ∧ (a4 m c j : EReal) ≠ ⊤

theorem inp (W : Fine m c) : Inp (fQ m c t) (fFq m c t) (fK m c t) (fFk m c t) (fV m c t)
    (iblk m c 0 t) (iblk m c 1 t) (iblk m c 2 t) (iblk m c 3 t) (iblk m c 4 t) where
  h4 := in4 m c t W.h1
  h5 := in5 m c t W.h4
  h6 := in6 m c t W.h2
  h7 := in7 m c t W.h4
  h8 := in8 m c t

/-- The scores in the kernel's scale are the reference's times one over the logarithm of two. -/
theorem scaled_at (h : Fin 4) (a κ : ℕ) :
    sc (fun a d => fQ m c t a (64 * h.val + d)) (fun a => fFq m c t a (4 * (pg m t).val + h.val)) (fun κ d => fK m c t κ (64 * h.val + d)) (fun κ => fFk m c t κ (4 * (pg m t).val + h.val)) κ a
      = L2 * rsc (a1 m c) (a2 m c) (a4 m c) (pb m t) (4 * (pg m t).val + h.val) ((pq m t).val * 512 + a) κ := by
  unfold sc rsc
  rw [add_sub_assoc, mul_add, Finset.mul_sum, mul_sub]
  refine congrArg₂ (· + ·) (Finset.sum_congr rfl fun d _ => ?_) rfl
  show rd (a2 m c) (pb m t) κ (256 * (pg m t).val + (64 * h.val + d.val)) * (rd (a1 m c) (pb m t) ((pq m t).val * 512 + a) (256 * (pg m t).val + (64 * h.val + d.val)) * (1 / 8 * L2)) = _
  rw [show 256 * (pg m t).val + (64 * h.val + d.val) = 64 * (4 * (pg m t).val + h.val) + d.val by omega]
  ring

/-- The reference's result from the launch's arguments. -/
def G : FVec Ideal S32768x512 .f32 :=
  Cert.ReferenceIdeal.Read.val_main_v52 (F := Ideal) (m (c, main_arg0)) (a1 m c) (a2 m c) (a3 m c) (a4 m c)

/-- The block a point leaves. -/
def gout (c : Dev nD) (t : Fin (cfgM m).N) : S512x256.Idx → EReal := fun y => G m c (oemb m t y)

theorem tword_eq : (tword (F := Ideal) (pt m t) (tbl0 m)).toNat
    = ((m (c, main_arg0) : IVec S128 32) (ix1 ⟨((pb m t).val * 2 + (pg m t).val) * 16 + (pq m t).val, by
        have := (pb m t).isLt; have := (pg m t).isLt; have := (pq m t).isLt; omega⟩)).toNat := by
  obtain rfl : c = 0 := Subsingleton.elim _ _
  have e : tbl0 m = m ((0 : Dev nD), main_arg0) := V_main_arg0 m 0
  rw [e]
  unfold tword
  refine congrArg (fun i => BitVec.toNat ((m ((0 : Dev nD), main_arg0) : IVec S128 32) i)) (funext fun a => Fin.ext ?_)
  match a with
  | ⟨0, _⟩ => exact off_val (pt m t)

theorem out_is (hT : TblOk m) (W : Fine m c) (p0 p1 p2 p3 : S512x512.Idx → Elt Ideal .bf16) :
    outBlk (F := Ideal) (grid0.coords t) (tword (F := Ideal) (grid0.coords t) (tbl0 m)) (hT (grid0.coords t)) (iblk m c 0 t) (iblk m c 1 t) (iblk m c 2 t) (iblk m c 3 t) (iblk m c 4 t) p0 p1 p2 p3 = gout m c t := by
  funext y
  have hq : (pq m t).val < 16 := (pq m t).isLt
  have hg : (pg m t).val < 2 := (pg m t).isLt
  have ha : (y 0).val < 512 := (y 0).isLt
  have he : (y 1).val < 256 := (y 1).isLt
  let a : Fin 512 := y 0
  let h : Fin 4 := ⟨(y 1).val / 64, lt_d4 (y 1)⟩
  let d : Fin 64 := ⟨(y 1).val % 64, lt_m64 (y 1)⟩
  have ey : y = ix2 a ⟨64 * h.val + d.val, lt_h h d⟩ := eq2 y _ rfl (by show (y 1).val = 64 * ((y 1).val / 64) + (y 1).val % 64; omega)
  have ez : oemb m t y = ix2 ⟨(pb m t).val * 8192 + ((pq m t).val * 512 + a.val), lt_row (pb m t) ⟨_, lt_tok (pq m t) a⟩⟩ ⟨256 * (pg m t).val + (y 1).val, lt_col (pg m t) (y 1)⟩ :=
    eq2 _ _ ((oemb_0 m t y).trans (by show ((pb m t).val * 16 + (pq m t).val) * 512 + (y 0).val = (pb m t).val * 8192 + ((pq m t).val * 512 + (y 0).val); omega))
      ((oemb_1 m t y).trans (by show (pg m t).val * 256 + (y 1).val = 256 * (pg m t).val + (y 1).val; omega))
  obtain ⟨M, hM⟩ := Cert.ReferenceIdeal.Read.v52_at (m (c, main_arg0)) (a1 m c) (a2 m c) (a3 m c) (a4 m c) W.hw W.h1 W.h2 W.h4
    ⟨(pb m t).val * 8192 + ((pq m t).val * 512 + a.val), lt_row (pb m t) ⟨_, lt_tok (pq m t) a⟩⟩ ⟨256 * (pg m t).val + (y 1).val, lt_col (pg m t) (y 1)⟩
    (pb m t) ⟨4 * (pg m t).val + h.val, lt_head (pg m t) h⟩ ⟨(pq m t).val * 512 + a.val, lt_tok (pq m t) a⟩ d rfl
    (by show 256 * (pg m t).val + (y 1).val = 64 * (4 * (pg m t).val + (y 1).val / 64) + (y 1).val % 64; omega)
  have hlo : lo (m (c, main_arg0)) (pb m t) ⟨4 * (pg m t).val + h.val, lt_head (pg m t) h⟩ ⟨(pq m t).val * 512 + a.val, lt_tok (pq m t) a⟩
      = (tword (F := Ideal) (pt m t) (tbl0 m)).toNat := by
    rw [tword_eq m c t]
    unfold lo
    refine congrArg (fun i => BitVec.toNat ((m (c, main_arg0) : IVec S128 32) (ix1 i))) (Fin.ext ?_)
    show ((pb m t).val * 2 + (4 * (pg m t).val + (y 1).val / 64) / 4) * 16 + ((pq m t).val * 512 + (y 0).val) / 512 = ((pb m t).val * 2 + (pg m t).val) * 16 + (pq m t).val
    omega
  have hle : (tword (F := Ideal) (pt m t) (tbl0 m)).toNat ≤ (pq m t).val := by
    rw [← hlo]
    refine (Cert.ReferenceIdeal.Read.lo_le (m (c, main_arg0)) W.hw _ _ _).trans ?_
    show ((pq m t).val * 512 + (y 0).val) / 512 ≤ (pq m t).val
    omega
  have hv : tword (F := Ideal) (pt m t) (tbl0 m) = BitVec.ofNat 32 (⟨(tword (F := Ideal) (pt m t) (tbl0 m)).toNat, by omega⟩ : Fin 16).val := by
    show _ = BitVec.ofNat 32 (tword (F := Ideal) (pt m t) (tbl0 m)).toNat
    rw [BitVec.ofNat_toNat, BitVec.setWidth_eq]
  have hk := Inp.out (inp m c t W) (pt m t) ⟨(tword (F := Ideal) (pt m t) (tbl0 m)).toNat, by omega⟩ hle _ hv (hT (pt m t)) p0 p1 p2 p3 a h d
    (rsc (a1 m c) (a2 m c) (a4 m c) (pb m t) (4 * (pg m t).val + h.val) ((pq m t).val * 512 + a.val)) (fun κ => scaled_at m c t h a.val κ) M
  rw [ey]
  refine hk.trans ?_
  rw [← ey]
  show _ = G m c (oemb m t y)
  rw [ez]
  refine Eq.trans ?_ hM.symm
  rw [hlo]
  refine congrArg (fun V => wsum (rsc (a1 m c) (a2 m c) (a4 m c) (pb m t) (4 * (pg m t).val + h.val) ((pq m t).val * 512 + a.val)) M V (tword (F := Ideal) (pt m t) (tbl0 m)).toNat ((pq m t).val * 512 + a.val)) (funext fun κ => ?_)
  show vv (a3 m c) (pb m t) κ (256 * (pg m t).val + (64 * h.val + d.val)) = vv (a3 m c) (pb m t) κ (64 * (4 * (pg m t).val + h.val) + d.val)
  rw [show 256 * (pg m t).val + (64 * h.val + d.val) = 64 * (4 * (pg m t).val + h.val) + d.val by omega]

/-- The array the call leaves is the reference's. -/
theorem arr_is : (dats m (gout m) 0 c).arrAt 5 (cfgM m).N = G m c := by
  refine (dats m (gout m) 0 c).arrAt_eq_of_emb 5 _ (fun t hf y => ?_) (fun i => cover m i)
  show (dats m (gout m) 0 c).after 5 t y = G m c (oemb m t y)
  rw [after0_5]
  rfl

set_option backward.isDefEq.respectTransparency.types false in
/-- The run leaves the reference's result, its arguments as they were. -/
theorem run_value (ρ : Dev nD → PrngReg) (hT : TblOk m) (W : ∀ c, Fine m c) :
    θ_run defs (onTc (τ := τ) (main (F := Ideal))) ⟨m, fun _ => 0, ρ⟩ (fun r => ∀ c : Dev nD,
      r.2.mem ((c.tc : Thread nD τ).loc main_v49) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (arr_is m c),
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c)⟩)
    (run_named m ρ (gout m) hT (fun c t p0 p1 p2 p3 => out_is m c t hT (W c) p0 p1 p2 p3))

end Cert.KernelIdeal.Gen

end
-- ==== Proof.lean ====
/- The claims about the attention call and the output call: their frames at both readings, the references' frames, the
   named mask constant, and the two results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KernelTable
public import proofs.«01_k».proof.Proof.KernelIdealTable
public import proofs.«01_k».proof.Proof.Out
public import proofs.«01_k».proof.Proof.Fox
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Adequacy
public import Idealize.ShloMosaic.Init

@[expose] public section

noncomputable section

namespace Cert.Proof

open Idealize.ShloMosaic Idealize.SL.Sem

/-- The precondition keeps the table's words within their query tiles. -/
theorem tblOk_kernel (m : (ℓ : Loc Cert.Kernel.nD Cert.Kernel.τ Cert.Kernel.sig) → Buf (Elt Bits) ℓ) (h : Cert.Pre_Kernel m) : Cert.Kernel.Gen.TblOk m :=
  Cert.Kernel.Gen.tblOk_of m fun n => by
    have e : Cert.Kernel.Gen.tbl0 m = m (((0 : Dev Cert.Kernel.nD).tc : Thread Cert.Kernel.nD Cert.Kernel.τ).loc Cert.Kernel.main_arg0) := Cert.Kernel.Gen.V_main_arg0 m 0
    rw [e]
    exact Cert.Pre.word_le _ _ _ _ _ (h 0) n

/-- The precondition keeps the table's words within their query tiles. -/
theorem tblOk_kernelIdeal (m : (ℓ : Loc Cert.KernelIdeal.nD Cert.KernelIdeal.τ Cert.KernelIdeal.sig) → Buf (Elt Ideal) ℓ) (h : Cert.Pre_KernelIdeal m) : Cert.KernelIdeal.Gen.TblOk m :=
  Cert.KernelIdeal.Gen.tblOk_of m fun n => by
    have e : Cert.KernelIdeal.Gen.tbl0 m = m (((0 : Dev Cert.KernelIdeal.nD).tc : Thread Cert.KernelIdeal.nD Cert.KernelIdeal.τ).loc Cert.KernelIdeal.main_arg0) := Cert.KernelIdeal.Gen.V_main_arg0 m 0
    rw [e]
    exact Cert.Pre.word_le _ _ _ _ _ (h 0) n

/-- The precondition keeps the table's words within their query tiles. -/
theorem tblOk_kernelIdealFinite (m : (ℓ : Loc Cert.KernelIdeal.nD Cert.KernelIdeal.τ Cert.KernelIdeal.sig) → Buf (Elt Ideal) ℓ) (h : Cert.Pre_KernelIdeal_in_range_finite m) : Cert.KernelIdeal.Gen.TblOk m :=
  Cert.KernelIdeal.Gen.tblOk_of m fun n => by
    have e : Cert.KernelIdeal.Gen.tbl0 m = m (((0 : Dev Cert.KernelIdeal.nD).tc : Thread Cert.KernelIdeal.nD Cert.KernelIdeal.τ).loc Cert.KernelIdeal.main_arg0) := Cert.KernelIdeal.Gen.V_main_arg0 m 0
    rw [e]
    exact Cert.Pre.word_le' _ _ _ _ _ (h 0) n

/-- The bit program runs, keeps its arguments, and ends with every counter at zero. -/
theorem frame_kernel : Cert.quiescent_Kernel := fun m ρ h => Cert.Kernel.Gen.frame_run m ρ (tblOk_kernel m h)

/-- So does the idealized program. -/
theorem frame_kernelIdeal : Cert.quiescent_KernelIdeal := fun m ρ h => Cert.KernelIdeal.Gen.frame_run m ρ (tblOk_kernelIdeal m h)

/-- And from finite inputs. -/
theorem frame_kernelIdealFinite : Cert.quiescent_KernelIdeal_pre_in_range_finite := fun m ρ h => Cert.KernelIdeal.Gen.frame_run m ρ (tblOk_kernelIdealFinite m h)

/-- The reference is host operations only: it keeps its arguments and has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- And from finite inputs. -/
theorem frame_referenceFinite : Cert.quiescent_ReferenceIdeal_pre_in_range_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The precondition as the attention's proof reads it. -/
theorem fine (m : (ℓ : Loc Cert.KernelIdeal.nD Cert.KernelIdeal.τ Cert.KernelIdeal.sig) → Buf (Elt Ideal) ℓ) (h : Cert.Pre_KernelIdeal_in_range_finite m) (c : Dev Cert.KernelIdeal.nD) : Cert.KernelIdeal.Gen.Fine m c where
  hw := fun n => by
    have e : Cert.Pre.tix n = ValueIdx.ix1 n := funext fun a => match a with
      | ⟨0, _⟩ => rfl
    have := Cert.Pre.word_le' _ _ _ _ _ (h c) n
    rw [e] at this
    exact this
  h1 := (Cert.Pre.finite _ _ _ _ _ (h c)).1
  h2 := (Cert.Pre.finite _ _ _ _ _ (h c)).2.1
  h4 := (Cert.Pre.finite _ _ _ _ _ (h c)).2.2

/-- The attention call leaves the reference's result. -/
theorem fox_value : Cert.algebraic_KernelIdeal_ReferenceIdeal_pre_in_range_finite := fun m g m' g' hp h =>
  ⟨fun c => Cert.KernelIdeal.Gen.G m c, Cert.KernelIdeal.Gen.run_value m g (tblOk_kernelIdealFinite m hp) (fine m hp),
    (θ_run Cert.ReferenceIdeal.defs _ _).mono (fun r hr c => ⟨(hr c).1.trans (by
      obtain ⟨h0, h1, h2, h3, h4⟩ := h c
      rw [Cert.ReferenceIdeal.Read.val_main_v52_eq, h0, h1, h2, h3, h4]
      rfl), (hr c).2⟩)
      (Cert.ReferenceIdeal.Value.run (F := Ideal) m' g')⟩

/-- The mask constant is named as minus infinity. -/
theorem mask_named : Cert.preserves_Kernel_KernelIdeal := IdealRules.named_const.statement Cert.KernelIdeal.κ "mask" .f32 0xF149F2CA#32 ⊥ rfl

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The output call leaves the reference's result. -/
theorem out_value : Cert.algebraic_Kernel2Ideal_Reference2Ideal := fun m g m' g' _ h =>
  ⟨fun c => (Cert.Kernel2Ideal.Gen.dats m 0 c).arrAt 8 Cert.Kernel2Ideal.cfg0.N, Cert.Kernel2Ideal.Value.run_blocks m g,
    (θ_run Cert.Reference2Ideal.defs _ _).mono (fun r hr c => ⟨(hr c).1.trans (by
      obtain ⟨h0, h1, h2, h3, h4, h5, h6, h7⟩ := h c
      rw [Cert.Reference2Ideal.Read.val_main_v37_eq, h0, h1, h2, h3, h4, h5, h6, h7]
      refine Eq.trans ?_ (Cert.Kernel2Ideal.Value.out_arr m c).symm
      funext i
      exact (congrArg _ (Cert.Reference2Ideal.Read.ext2 i (ValueIdx.ix2 (i 0) (i 1)) rfl rfl)).trans
        (Cert.Reference2Ideal.Read.v37_at _ _ _ _ _ _ _ _ (i 0) (i 1))), (hr c).2⟩)
      (Cert.Reference2Ideal.Value.run (F := Ideal) m' g')⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Pre_in_range.Gen.facts, Cert.Pre_in_range_finite.Gen.facts,
  frame_kernel, frame_kernelIdeal, frame_kernelIdealFinite, frame_reference, frame_referenceFinite, frame_kernel2, frame_kernel2Ideal, frame_reference2,
  mask_named, fox_value, trivial, out_value⟩

end Cert.Proof

end
